-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gates_KernelIdeal [hPre_finite_gates_KernelIdeal : Cert.Pre_finite_gates_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_gates_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gates_ReferenceIdeal [hPre_finite_gates_ReferenceIdeal : Cert.Pre_finite_gates_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_gates_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_gates_KernelIdeal [hKernelIdeal : Cert.KernelIdeal.Facts] [hPre_finite_gates_KernelIdeal : Cert.Pre_finite_gates_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gates_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_gates_ReferenceIdeal [hReferenceIdeal : Cert.ReferenceIdeal.Facts] [hPre_finite_gates_ReferenceIdeal : Cert.Pre_finite_gates_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_gates_KernelIdeal [hKernelIdeal : Cert.KernelIdeal.Facts] [hReferenceIdeal : Cert.ReferenceIdeal.Facts] [hPre_finite_gates_KernelIdeal : Cert.Pre_finite_gates_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gates_KernelIdeal m →
    (∀ c : Dev Cert.KernelIdeal.nD,
      m ((c.tc : Thread Cert.KernelIdeal.nD Cert.KernelIdeal.τ).loc Cert.KernelIdeal.main_arg0) = Layout.blockN ⟨2, ![128, 512]⟩ ⟨2, ![512, 512]⟩ (Layout.meshBlock [2, 2, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2]⟩ ⟨2, ![512, 8]⟩ (Layout.meshBlock [2, 2, 4] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![8, 512, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![8, 1024, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![128, 512]⟩ ⟨2, ![512, 512]⟩ (Layout.meshBlock [2, 2, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_gates_KernelIdeal : Cert.Pre_finite_gates_KernelIdeal.Facts) (hPre_finite_gates_ReferenceIdeal : Cert.Pre_finite_gates_ReferenceIdeal.Facts),
    quiescent_Kernel (hKernel := hKernel)
    ∧ quiescent_KernelIdeal (hKernelIdeal := hKernelIdeal)
    ∧ quiescent_KernelIdeal_pre_finite_gates_KernelIdeal (hKernelIdeal := hKernelIdeal) (hPre_finite_gates_KernelIdeal := hPre_finite_gates_KernelIdeal)
    ∧ quiescent_ReferenceIdeal (hReferenceIdeal := hReferenceIdeal)
    ∧ quiescent_ReferenceIdeal_pre_finite_gates_ReferenceIdeal (hReferenceIdeal := hReferenceIdeal) (hPre_finite_gates_ReferenceIdeal := hPre_finite_gates_ReferenceIdeal)
    ∧ preserves_Kernel_KernelIdeal
    ∧ algebraic_KernelIdeal_ReferenceIdeal_pre_finite_gates_KernelIdeal (hKernelIdeal := hKernelIdeal) (hReferenceIdeal := hReferenceIdeal) (hPre_finite_gates_KernelIdeal := hPre_finite_gates_KernelIdeal)
-- ==== Pre_finite_gates_KernelIdeal.lean ====
abbrev S128x512 : Shape := ⟨2, ![128, 512]⟩
abbrev S512x2 : Shape := ⟨2, ![512, 2]⟩
abbrev S2x512x1024 : Shape := ⟨3, ![2, 512, 1024]⟩
abbrev S2x1024x512 : Shape := ⟨3, ![2, 1024, 512]⟩
abbrev S_ : Shape := ⟨0, ![]⟩

class Facts : Prop where
  bcast_S_S128x512 : S_.BroadcastsInDim S128x512 (![] : Fin 0 → Fin S128x512.rank)
  bcast_S_S512x2 : S_.BroadcastsInDim S512x2 (![] : Fin 0 → Fin S512x2.rank)

variable [Facts]

def fn {F : FTy → Type} [FloatOps F] (main_arg0 : FVec F S128x512 .f32) (main_arg1 : FVec F S512x2 .f32) (main_arg2 : FVec F S2x512x1024 .f32) (main_arg3 : FVec F S2x1024x512 .f32) : IVec S128x512 1 × IVec S512x2 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_v3 : FVec F S512x2 .f32 := Host.absf main_arg1
  let main_cst_0 : FVec F S_ .f32 := constant S_ .f32 0x7F800000#32
  let main_v4 : FVec F S512x2 .f32 := broadcastInDim S512x2 ![] bcast_S_S512x2 main_cst_0
  let main_v5 : IVec S512x2 1 := cmpf .olt main_v3 main_v4
  (main_v2, main_v5)
-- ==== Pre_finite_gates_ReferenceIdeal.lean ====
abbrev S512x512 : Shape := ⟨2, ![512, 512]⟩
abbrev S512x8 : Shape := ⟨2, ![512, 8]⟩
abbrev S8x512x1024 : Shape := ⟨3, ![8, 512, 1024]⟩
abbrev S8x1024x512 : Shape := ⟨3, ![8, 1024, 512]⟩
abbrev S_ : Shape := ⟨0, ![]⟩

class Facts : Prop where
  bcast_S_S512x512 : S_.BroadcastsInDim S512x512 (![] : Fin 0 → Fin S512x512.rank)
  bcast_S_S512x8 : S_.BroadcastsInDim S512x8 (![] : Fin 0 → Fin S512x8.rank)

variable [Facts]

def fn {F : FTy → Type} [FloatOps F] (main_arg0 : FVec F S512x512 .f32) (main_arg1 : FVec F S512x8 .f32) (main_arg2 : FVec F S8x512x1024 .f32) (main_arg3 : FVec F S8x1024x512 .f32) : IVec S512x512 1 × IVec S512x8 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_v3 : FVec F S512x8 .f32 := Host.absf main_arg1
  let main_cst_0 : FVec F S_ .f32 := constant S_ .f32 0x7F800000#32
  let main_v4 : FVec F S512x8 .f32 := broadcastInDim S512x8 ![] bcast_S_S512x8 main_cst_0
  let main_v5 : IVec S512x8 1 := cmpf .olt main_v3 main_v4
  (main_v2, main_v5)
-- ==== Kernel.lean ====
abbrev S128x512 : Shape := ⟨2, ![128, 512]⟩
abbrev S512x2 : Shape := ⟨2, ![512, 2]⟩
abbrev S2x512x1024 : Shape := ⟨3, ![2, 512, 1024]⟩
abbrev S2x1024x512 : Shape := ⟨3, ![2, 1024, 512]⟩
abbrev S4x128x512 : Shape := ⟨3, ![4, 128, 512]⟩
abbrev S4x2x512 : Shape := ⟨3, ![4, 2, 512]⟩
abbrev S4x8x128 : Shape := ⟨3, ![4, 8, 128]⟩
abbrev S4 : Shape := ⟨1, ![4]⟩
abbrev S1x128x512 : Shape := ⟨3, ![1, 128, 512]⟩
abbrev S_ : Shape := ⟨0, ![]⟩
abbrev S2x512 : Shape := ⟨2, ![2, 512]⟩
abbrev S1x2x512 : Shape := ⟨3, ![1, 2, 512]⟩
abbrev S1 : Shape := ⟨1, ![1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S128x1024 : Shape := ⟨2, ![128, 1024]⟩
abbrev S8x512 : Shape := ⟨2, ![8, 512]⟩
abbrev S128x8 : Shape := ⟨2, ![128, 8]⟩
abbrev S128 : Shape := ⟨1, ![128]⟩
abbrev S128x1 : Shape := ⟨2, ![128, 1]⟩
abbrev S8x128 : Shape := ⟨2, ![8, 128]⟩
abbrev S1x8x128 : Shape := ⟨3, ![1, 8, 128]⟩

abbrev nBuf : Space → Nat
  | .hbm => 5
  | .vmem => 10
  | .smem => 0
  | _ => 0

abbrev bufTy : (tb : Table) → Fin (tcTables nBuf tb) → BufTy
  | .hbm, ⟨0, _⟩ => ⟨S128x512, .f32⟩
  | .hbm, ⟨1, _⟩ => ⟨S512x2, .f32⟩
  | .hbm, ⟨2, _⟩ => ⟨S2x512x1024, .f32⟩
  | .hbm, ⟨3, _⟩ => ⟨S2x1024x512, .f32⟩
  | .hbm, ⟨4, _⟩ => ⟨S128x512, .f32⟩
  | .local _ .vmem, ⟨0, _⟩ => ⟨S128x512, .f32⟩
  | .local _ .vmem, ⟨1, _⟩ => ⟨S512x2, .f32⟩
  | .local _ .vmem, ⟨2, _⟩ => ⟨S2x512x1024, .f32⟩
  | .local _ .vmem, ⟨3, _⟩ => ⟨S2x1024x512, .f32⟩
  | .local _ .vmem, ⟨4, _⟩ => ⟨S128x512, .f32⟩
  | .local _ .vmem, ⟨5, _⟩ => ⟨S4x128x512, .bf16⟩
  | .local _ .vmem, ⟨6, _⟩ => ⟨S4x2x512, .f32⟩
  | .local _ .vmem, ⟨7, _⟩ => ⟨S4x8x128, .f32⟩
  | .local _ .vmem, ⟨8, _⟩ => ⟨S4x128x512, .bf16⟩
  | .local _ .vmem, ⟨9, _⟩ => ⟨S4x128x512, .bf16⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : Index := Scalar.indexCast v8
  let c0 : Index := 0#32
  let c0_2 : Index := 0#32
  ![v10.toNat, 0, 0]
def k0_dev1 (d0 : Dev nD) : Nat :=
  let c0_i32_11 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10 : BitVec 32 := 8#32
  let v26 : BitVec 32 := Scalar.muli v2 c8_i32_10
  let v27 : BitVec 32 := Scalar.addi c0_i32_11 v26
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_12 : BitVec 32 := 4#32
  let v28 : BitVec 32 := Scalar.muli v5 c4_i32_12
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v15 : BitVec 32 := Scalar.addi v8 c1_i32_3
  let c4_i32_4 : BitVec 32 := 4#32
  let c0_i32 : BitVec 32 := 0#32
  let v16 : BitVec 1 := Scalar.cmpi .eq c4_i32_4 c0_i32
  let c1_i32_5 : BitVec 32 := 1#32
  let v17 : BitVec 32 := Scalar.select v16 c1_i32_5 c4_i32_4
  let v18 : BitVec 32 := Scalar.remsi v15 v17
  let c0_i32_7 : BitVec 32 := 0#32
  let v20 : BitVec 1 := Scalar.cmpi .slt v18 c0_i32_7
  let c0_i32_8 : BitVec 32 := 0#32
  let v21 : BitVec 1 := Scalar.cmpi .slt v17 c0_i32_8
  let v22 : BitVec 1 := Scalar.xori v20 v21
  let c0_i32_6 : BitVec 32 := 0#32
  let v19 : BitVec 1 := Scalar.cmpi .ne v18 c0_i32_6
  let v23 : BitVec 1 := Scalar.andi v22 v19
  let v24 : BitVec 32 := Scalar.addi v18 v17
  let v25 : BitVec 32 := Scalar.select v23 v24 v18
  let c1_i32_13 : BitVec 32 := 1#32
  let v30 : BitVec 32 := Scalar.muli v25 c1_i32_13
  let v31 : BitVec 32 := Scalar.addi v29 v30
  v31.toNat
def k0_dev2 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v43 : BitVec 32 := Scalar.muli v2 c8_i32_22
  let v44 : BitVec 32 := Scalar.addi c0_i32_23 v43
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v45 : BitVec 32 := Scalar.muli v5 c4_i32_24
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v32 : BitVec 32 := Scalar.addi v8 c2_i32_14
  let c4_i32_15 : BitVec 32 := 4#32
  let c0_i32_16 : BitVec 32 := 0#32
  let v33 : BitVec 1 := Scalar.cmpi .eq c4_i32_15 c0_i32_16
  let c1_i32_17 : BitVec 32 := 1#32
  let v34 : BitVec 32 := Scalar.select v33 c1_i32_17 c4_i32_15
  let v35 : BitVec 32 := Scalar.remsi v32 v34
  let c0_i32_19 : BitVec 32 := 0#32
  let v37 : BitVec 1 := Scalar.cmpi .slt v35 c0_i32_19
  let c0_i32_20 : BitVec 32 := 0#32
  let v38 : BitVec 1 := Scalar.cmpi .slt v34 c0_i32_20
  let v39 : BitVec 1 := Scalar.xori v37 v38
  let c0_i32_18 : BitVec 32 := 0#32
  let v36 : BitVec 1 := Scalar.cmpi .ne v35 c0_i32_18
  let v40 : BitVec 1 := Scalar.andi v39 v36
  let v41 : BitVec 32 := Scalar.addi v35 v34
  let v42 : BitVec 32 := Scalar.select v40 v41 v35
  let c1_i32_25 : BitVec 32 := 1#32
  let v47 : BitVec 32 := Scalar.muli v42 c1_i32_25
  let v48 : BitVec 32 := Scalar.addi v46 v47
  v48.toNat
def k0_dev3 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_33 : BitVec 32 := 8#32
  let v60 : BitVec 32 := Scalar.muli v2 c8_i32_33
  let v61 : BitVec 32 := Scalar.addi c0_i32_34 v60
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v62 : BitVec 32 := Scalar.muli v5 c4_i32_35
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v49 : BitVec 32 := Scalar.addi v8 c3_i32
  let c4_i32_26 : BitVec 32 := 4#32
  let c0_i32_27 : BitVec 32 := 0#32
  let v50 : BitVec 1 := Scalar.cmpi .eq c4_i32_26 c0_i32_27
  let c1_i32_28 : BitVec 32 := 1#32
  let v51 : BitVec 32 := Scalar.select v50 c1_i32_28 c4_i32_26
  let v52 : BitVec 32 := Scalar.remsi v49 v51
  let c0_i32_30 : BitVec 32 := 0#32
  let v54 : BitVec 1 := Scalar.cmpi .slt v52 c0_i32_30
  let c0_i32_31 : BitVec 32 := 0#32
  let v55 : BitVec 1 := Scalar.cmpi .slt v51 c0_i32_31
  let v56 : BitVec 1 := Scalar.xori v54 v55
  let c0_i32_29 : BitVec 32 := 0#32
  let v53 : BitVec 1 := Scalar.cmpi .ne v52 c0_i32_29
  let v57 : BitVec 1 := Scalar.andi v56 v53
  let v58 : BitVec 32 := Scalar.addi v52 v51
  let v59 : BitVec 32 := Scalar.select v57 v58 v52
  let c1_i32_36 : BitVec 32 := 1#32
  let v64 : BitVec 32 := Scalar.muli v59 c1_i32_36
  let v65 : BitVec 32 := Scalar.addi v63 v64
  v65.toNat
def k0_off2 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v78 : Index := Scalar.indexCast v8
  let c0_44 : Index := 0#32
  let c0_45 : Index := 0#32
  ![v78.toNat, 0, 0]
def k0_off3 (d0 : Dev nD) (c1_i32_46 : BitVec 32) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v82 : BitVec 32 := Scalar.addi v8 c1_i32_46
  let c4_i32_47 : BitVec 32 := 4#32
  let c0_i32_48 : BitVec 32 := 0#32
  let v83 : BitVec 1 := Scalar.cmpi .eq c4_i32_47 c0_i32_48
  let c1_i32_49 : BitVec 32 := 1#32
  let v84 : BitVec 32 := Scalar.select v83 c1_i32_49 c4_i32_47
  let v85 : BitVec 32 := Scalar.remsi v82 v84
  let c0_i32_51 : BitVec 32 := 0#32
  let v87 : BitVec 1 := Scalar.cmpi .slt v85 c0_i32_51
  let c0_i32_52 : BitVec 32 := 0#32
  let v88 : BitVec 1 := Scalar.cmpi .slt v84 c0_i32_52
  let v89 : BitVec 1 := Scalar.xori v87 v88
  let c0_i32_50 : BitVec 32 := 0#32
  let v86 : BitVec 1 := Scalar.cmpi .ne v85 c0_i32_50
  let v90 : BitVec 1 := Scalar.andi v89 v86
  let v91 : BitVec 32 := Scalar.addi v85 v84
  let v92 : BitVec 32 := Scalar.select v90 v91 v85
  ![v92.toNat]
def k0_off4 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![v8.toNat]
def k0_off5 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_64 : BitVec 32 := 0#32
  let c0_i32_65 : BitVec 32 := 0#32
  ![v8.toNat, 0, 0]
def k0_dev4 (d0 : Dev nD) : Nat :=
  let c0_i32_61 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_60 : BitVec 32 := 8#32
  let v104 : BitVec 32 := Scalar.muli v2 c8_i32_60
  let v105 : BitVec 32 := Scalar.addi c0_i32_61 v104
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_62 : BitVec 32 := 4#32
  let v106 : BitVec 32 := Scalar.muli v5 c4_i32_62
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v93 : BitVec 32 := Scalar.addi v8 c1_i32_53
  let c4_i32_54 : BitVec 32 := 4#32
  let c0_i32_55 : BitVec 32 := 0#32
  let v94 : BitVec 1 := Scalar.cmpi .eq c4_i32_54 c0_i32_55
  let c1_i32_56 : BitVec 32 := 1#32
  let v95 : BitVec 32 := Scalar.select v94 c1_i32_56 c4_i32_54
  let v96 : BitVec 32 := Scalar.remsi v93 v95
  let c0_i32_58 : BitVec 32 := 0#32
  let v98 : BitVec 1 := Scalar.cmpi .slt v96 c0_i32_58
  let c0_i32_59 : BitVec 32 := 0#32
  let v99 : BitVec 1 := Scalar.cmpi .slt v95 c0_i32_59
  let v100 : BitVec 1 := Scalar.xori v98 v99
  let c0_i32_57 : BitVec 32 := 0#32
  let v97 : BitVec 1 := Scalar.cmpi .ne v96 c0_i32_57
  let v101 : BitVec 1 := Scalar.andi v100 v97
  let v102 : BitVec 32 := Scalar.addi v96 v95
  let v103 : BitVec 32 := Scalar.select v101 v102 v96
  let c1_i32_63 : BitVec 32 := 1#32
  let v108 : BitVec 32 := Scalar.muli v103 c1_i32_63
  let v109 : BitVec 32 := Scalar.addi v107 v108
  v109.toNat
def k0_off6 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_79 : BitVec 32 := 0#32
  let c0_i32_80 : BitVec 32 := 0#32
  ![v8.toNat, 0, 0]
def k0_dev5 (d0 : Dev nD) : Nat :=
  let c0_i32_76 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_75 : BitVec 32 := 8#32
  let v129 : BitVec 32 := Scalar.muli v2 c8_i32_75
  let v130 : BitVec 32 := Scalar.addi c0_i32_76 v129
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_77 : BitVec 32 := 4#32
  let v131 : BitVec 32 := Scalar.muli v5 c4_i32_77
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_68 : BitVec 32 := 1#32
  let v118 : BitVec 32 := Scalar.addi v8 c1_i32_68
  let c4_i32_69 : BitVec 32 := 4#32
  let c0_i32_70 : BitVec 32 := 0#32
  let v119 : BitVec 1 := Scalar.cmpi .eq c4_i32_69 c0_i32_70
  let c1_i32_71 : BitVec 32 := 1#32
  let v120 : BitVec 32 := Scalar.select v119 c1_i32_71 c4_i32_69
  let v121 : BitVec 32 := Scalar.remsi v118 v120
  let c0_i32_73 : BitVec 32 := 0#32
  let v123 : BitVec 1 := Scalar.cmpi .slt v121 c0_i32_73
  let c0_i32_74 : BitVec 32 := 0#32
  let v124 : BitVec 1 := Scalar.cmpi .slt v120 c0_i32_74
  let v125 : BitVec 1 := Scalar.xori v123 v124
  let c0_i32_72 : BitVec 32 := 0#32
  let v122 : BitVec 1 := Scalar.cmpi .ne v121 c0_i32_72
  let v126 : BitVec 1 := Scalar.andi v125 v122
  let v127 : BitVec 32 := Scalar.addi v121 v120
  let v128 : BitVec 32 := Scalar.select v126 v127 v121
  let c1_i32_78 : BitVec 32 := 1#32
  let v133 : BitVec 32 := Scalar.muli v128 c1_i32_78
  let v134 : BitVec 32 := Scalar.addi v132 v133
  v134.toNat
def k0_dev6 (d0 : Dev nD) : Nat :=
  let c0_i32_98 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_97 : BitVec 32 := 8#32
  let v165 : BitVec 32 := Scalar.muli v2 c8_i32_97
  let v166 : BitVec 32 := Scalar.addi c0_i32_98 v165
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_99 : BitVec 32 := 4#32
  let v167 : BitVec 32 := Scalar.muli v5 c4_i32_99
  let v168 : BitVec 32 := Scalar.addi v166 v167
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_90 : BitVec 32 := 2#32
  let v154 : BitVec 32 := Scalar.addi v8 c2_i32_90
  let c4_i32_91 : BitVec 32 := 4#32
  let c0_i32_92 : BitVec 32 := 0#32
  let v155 : BitVec 1 := Scalar.cmpi .eq c4_i32_91 c0_i32_92
  let c1_i32_93 : BitVec 32 := 1#32
  let v156 : BitVec 32 := Scalar.select v155 c1_i32_93 c4_i32_91
  let v157 : BitVec 32 := Scalar.remsi v154 v156
  let c0_i32_95 : BitVec 32 := 0#32
  let v159 : BitVec 1 := Scalar.cmpi .slt v157 c0_i32_95
  let c0_i32_96 : BitVec 32 := 0#32
  let v160 : BitVec 1 := Scalar.cmpi .slt v156 c0_i32_96
  let v161 : BitVec 1 := Scalar.xori v159 v160
  let c0_i32_94 : BitVec 32 := 0#32
  let v158 : BitVec 1 := Scalar.cmpi .ne v157 c0_i32_94
  let v162 : BitVec 1 := Scalar.andi v161 v158
  let v163 : BitVec 32 := Scalar.addi v157 v156
  let v164 : BitVec 32 := Scalar.select v162 v163 v157
  let c1_i32_100 : BitVec 32 := 1#32
  let v169 : BitVec 32 := Scalar.muli v164 c1_i32_100
  let v170 : BitVec 32 := Scalar.addi v168 v169
  v170.toNat
def k0_dev7 (d0 : Dev nD) : Nat :=
  let c0_i32_113 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_112 : BitVec 32 := 8#32
  let v190 : BitVec 32 := Scalar.muli v2 c8_i32_112
  let v191 : BitVec 32 := Scalar.addi c0_i32_113 v190
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_114 : BitVec 32 := 4#32
  let v192 : BitVec 32 := Scalar.muli v5 c4_i32_114
  let v193 : BitVec 32 := Scalar.addi v191 v192
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_105 : BitVec 32 := 2#32
  let v179 : BitVec 32 := Scalar.addi v8 c2_i32_105
  let c4_i32_106 : BitVec 32 := 4#32
  let c0_i32_107 : BitVec 32 := 0#32
  let v180 : BitVec 1 := Scalar.cmpi .eq c4_i32_106 c0_i32_107
  let c1_i32_108 : BitVec 32 := 1#32
  let v181 : BitVec 32 := Scalar.select v180 c1_i32_108 c4_i32_106
  let v182 : BitVec 32 := Scalar.remsi v179 v181
  let c0_i32_110 : BitVec 32 := 0#32
  let v184 : BitVec 1 := Scalar.cmpi .slt v182 c0_i32_110
  let c0_i32_111 : BitVec 32 := 0#32
  let v185 : BitVec 1 := Scalar.cmpi .slt v181 c0_i32_111
  let v186 : BitVec 1 := Scalar.xori v184 v185
  let c0_i32_109 : BitVec 32 := 0#32
  let v183 : BitVec 1 := Scalar.cmpi .ne v182 c0_i32_109
  let v187 : BitVec 1 := Scalar.andi v186 v183
  let v188 : BitVec 32 := Scalar.addi v182 v181
  let v189 : BitVec 32 := Scalar.select v187 v188 v182
  let c1_i32_115 : BitVec 32 := 1#32
  let v194 : BitVec 32 := Scalar.muli v189 c1_i32_115
  let v195 : BitVec 32 := Scalar.addi v193 v194
  v195.toNat
def k0_dev8 (d0 : Dev nD) : Nat :=
  let c0_i32_135 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_134 : BitVec 32 := 8#32
  let v226 : BitVec 32 := Scalar.muli v2 c8_i32_134
  let v227 : BitVec 32 := Scalar.addi c0_i32_135 v226
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_136 : BitVec 32 := 4#32
  let v228 : BitVec 32 := Scalar.muli v5 c4_i32_136
  let v229 : BitVec 32 := Scalar.addi v227 v228
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_127 : BitVec 32 := 3#32
  let v215 : BitVec 32 := Scalar.addi v8 c3_i32_127
  let c4_i32_128 : BitVec 32 := 4#32
  let c0_i32_129 : BitVec 32 := 0#32
  let v216 : BitVec 1 := Scalar.cmpi .eq c4_i32_128 c0_i32_129
  let c1_i32_130 : BitVec 32 := 1#32
  let v217 : BitVec 32 := Scalar.select v216 c1_i32_130 c4_i32_128
  let v218 : BitVec 32 := Scalar.remsi v215 v217
  let c0_i32_132 : BitVec 32 := 0#32
  let v220 : BitVec 1 := Scalar.cmpi .slt v218 c0_i32_132
  let c0_i32_133 : BitVec 32 := 0#32
  let v221 : BitVec 1 := Scalar.cmpi .slt v217 c0_i32_133
  let v222 : BitVec 1 := Scalar.xori v220 v221
  let c0_i32_131 : BitVec 32 := 0#32
  let v219 : BitVec 1 := Scalar.cmpi .ne v218 c0_i32_131
  let v223 : BitVec 1 := Scalar.andi v222 v219
  let v224 : BitVec 32 := Scalar.addi v218 v217
  let v225 : BitVec 32 := Scalar.select v223 v224 v218
  let c1_i32_137 : BitVec 32 := 1#32
  let v230 : BitVec 32 := Scalar.muli v225 c1_i32_137
  let v231 : BitVec 32 := Scalar.addi v229 v230
  v231.toNat
def k0_dev9 (d0 : Dev nD) : Nat :=
  let c0_i32_150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_149 : BitVec 32 := 8#32
  let v251 : BitVec 32 := Scalar.muli v2 c8_i32_149
  let v252 : BitVec 32 := Scalar.addi c0_i32_150 v251
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_151 : BitVec 32 := 4#32
  let v253 : BitVec 32 := Scalar.muli v5 c4_i32_151
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_142 : BitVec 32 := 3#32
  let v240 : BitVec 32 := Scalar.addi v8 c3_i32_142
  let c4_i32_143 : BitVec 32 := 4#32
  let c0_i32_144 : BitVec 32 := 0#32
  let v241 : BitVec 1 := Scalar.cmpi .eq c4_i32_143 c0_i32_144
  let c1_i32_145 : BitVec 32 := 1#32
  let v242 : BitVec 32 := Scalar.select v241 c1_i32_145 c4_i32_143
  let v243 : BitVec 32 := Scalar.remsi v240 v242
  let c0_i32_147 : BitVec 32 := 0#32
  let v245 : BitVec 1 := Scalar.cmpi .slt v243 c0_i32_147
  let c0_i32_148 : BitVec 32 := 0#32
  let v246 : BitVec 1 := Scalar.cmpi .slt v242 c0_i32_148
  let v247 : BitVec 1 := Scalar.xori v245 v246
  let c0_i32_146 : BitVec 32 := 0#32
  let v244 : BitVec 1 := Scalar.cmpi .ne v243 c0_i32_146
  let v248 : BitVec 1 := Scalar.andi v247 v244
  let v249 : BitVec 32 := Scalar.addi v243 v242
  let v250 : BitVec 32 := Scalar.select v248 v249 v243
  let c1_i32_152 : BitVec 32 := 1#32
  let v255 : BitVec 32 := Scalar.muli v250 c1_i32_152
  let v256 : BitVec 32 := Scalar.addi v254 v255
  v256.toNat
def k0_off7 (d0 : Dev nD) (c1_i32_174 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v287 : BitVec 32 := Scalar.addi v8 c1_i32_174
  let c4_i32_175 : BitVec 32 := 4#32
  let c0_i32_176 : BitVec 32 := 0#32
  let v288 : BitVec 1 := Scalar.cmpi .eq c4_i32_175 c0_i32_176
  let c1_i32_177 : BitVec 32 := 1#32
  let v289 : BitVec 32 := Scalar.select v288 c1_i32_177 c4_i32_175
  let v290 : BitVec 32 := Scalar.remsi v287 v289
  let c0_i32_179 : BitVec 32 := 0#32
  let v292 : BitVec 1 := Scalar.cmpi .slt v290 c0_i32_179
  let c0_i32_180 : BitVec 32 := 0#32
  let v293 : BitVec 1 := Scalar.cmpi .slt v289 c0_i32_180
  let v294 : BitVec 1 := Scalar.xori v292 v293
  let c0_i32_178 : BitVec 32 := 0#32
  let v291 : BitVec 1 := Scalar.cmpi .ne v290 c0_i32_178
  let v295 : BitVec 1 := Scalar.andi v294 v291
  let v296 : BitVec 32 := Scalar.addi v290 v289
  let v297 : BitVec 32 := Scalar.select v295 v296 v290
  let c0_i32_192 : BitVec 32 := 0#32
  let c0_i32_193 : BitVec 32 := 0#32
  ![v297.toNat, 0, 0]
def k0_off8 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v438 : Index := Scalar.indexCast v8
  let c0_258 : Index := 0#32
  let c0_259 : Index := 0#32
  ![v438.toNat, 0, 0]
def k0_off9 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_278 : BitVec 32 := 0#32
  let c0_i32_279 : BitVec 32 := 0#32
  ![v8.toNat, 0, 0]
def k0_dev10 (d0 : Dev nD) : Nat :=
  let c0_i32_275 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_274 : BitVec 32 := 8#32
  let v464 : BitVec 32 := Scalar.muli v2 c8_i32_274
  let v465 : BitVec 32 := Scalar.addi c0_i32_275 v464
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_276 : BitVec 32 := 4#32
  let v466 : BitVec 32 := Scalar.muli v5 c4_i32_276
  let v467 : BitVec 32 := Scalar.addi v465 v466
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_267 : BitVec 32 := 1#32
  let v453 : BitVec 32 := Scalar.addi v8 c1_i32_267
  let c4_i32_268 : BitVec 32 := 4#32
  let c0_i32_269 : BitVec 32 := 0#32
  let v454 : BitVec 1 := Scalar.cmpi .eq c4_i32_268 c0_i32_269
  let c1_i32_270 : BitVec 32 := 1#32
  let v455 : BitVec 32 := Scalar.select v454 c1_i32_270 c4_i32_268
  let v456 : BitVec 32 := Scalar.remsi v453 v455
  let c0_i32_272 : BitVec 32 := 0#32
  let v458 : BitVec 1 := Scalar.cmpi .slt v456 c0_i32_272
  let c0_i32_273 : BitVec 32 := 0#32
  let v459 : BitVec 1 := Scalar.cmpi .slt v455 c0_i32_273
  let v460 : BitVec 1 := Scalar.xori v458 v459
  let c0_i32_271 : BitVec 32 := 0#32
  let v457 : BitVec 1 := Scalar.cmpi .ne v456 c0_i32_271
  let v461 : BitVec 1 := Scalar.andi v460 v457
  let v462 : BitVec 32 := Scalar.addi v456 v455
  let v463 : BitVec 32 := Scalar.select v461 v462 v456
  let c1_i32_277 : BitVec 32 := 1#32
  let v468 : BitVec 32 := Scalar.muli v463 c1_i32_277
  let v469 : BitVec 32 := Scalar.addi v467 v468
  v469.toNat
def k0_dev11 (d0 : Dev nD) : Nat :=
  let c0_i32_297 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_296 : BitVec 32 := 8#32
  let v500 : BitVec 32 := Scalar.muli v2 c8_i32_296
  let v501 : BitVec 32 := Scalar.addi c0_i32_297 v500
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_298 : BitVec 32 := 4#32
  let v502 : BitVec 32 := Scalar.muli v5 c4_i32_298
  let v503 : BitVec 32 := Scalar.addi v501 v502
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_289 : BitVec 32 := 2#32
  let v489 : BitVec 32 := Scalar.addi v8 c2_i32_289
  let c4_i32_290 : BitVec 32 := 4#32
  let c0_i32_291 : BitVec 32 := 0#32
  let v490 : BitVec 1 := Scalar.cmpi .eq c4_i32_290 c0_i32_291
  let c1_i32_292 : BitVec 32 := 1#32
  let v491 : BitVec 32 := Scalar.select v490 c1_i32_292 c4_i32_290
  let v492 : BitVec 32 := Scalar.remsi v489 v491
  let c0_i32_294 : BitVec 32 := 0#32
  let v494 : BitVec 1 := Scalar.cmpi .slt v492 c0_i32_294
  let c0_i32_295 : BitVec 32 := 0#32
  let v495 : BitVec 1 := Scalar.cmpi .slt v491 c0_i32_295
  let v496 : BitVec 1 := Scalar.xori v494 v495
  let c0_i32_293 : BitVec 32 := 0#32
  let v493 : BitVec 1 := Scalar.cmpi .ne v492 c0_i32_293
  let v497 : BitVec 1 := Scalar.andi v496 v493
  let v498 : BitVec 32 := Scalar.addi v492 v491
  let v499 : BitVec 32 := Scalar.select v497 v498 v492
  let c1_i32_299 : BitVec 32 := 1#32
  let v504 : BitVec 32 := Scalar.muli v499 c1_i32_299
  let v505 : BitVec 32 := Scalar.addi v503 v504
  v505.toNat
def k0_dev12 (d0 : Dev nD) : Nat :=
  let c0_i32_319 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_318 : BitVec 32 := 8#32
  let v536 : BitVec 32 := Scalar.muli v2 c8_i32_318
  let v537 : BitVec 32 := Scalar.addi c0_i32_319 v536
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_320 : BitVec 32 := 4#32
  let v538 : BitVec 32 := Scalar.muli v5 c4_i32_320
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_311 : BitVec 32 := 3#32
  let v525 : BitVec 32 := Scalar.addi v8 c3_i32_311
  let c4_i32_312 : BitVec 32 := 4#32
  let c0_i32_313 : BitVec 32 := 0#32
  let v526 : BitVec 1 := Scalar.cmpi .eq c4_i32_312 c0_i32_313
  let c1_i32_314 : BitVec 32 := 1#32
  let v527 : BitVec 32 := Scalar.select v526 c1_i32_314 c4_i32_312
  let v528 : BitVec 32 := Scalar.remsi v525 v527
  let c0_i32_316 : BitVec 32 := 0#32
  let v530 : BitVec 1 := Scalar.cmpi .slt v528 c0_i32_316
  let c0_i32_317 : BitVec 32 := 0#32
  let v531 : BitVec 1 := Scalar.cmpi .slt v527 c0_i32_317
  let v532 : BitVec 1 := Scalar.xori v530 v531
  let c0_i32_315 : BitVec 32 := 0#32
  let v529 : BitVec 1 := Scalar.cmpi .ne v528 c0_i32_315
  let v533 : BitVec 1 := Scalar.andi v532 v529
  let v534 : BitVec 32 := Scalar.addi v528 v527
  let v535 : BitVec 32 := Scalar.select v533 v534 v528
  let c1_i32_321 : BitVec 32 := 1#32
  let v540 : BitVec 32 := Scalar.muli v535 c1_i32_321
  let v541 : BitVec 32 := Scalar.addi v539 v540
  v541.toNat
def k0_off10 (d0 : Dev nD) (c1_i32_333 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v570 : BitVec 32 := Scalar.addi v8 c1_i32_333
  let c4_i32_334 : BitVec 32 := 4#32
  let c0_i32_335 : BitVec 32 := 0#32
  let v571 : BitVec 1 := Scalar.cmpi .eq c4_i32_334 c0_i32_335
  let c1_i32_336 : BitVec 32 := 1#32
  let v572 : BitVec 32 := Scalar.select v571 c1_i32_336 c4_i32_334
  let v573 : BitVec 32 := Scalar.remsi v570 v572
  let c0_i32_338 : BitVec 32 := 0#32
  let v575 : BitVec 1 := Scalar.cmpi .slt v573 c0_i32_338
  let c0_i32_339 : BitVec 32 := 0#32
  let v576 : BitVec 1 := Scalar.cmpi .slt v572 c0_i32_339
  let v577 : BitVec 1 := Scalar.xori v575 v576
  let c0_i32_337 : BitVec 32 := 0#32
  let v574 : BitVec 1 := Scalar.cmpi .ne v573 c0_i32_337
  let v578 : BitVec 1 := Scalar.andi v577 v574
  let v579 : BitVec 32 := Scalar.addi v573 v572
  let v580 : BitVec 32 := Scalar.select v578 v579 v573
  let c0_i32_351 : BitVec 32 := 0#32
  let c0_i32_352 : BitVec 32 := 0#32
  ![v580.toNat, 0, 0]
def k0_off11 (d0 : Dev nD) (c1_i32_333 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v570 : BitVec 32 := Scalar.addi v8 c1_i32_333
  let c4_i32_334 : BitVec 32 := 4#32
  let c0_i32_335 : BitVec 32 := 0#32
  let v571 : BitVec 1 := Scalar.cmpi .eq c4_i32_334 c0_i32_335
  let c1_i32_336 : BitVec 32 := 1#32
  let v572 : BitVec 32 := Scalar.select v571 c1_i32_336 c4_i32_334
  let v573 : BitVec 32 := Scalar.remsi v570 v572
  let c0_i32_338 : BitVec 32 := 0#32
  let v575 : BitVec 1 := Scalar.cmpi .slt v573 c0_i32_338
  let c0_i32_339 : BitVec 32 := 0#32
  let v576 : BitVec 1 := Scalar.cmpi .slt v572 c0_i32_339
  let v577 : BitVec 1 := Scalar.xori v575 v576
  let c0_i32_337 : BitVec 32 := 0#32
  let v574 : BitVec 1 := Scalar.cmpi .ne v573 c0_i32_337
  let v578 : BitVec 1 := Scalar.andi v577 v574
  let v579 : BitVec 32 := Scalar.addi v573 v572
  let v580 : BitVec 32 := Scalar.select v578 v579 v573
  let v604 : Index := Scalar.indexCast v580
  let c0_355 : Index := 0#32
  let c0_356 : Index := 0#32
  ![v604.toNat, 0, 0]
def k0_off12 (d0 : Dev nD) (c1_i32_333 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v570 : BitVec 32 := Scalar.addi v8 c1_i32_333
  let c4_i32_334 : BitVec 32 := 4#32
  let c0_i32_335 : BitVec 32 := 0#32
  let v571 : BitVec 1 := Scalar.cmpi .eq c4_i32_334 c0_i32_335
  let c1_i32_336 : BitVec 32 := 1#32
  let v572 : BitVec 32 := Scalar.select v571 c1_i32_336 c4_i32_334
  let v573 : BitVec 32 := Scalar.remsi v570 v572
  let c0_i32_338 : BitVec 32 := 0#32
  let v575 : BitVec 1 := Scalar.cmpi .slt v573 c0_i32_338
  let c0_i32_339 : BitVec 32 := 0#32
  let v576 : BitVec 1 := Scalar.cmpi .slt v572 c0_i32_339
  let v577 : BitVec 1 := Scalar.xori v575 v576
  let c0_i32_337 : BitVec 32 := 0#32
  let v574 : BitVec 1 := Scalar.cmpi .ne v573 c0_i32_337
  let v578 : BitVec 1 := Scalar.andi v577 v574
  let v579 : BitVec 32 := Scalar.addi v573 v572
  let v580 : BitVec 32 := Scalar.select v578 v579 v573
  let c0_i32_374 : BitVec 32 := 0#32
  let c0_i32_375 : BitVec 32 := 0#32
  ![v580.toNat, 0, 0]
def k0_off13 (d0 : Dev nD) (c1_i32_333 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v570 : BitVec 32 := Scalar.addi v8 c1_i32_333
  let c4_i32_334 : BitVec 32 := 4#32
  let c0_i32_335 : BitVec 32 := 0#32
  let v571 : BitVec 1 := Scalar.cmpi .eq c4_i32_334 c0_i32_335
  let c1_i32_336 : BitVec 32 := 1#32
  let v572 : BitVec 32 := Scalar.select v571 c1_i32_336 c4_i32_334
  let v573 : BitVec 32 := Scalar.remsi v570 v572
  let c0_i32_338 : BitVec 32 := 0#32
  let v575 : BitVec 1 := Scalar.cmpi .slt v573 c0_i32_338
  let c0_i32_339 : BitVec 32 := 0#32
  let v576 : BitVec 1 := Scalar.cmpi .slt v572 c0_i32_339
  let v577 : BitVec 1 := Scalar.xori v575 v576
  let c0_i32_337 : BitVec 32 := 0#32
  let v574 : BitVec 1 := Scalar.cmpi .ne v573 c0_i32_337
  let v578 : BitVec 1 := Scalar.andi v577 v574
  let v579 : BitVec 32 := Scalar.addi v573 v572
  let v580 : BitVec 32 := Scalar.select v578 v579 v573
  let v640 : Index := Scalar.indexCast v580
  let c0_378 : Index := 0#32
  let c0_379 : Index := 0#32
  ![v640.toNat, 0, 0]
def k0_dev13 (d0 : Dev nD) : Nat :=
  let c0_i32_394 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_393 : BitVec 32 := 8#32
  let v678 : BitVec 32 := Scalar.muli v2 c8_i32_393
  let v679 : BitVec 32 := Scalar.addi c0_i32_394 v678
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_395 : BitVec 32 := 4#32
  let v680 : BitVec 32 := Scalar.muli v5 c4_i32_395
  let v681 : BitVec 32 := Scalar.addi v679 v680
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_386 : BitVec 32 := 1#32
  let v667 : BitVec 32 := Scalar.addi v8 c1_i32_386
  let c4_i32_387 : BitVec 32 := 4#32
  let c0_i32_388 : BitVec 32 := 0#32
  let v668 : BitVec 1 := Scalar.cmpi .eq c4_i32_387 c0_i32_388
  let c1_i32_389 : BitVec 32 := 1#32
  let v669 : BitVec 32 := Scalar.select v668 c1_i32_389 c4_i32_387
  let v670 : BitVec 32 := Scalar.remsi v667 v669
  let c0_i32_391 : BitVec 32 := 0#32
  let v672 : BitVec 1 := Scalar.cmpi .slt v670 c0_i32_391
  let c0_i32_392 : BitVec 32 := 0#32
  let v673 : BitVec 1 := Scalar.cmpi .slt v669 c0_i32_392
  let v674 : BitVec 1 := Scalar.xori v672 v673
  let c0_i32_390 : BitVec 32 := 0#32
  let v671 : BitVec 1 := Scalar.cmpi .ne v670 c0_i32_390
  let v675 : BitVec 1 := Scalar.andi v674 v671
  let v676 : BitVec 32 := Scalar.addi v670 v669
  let v677 : BitVec 32 := Scalar.select v675 v676 v670
  let c1_i32_396 : BitVec 32 := 1#32
  let v682 : BitVec 32 := Scalar.muli v677 c1_i32_396
  let v683 : BitVec 32 := Scalar.addi v681 v682
  v683.toNat
def k0_dev14 (d0 : Dev nD) : Nat :=
  let c0_i32_462 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_461 : BitVec 32 := 8#32
  let v800 : BitVec 32 := Scalar.muli v2 c8_i32_461
  let v801 : BitVec 32 := Scalar.addi c0_i32_462 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_463 : BitVec 32 := 4#32
  let v802 : BitVec 32 := Scalar.muli v5 c4_i32_463
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_454 : BitVec 32 := 2#32
  let v789 : BitVec 32 := Scalar.addi v8 c2_i32_454
  let c4_i32_455 : BitVec 32 := 4#32
  let c0_i32_456 : BitVec 32 := 0#32
  let v790 : BitVec 1 := Scalar.cmpi .eq c4_i32_455 c0_i32_456
  let c1_i32_457 : BitVec 32 := 1#32
  let v791 : BitVec 32 := Scalar.select v790 c1_i32_457 c4_i32_455
  let v792 : BitVec 32 := Scalar.remsi v789 v791
  let c0_i32_459 : BitVec 32 := 0#32
  let v794 : BitVec 1 := Scalar.cmpi .slt v792 c0_i32_459
  let c0_i32_460 : BitVec 32 := 0#32
  let v795 : BitVec 1 := Scalar.cmpi .slt v791 c0_i32_460
  let v796 : BitVec 1 := Scalar.xori v794 v795
  let c0_i32_458 : BitVec 32 := 0#32
  let v793 : BitVec 1 := Scalar.cmpi .ne v792 c0_i32_458
  let v797 : BitVec 1 := Scalar.andi v796 v793
  let v798 : BitVec 32 := Scalar.addi v792 v791
  let v799 : BitVec 32 := Scalar.select v797 v798 v792
  let c1_i32_464 : BitVec 32 := 1#32
  let v804 : BitVec 32 := Scalar.muli v799 c1_i32_464
  let v805 : BitVec 32 := Scalar.addi v803 v804
  v805.toNat
def k0_dev15 (d0 : Dev nD) : Nat :=
  let c0_i32_530 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_529 : BitVec 32 := 8#32
  let v922 : BitVec 32 := Scalar.muli v2 c8_i32_529
  let v923 : BitVec 32 := Scalar.addi c0_i32_530 v922
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_531 : BitVec 32 := 4#32
  let v924 : BitVec 32 := Scalar.muli v5 c4_i32_531
  let v925 : BitVec 32 := Scalar.addi v923 v924
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_522 : BitVec 32 := 3#32
  let v911 : BitVec 32 := Scalar.addi v8 c3_i32_522
  let c4_i32_523 : BitVec 32 := 4#32
  let c0_i32_524 : BitVec 32 := 0#32
  let v912 : BitVec 1 := Scalar.cmpi .eq c4_i32_523 c0_i32_524
  let c1_i32_525 : BitVec 32 := 1#32
  let v913 : BitVec 32 := Scalar.select v912 c1_i32_525 c4_i32_523
  let v914 : BitVec 32 := Scalar.remsi v911 v913
  let c0_i32_527 : BitVec 32 := 0#32
  let v916 : BitVec 1 := Scalar.cmpi .slt v914 c0_i32_527
  let c0_i32_528 : BitVec 32 := 0#32
  let v917 : BitVec 1 := Scalar.cmpi .slt v913 c0_i32_528
  let v918 : BitVec 1 := Scalar.xori v916 v917
  let c0_i32_526 : BitVec 32 := 0#32
  let v915 : BitVec 1 := Scalar.cmpi .ne v914 c0_i32_526
  let v919 : BitVec 1 := Scalar.andi v918 v915
  let v920 : BitVec 32 := Scalar.addi v914 v913
  let v921 : BitVec 32 := Scalar.select v919 v920 v914
  let c1_i32_532 : BitVec 32 := 1#32
  let v926 : BitVec 32 := Scalar.muli v921 c1_i32_532
  let v927 : BitVec 32 := Scalar.addi v925 v926
  v927.toNat
abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S512x512 : Shape := ⟨2, ![512, 512]⟩
abbrev S512x8 : Shape := ⟨2, ![512, 8]⟩
abbrev S8x512x1024 : Shape := ⟨3, ![8, 512, 1024]⟩
abbrev S8x1024x512 : Shape := ⟨3, ![8, 1024, 512]⟩
abbrev S512x2 : Shape := ⟨2, ![512, 2]⟩
abbrev S_ : Shape := ⟨0, ![]⟩
abbrev S512 : Shape := ⟨1, ![512]⟩
abbrev S512x1 : Shape := ⟨2, ![512, 1]⟩
abbrev S512x8x1024 : Shape := ⟨3, ![512, 8, 1024]⟩
abbrev S8x512x512 : Shape := ⟨3, ![8, 512, 512]⟩
abbrev S8 : Shape := ⟨1, ![8]⟩
abbrev S8x1 : Shape := ⟨2, ![8, 1]⟩
abbrev S1x512 : Shape := ⟨2, ![1, 512]⟩
abbrev S8x512 : Shape := ⟨2, ![8, 512]⟩
abbrev S8x512x1 : Shape := ⟨3, ![8, 512, 1]⟩
abbrev S1x512x1 : Shape := ⟨3, ![1, 512, 1]⟩

abbrev nBuf : Space → Nat
  | .hbm => 68
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x8, .f32⟩
  | .hbm, ⟨2, _⟩ => ⟨S8x512x1024, .f32⟩
  | .hbm, ⟨3, _⟩ => ⟨S8x1024x512, .f32⟩
  | .hbm, ⟨4, _⟩ => ⟨S512x8, .f32⟩
  | .hbm, ⟨5, _⟩ => ⟨S512x2, .f32⟩
  | .hbm, ⟨6, _⟩ => ⟨S512x2, .i32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S512x2, .f32⟩
  | .hbm, ⟨11, _⟩ => ⟨S512x2, .f32⟩
  | .hbm, ⟨12, _⟩ => ⟨S512x2, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S512x2, .f32⟩
  | .hbm, ⟨17, _⟩ => ⟨S512x2, .f32⟩
  | .hbm, ⟨18, _⟩ => ⟨S512x8x1024, .f32⟩
  | .hbm, ⟨19, _⟩ => ⟨S8x512x1024, .f32⟩
  | .hbm, ⟨20, _⟩ => ⟨S_, .f32⟩
  | .hbm, ⟨21, _⟩ => ⟨S8x512x1024, .f32⟩
  | .hbm, ⟨22, _⟩ => ⟨S8x512x1024, .f32⟩
  | .hbm, ⟨23, _⟩ => ⟨S8x512x512, .f32⟩
  | .hbm, ⟨24, _⟩ => ⟨S_, .f32⟩
  | .hbm, ⟨25, _⟩ => ⟨S512x512, .f32⟩
  | .hbm, ⟨26, _⟩ => ⟨S512x1, .i32⟩
  | .hbm, ⟨27, _⟩ => ⟨S512, .i32⟩
  | .hbm, ⟨28, _⟩ => ⟨S8, .i32⟩
  | .hbm, ⟨29, _⟩ => ⟨S8x1, .i32⟩
  | .hbm, ⟨30, _⟩ => ⟨S1x512, .i32⟩
  | .hbm, ⟨31, _⟩ => ⟨S8x512, .i32⟩
  | .hbm, ⟨32, _⟩ => ⟨S8x512, .i32⟩
  | .hbm, ⟨33, _⟩ => ⟨S8x512, .i1⟩
  | .hbm, ⟨34, _⟩ => ⟨S8x512x1, .i1⟩
  | .hbm, ⟨35, _⟩ => ⟨S512x1, .f32⟩
  | .hbm, ⟨36, _⟩ => ⟨S1x512x1, .f32⟩
  | .hbm, ⟨37, _⟩ => ⟨S8x512x512, .f32⟩
  | .hbm, ⟨38, _⟩ => ⟨S8x512x512, .f32⟩
  | .hbm, ⟨39, _⟩ => ⟨S_, .f32⟩
  | .hbm, ⟨40, _⟩ => ⟨S_, .f32⟩
  | .hbm, ⟨41, _⟩ => ⟨S8x512x512, .i1⟩
  | .hbm, ⟨42, _⟩ => ⟨S8x512x512, .f32⟩
  | .hbm, ⟨43, _⟩ => ⟨S8x512x512, .f32⟩
  | .hbm, ⟨44, _⟩ => ⟨S_, .f32⟩
  | .hbm, ⟨45, _⟩ => ⟨S512x512, .f32⟩
  | .hbm, ⟨46, _⟩ => ⟨S512x512, .f32⟩
  | .hbm, ⟨47, _⟩ => ⟨S512x1, .i32⟩
  | .hbm, ⟨48, _⟩ => ⟨S512, .i32⟩
  | .hbm, ⟨49, _⟩ => ⟨S8, .i32⟩
  | .hbm, ⟨50, _⟩ => ⟨S8x1, .i32⟩
  | .hbm, ⟨51, _⟩ => ⟨S1x512, .i32⟩
  | .hbm, ⟨52, _⟩ => ⟨S8x512, .i32⟩
  | .hbm, ⟨53, _⟩ => ⟨S8x512, .i32⟩
  | .hbm, ⟨54, _⟩ => ⟨S8x512, .i1⟩
  | .hbm, ⟨55, _⟩ => ⟨S8x512x1, .i1⟩
  | .hbm, ⟨56, _⟩ => ⟨S512x1, .f32⟩
  | .hbm, ⟨57, _⟩ => ⟨S1x512x1, .f32⟩
  | .hbm, ⟨58, _⟩ => ⟨S8x512x512, .f32⟩
  | .hbm, ⟨59, _⟩ => ⟨S8x512x512, .f32⟩
  | .hbm, ⟨60, _⟩ => ⟨S_, .f32⟩
  | .hbm, ⟨61, _⟩ => ⟨S_, .f32⟩
  | .hbm, ⟨62, _⟩ => ⟨S8x512x512, .i1⟩
  | .hbm, ⟨63, _⟩ => ⟨S8x512x512, .f32⟩
  | .hbm, ⟨64, _⟩ => ⟨S8x512x512, .f32⟩
  | .hbm, ⟨65, _⟩ => ⟨S_, .f32⟩
  | .hbm, ⟨66, _⟩ => ⟨S512x512, .f32⟩
  | .hbm, ⟨67, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== Proof.Slots.lean ====
module

public import Idealize.ShloMosaic.Lib.Pipeline.Launch
public import Idealize.ShloMosaic.Lib.Pipeline.Kit
public import Idealize.ShloMosaic.Lib.Tactic

/-! # Buffers of four slots

A buffer of shape `4 × a × b` is four slots of shape `1 × a × b`. This module names the slots, the array with given slots, and
says what a copy from slot to slot and a store to a slot leave. Nothing here is about one program. -/

@[expose] public section

noncomputable section

namespace Cert.Moe

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem

/-- The shape of a buffer of four slots. -/
abbrev Sq (a b : Nat) : Shape := ⟨3, ![4, a, b]⟩
/-- The shape of one slot, its leading axis kept. -/
abbrev Su (a b : Nat) : Shape := ⟨3, ![1, a, b]⟩
/-- The shape of one slot, its leading axis dropped. -/
abbrev Sf (a b : Nat) : Shape := ⟨2, ![a, b]⟩

variable {a b : Nat}

/-- Slot `j` is inside the buffer. -/
theorem slot_inb (a b : Nat) (j : Fin 4) : ∀ i, (![j.val, 0, 0] : Fin 3 → Nat) i + (Su a b).size i ≤ (Sq a b).size i := by
  intro i
  fin_cases i
  · show j.val + 1 ≤ 4; omega
  · show 0 + a ≤ a; omega
  · show 0 + b ≤ b; omega

/-- The rectangle of slot `j`. -/
abbrev slotR (a b : Nat) (j : Fin 4) : Rect (Sq a b) := Rect.unit (s := Sq a b) ![j.val, 0, 0] (Su a b).size (slot_inb a b j)

/-- The positions of slot `j`. -/
def slotS (a b : Nat) (j : Fin 4) : Finset (Sq a b).Idx := (slotR a b j).set

/-- A position lies in slot `j` exactly when its leading coordinate is `j`. -/
theorem mem_slotS {j : Fin 4} {i : (Sq a b).Idx} : i ∈ slotS a b j ↔ (show Fin 4 from i 0) = j := by
  unfold slotS slotR
  rw [Rect.mem_set_unit]
  constructor
  · intro h
    have h0 := h 0
    have h1 : j.val ≤ (show Fin 4 from i 0).val := h0.1
    have h2 : (show Fin 4 from i 0).val < j.val + 1 := h0.2
    exact Fin.ext (by omega)
  · intro h k
    have hi : (show Fin 4 from i 0).val = j.val := congrArg Fin.val h
    fin_cases k
    · exact ⟨show j.val ≤ (show Fin 4 from i 0).val by omega, show (show Fin 4 from i 0).val < j.val + 1 by omega⟩
    · exact ⟨Nat.zero_le _, show (i 1).val < 0 + a by have h := (i 1).isLt; change (i 1).val < a at h; omega⟩
    · exact ⟨Nat.zero_le _, show (i 2).val < 0 + b by have h := (i 2).isLt; change (i 2).val < b at h; omega⟩

/-- Different slots are disjoint. -/
theorem slotS_disj {j k : Fin 4} (h : j ≠ k) : Disjoint (slotS a b j) (slotS a b k) := by
  rw [Finset.disjoint_left]
  intro i hi hk
  exact h ((mem_slotS.1 hi).symm.trans (mem_slotS.1 hk))

/-- The slots are the whole buffer. -/
theorem slotS_univ : (Finset.univ : Finset (Fin 4)).biUnion (slotS a b) = Finset.univ := by
  ext i
  simp only [Finset.mem_biUnion, Finset.mem_univ, true_and, iff_true]
  exact ⟨_, mem_slotS.2 rfl⟩

/-- The position inside slot `j` under a position of the slot. -/
theorem slotR_emb (j : Fin 4) (y : (Su a b).Idx) :
    (show Fin 4 from (slotR a b j).emb y 0) = j ∧ ((slotR a b j).emb y 1).val = (y 1).val ∧ ((slotR a b j).emb y 2).val = (y 2).val := by
  refine ⟨Fin.ext ?_, ?_, ?_⟩
  · have h : (y 0).val < 1 := (y 0).isLt
    have := Rect.emb_apply (slotR a b j) y 0
    have e : ((slotR a b j).emb y 0).val = j.val + 1 * (y 0).val := this
    show ((slotR a b j).emb y 0).val = j.val
    omega
  · have e : ((slotR a b j).emb y 1).val = 0 + 1 * (y 1).val := Rect.emb_apply (slotR a b j) y 1
    omega
  · have e : ((slotR a b j).emb y 2).val = 0 + 1 * (y 2).val := Rect.emb_apply (slotR a b j) y 2
    omega

/-- The array whose slot `j` is `g j`. -/
def stack {α : Type} (g : Fin 4 → (Su a b).Idx → α) : (Sq a b).Idx → α :=
  fun i => g (show Fin 4 from i 0) (fun | ⟨0, _⟩ => (0 : Fin 1) | ⟨1, _⟩ => (show Fin a from i 1) | ⟨2, _⟩ => (show Fin b from i 2))

/-- Slot `j` of that array. -/
theorem stack_emb {α : Type} (g : Fin 4 → (Su a b).Idx → α) (j : Fin 4) (y : (Su a b).Idx) :
    stack g ((slotR a b j).emb y) = g j y := by
  obtain ⟨h0, h1, h2⟩ := slotR_emb j y
  unfold stack
  rw [h0]
  congr 1
  funext k
  match k with
  | ⟨0, _⟩ => exact (Subsingleton.elim (α := Fin 1) _ _)
  | ⟨1, _⟩ => exact Fin.ext h1
  | ⟨2, _⟩ => exact Fin.ext h2

variable {nD : Nat} {τ : Topo} {sig : RefSig} {Ix : Type} {Val : EltTy → Type} {Name : Type} {U : Type} {Lvl : Type}
variable [DecidableEq Ix] [URA U]

section View
variable {κ : Kind} {sp : Space} {e : EltTy}

/-- Slot `j` of a view of a buffer, its leading axis dropped. -/
abbrev slotV (v : View sig κ sp (Sq a b) e) (j : Fin 4) (h : (Sf a b).numel = (Su a b).numel) : View sig κ sp (Sf a b) e :=
  (v.slice (slotR a b j)).reshape (Sf a b) h

/-- What a copy from slot `j` of one buffer to slot `k` of another leaves there: any contents `G` whose slot `k` is the
    source's slot `j`. -/
theorem copy_slot {v v' : View sig κ sp (Sq a b) e} {j k : Fin 4} {h h' : (Sf a b).numel = (Su a b).numel}
    (fs : v.ty.Contents Val) (fd G : v'.ty.Contents Val)
    (hG : ∀ y : (Su a b).Idx, v.read Val fs ((slotR a b j).emb y) = v'.read Val G ((slotR a b k).emb y)) :
    ∀ i ∈ (slotV v' k h').set, (slotV v' k h').write Val fd ((slotV v j h).read Val fs) Finset.univ i = G i := by
  intro i hi
  obtain ⟨x, -, rfl⟩ := Finset.mem_map.1 hi
  have hr : (slotV v' k h').read Val ((slotV v' k h').write Val fd ((slotV v j h).read Val fs) Finset.univ) x
      = (slotV v' k h').read Val G x := by
    rw [View.read_write_univ]
    exact hG _
  rw [View.read_apply, View.read_apply] at hr
  exact (cast_inj _).1 hr

/-- What a store to slot `j` leaves there: any contents `G` whose slot `j` is what is stored. -/
theorem store_slot {v : View sig κ sp (Sq a b) e} {j : Fin 4} (f G : v.ty.Contents Val) (w : (Su a b).Idx → Val e)
    (hG : ∀ y : (Su a b).Idx, w y = v.read Val G ((slotR a b j).emb y)) :
    ∀ i ∈ (v.slice (slotR a b j)).set, (v.slice (slotR a b j)).write Val f w Finset.univ i = G i := by
  intro i hi
  obtain ⟨x, -, rfl⟩ := Finset.mem_map.1 hi
  have hr : (v.slice (slotR a b j)).read Val ((v.slice (slotR a b j)).write Val f w Finset.univ) x = (v.slice (slotR a b j)).read Val G x := by
    rw [View.read_write_univ]
    exact hG _
  rw [View.read_apply, View.read_apply] at hr
  exact (cast_inj _).1 hr

end View

section Own

variable [DecidableEq Name]
local notation "𝕄" => MT nD τ sig Ix Val Name U Lvl

/-- A separating conjunction over four indices, listed from `z` on. -/
theorem bigSep_from (Φ : Fin 4 → sProp 𝕄) (z : Fin 4) :
    bigSep Finset.univ Φ = iprop(Φ z ∗ Φ (z + 1) ∗ Φ (z + 2) ∗ Φ (z + 3)) :=
  bigSep_univ_eq_bigSepL [z, z + 1, z + 2, z + 3] (by revert z; decide) (by revert z; decide) Φ

variable {ℓ : Loc nD τ sig} (K : Fin 4 → Finset (Idx ℓ)) (hd : ∀ j k, j ≠ k → Disjoint (K j) (K k))
  (hu : (Finset.univ : Finset (Fin 4)).biUnion K = Finset.univ) (z : Fin 4)

include hd hu in
/-- A buffer whole is its four slots, listed from slot `z` on. -/
theorem cut4 (q : PosShare TreeShare) (f : Buf Val ℓ) :
    (iprop(ℓ ↦{q} f) : sProp 𝕄)
      = iprop((ℓ ↦[K z]{q} f) ∗ (ℓ ↦[K (z + 1)]{q} f) ∗ (ℓ ↦[K (z + 2)]{q} f) ∗ (ℓ ↦[K (z + 3)]{q} f)) := by
  rw [← bigSep_from (fun j => iprop(ℓ ↦[K j]{q} f)) z, ← pointsTo_biUnion _ _ fun j _ k _ h => hd j k h, hu]

include hd hu in
/-- Four slots, each at contents of its own, are the buffer whole at some contents. -/
theorem join4 (q : PosShare TreeShare) (f₀ f₁ f₂ f₃ : Buf Val ℓ) :
    iprop((ℓ ↦[K z]{q} f₀) ∗ (ℓ ↦[K (z + 1)]{q} f₁) ∗ (ℓ ↦[K (z + 2)]{q} f₂) ∗ (ℓ ↦[K (z + 3)]{q} f₃))
      ⊢ (iprop(∃ g, ℓ ↦{q} g) : sProp 𝕄) := by
  iintro ⟨H0, H1, H2, H3⟩
  ihave Ha := (pointsTo_join (hd _ _ (show z ≠ z + 1 by revert z; decide))) $$ [H0 H1]
  · isplitl [H0]
    · iexact H0
    · iexact H1
  ihave Hb := (pointsTo_join (Finset.disjoint_union_left.2 ⟨hd _ _ (show z ≠ z + 2 by revert z; decide), hd _ _ (show z + 1 ≠ z + 2 by revert z; decide)⟩)) $$ [Ha H2]
  · isplitl [Ha]
    · iexact Ha
    · iexact H2
  ihave Hc := (pointsTo_join (Finset.disjoint_union_left.2 ⟨Finset.disjoint_union_left.2 ⟨hd _ _ (show z ≠ z + 3 by revert z; decide), hd _ _ (show z + 1 ≠ z + 3 by revert z; decide)⟩, hd _ _ (show z + 2 ≠ z + 3 by revert z; decide)⟩)) $$ [Hb H3]
  · isplitl [Hb]
    · iexact Hb
    · iexact H3
  have e : K z ∪ K (z + 1) ∪ K (z + 2) ∪ K (z + 3) = Finset.univ := by
    rw [← hu]
    ext i
    simp only [Finset.mem_union, Finset.mem_biUnion, Finset.mem_univ, true_and]
    constructor
    · rintro (((h | h) | h) | h) <;> exact ⟨_, h⟩
    · rintro ⟨j, h⟩
      have hj : ∀ j z : Fin 4, j = z ∨ j = z + 1 ∨ j = z + 2 ∨ j = z + 3 := by decide
      replace hj := hj j z
      rcases hj with rfl | rfl | rfl | rfl <;> simp [h]
  iexists _
  iapply (Entails.of_eq (congrArg (fun S => (iprop(ℓ ↦[S]{q} _) : sProp 𝕄)) e))
  iexact Hc

variable {I : Finset (Idx ℓ)} {f : Buf Val ℓ}

/-- The share that goes with the copy to the peer `k` steps on. -/
def shr : Fin 4 → PosShare TreeShare
  | 0 => fullShare.right.right
  | 1 => fullShare.left.left
  | 2 => fullShare.left.right
  | 3 => fullShare.right.left

/-- A slot held whole is its four shares. -/
theorem shares4 :
    (iprop(ℓ ↦[I]{fullShare} f) : sProp 𝕄)
      ⊣⊢ iprop((ℓ ↦[I]{shr 0} f) ∗ (ℓ ↦[I]{shr 1} f) ∗ (ℓ ↦[I]{shr 2} f) ∗ (ℓ ↦[I]{shr 3} f)) := by
  constructor
  · iintro H
    ihave H := (pointsTo_share (PosShare.mem_left_op_right fullShare)).1 $$ H
    icases H with ⟨Ha, Hb⟩
    ihave Ha := (pointsTo_share (PosShare.mem_left_op_right fullShare.left)).1 $$ Ha
    icases Ha with ⟨H1, H2⟩
    ihave Hb := (pointsTo_share (PosShare.mem_left_op_right fullShare.right)).1 $$ Hb
    icases Hb with ⟨H3, H0⟩
    isplitl [H0]; · iexact H0
    isplitl [H1]; · iexact H1
    isplitl [H2]; · iexact H2
    iexact H3
  · iintro ⟨H0, H1, H2, H3⟩
    iapply (pointsTo_share (PosShare.mem_left_op_right fullShare)).2
    isplitl [H1 H2]
    · iapply (pointsTo_share (PosShare.mem_left_op_right fullShare.left)).2
      isplitl [H1]; · iexact H1
      iexact H2
    · iapply (pointsTo_share (PosShare.mem_left_op_right fullShare.right)).2
      isplitl [H3]; · iexact H3
      iexact H0

end Own

end Cert.Moe

end
-- ==== Proof.KernelIdealRun.Geo.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Slots

/-! # The rows of the mesh, and the closed forms of the kernel's places

The sixteen devices fall into four rows of four; the exchange is inside a row. A device's place in its row is `z c`, its peer
`k` steps on is `peer c k`. Every slot, semaphore and device the kernel computes is one of these. -/

@[expose] public section

noncomputable section

namespace Cert.KernelIdealRun

open Cert.KernelIdeal Cert.KernelIdeal.Gen Cert.Moe
open Idealize.ShloMosaic Idealize.ShloMosaic.TcCoe

variable {F : FTy → Type} [FloatOps F] [Named F]

/-- The place of device `c` in its row. -/
def z (c : Dev nD) : Fin 4 := ⟨c.val % 4, Nat.mod_lt _ (by decide)⟩
/-- The device at place `j` of the row of `c`. -/
def at_ (c : Dev nD) (j : Fin 4) : Dev nD := ⟨c.val / 4 * 4 + j.val, by have h := c.isLt; have := j.isLt; change c.val < 16 at h; change _ < 16; omega⟩
/-- The device `k` steps on in the row of `c`. -/
def peer (c : Dev nD) (k : Fin 4) : Dev nD := at_ c (z c + k)

theorem add_none (j : Fin 4) : j + 0 = j := by revert j; decide
theorem neg_twice (j : Fin 4) : - -j = j := by revert j; decide
theorem z_at (c : Dev nD) (j : Fin 4) : z (at_ c j) = j := by revert c j; decide
theorem at_at (c : Dev nD) (j i : Fin 4) : at_ (at_ c j) i = at_ c i := by revert c j i; decide
theorem at_z (c : Dev nD) : at_ c (z c) = c := by revert c; decide
theorem z_peer (c : Dev nD) (k : Fin 4) : z (peer c k) = z c + k := z_at c _
theorem peer_zero (c : Dev nD) : peer c 0 = c := by revert c; decide
theorem peer_peer (c : Dev nD) (k j : Fin 4) : peer (peer c k) j = peer c (k + j) := by revert c k j; decide
theorem at_peer (c : Dev nD) (k j : Fin 4) : at_ (peer c k) j = at_ c j := at_at c _ j
theorem peer_neg (c : Dev nD) (k : Fin 4) : peer (peer c k) (-k) = c := by revert c k; decide
theorem z_peer_neg (c : Dev nD) (k : Fin 4) : z (peer c k) + -k = z c := by revert c k; decide
theorem add_neg_z (c : Dev nD) (k : Fin 4) : z c + k + -k = z c := by revert c k; decide
theorem sub_z (c : Dev nD) (k : Fin 4) : z c + k - z c = k := by revert c k; decide
theorem neg_ne {k : Fin 4} (h : k ≠ 0) : -k ≠ 0 := by revert k; decide
theorem add_ne (c : Dev nD) {k : Fin 4} (h : k ≠ 0) : z c + k ≠ z c := by revert c k; decide

/-- The kernel's word for the place of device `c` in its row. -/
abbrev zw (c : Dev nD) : BitVec 32 := Scalar.remsi (Scalar.divsi (Dev.word c) 1#32) 4#32

theorem dev1_eq (c : Dev nD) : (⟨k0_dev1 c, k0_dev1_lt c⟩ : Dev nD) = peer c 1 := by revert c; decide +kernel
theorem dev2_eq (c : Dev nD) : (⟨k0_dev2 c, k0_dev2_lt c⟩ : Dev nD) = peer c 2 := by revert c; decide +kernel
theorem dev3_eq (c : Dev nD) : (⟨k0_dev3 c, k0_dev3_lt c⟩ : Dev nD) = peer c 3 := by revert c; decide +kernel
theorem dev4_eq (c : Dev nD) : (⟨k0_dev4 c, k0_dev4_lt c⟩ : Dev nD) = peer c 1 := by revert c; decide +kernel
theorem dev5_eq (c : Dev nD) : (⟨k0_dev5 c, k0_dev5_lt c⟩ : Dev nD) = peer c 1 := by revert c; decide +kernel
theorem dev6_eq (c : Dev nD) : (⟨k0_dev6 c, k0_dev6_lt c⟩ : Dev nD) = peer c 2 := by revert c; decide +kernel
theorem dev7_eq (c : Dev nD) : (⟨k0_dev7 c, k0_dev7_lt c⟩ : Dev nD) = peer c 2 := by revert c; decide +kernel
theorem dev8_eq (c : Dev nD) : (⟨k0_dev8 c, k0_dev8_lt c⟩ : Dev nD) = peer c 3 := by revert c; decide +kernel
theorem dev9_eq (c : Dev nD) : (⟨k0_dev9 c, k0_dev9_lt c⟩ : Dev nD) = peer c 3 := by revert c; decide +kernel
theorem dev10_eq (c : Dev nD) : (⟨k0_dev10 c, k0_dev10_lt c⟩ : Dev nD) = peer c 1 := by revert c; decide +kernel
theorem dev11_eq (c : Dev nD) : (⟨k0_dev11 c, k0_dev11_lt c⟩ : Dev nD) = peer c 2 := by revert c; decide +kernel
theorem dev12_eq (c : Dev nD) : (⟨k0_dev12 c, k0_dev12_lt c⟩ : Dev nD) = peer c 3 := by revert c; decide +kernel
theorem dev13_eq (c : Dev nD) : (⟨k0_dev13 c, k0_dev13_lt c⟩ : Dev nD) = peer c 1 := by revert c; decide +kernel
theorem dev14_eq (c : Dev nD) : (⟨k0_dev14 c, k0_dev14_lt c⟩ : Dev nD) = peer c 2 := by revert c; decide +kernel
theorem dev15_eq (c : Dev nD) : (⟨k0_dev15 c, k0_dev15_lt c⟩ : Dev nD) = peer c 3 := by revert c; decide +kernel

theorem off3_eq (c : Dev nD) (r : Fin 3) : k0_off3 c (BitVec.ofNat 32 (1 + r.val)) = ![(z c + (r.succ : Fin 4)).val] := by revert c r; decide +kernel
theorem off7_eq (c : Dev nD) (r : Fin 3) : k0_off7 c (BitVec.ofNat 32 (1 + r.val)) = ![(z c + (r.succ : Fin 4)).val, 0, 0] := by revert c r; decide +kernel
theorem off10_eq (c : Dev nD) (r : Fin 3) : k0_off10 c (BitVec.ofNat 32 (1 + r.val)) = ![(z c + (r.succ : Fin 4)).val, 0, 0] := by revert c r; decide +kernel
theorem off11_eq (c : Dev nD) (r : Fin 3) : k0_off11 c (BitVec.ofNat 32 (1 + r.val)) = ![(z c + (r.succ : Fin 4)).val, 0, 0] := by revert c r; decide +kernel
theorem off12_eq (c : Dev nD) (r : Fin 3) : k0_off12 c (BitVec.ofNat 32 (1 + r.val)) = ![(z c + (r.succ : Fin 4)).val, 0, 0] := by revert c r; decide +kernel
theorem off13_eq (c : Dev nD) (r : Fin 3) : k0_off13 c (BitVec.ofNat 32 (1 + r.val)) = ![(z c + (r.succ : Fin 4)).val, 0, 0] := by revert c r; decide +kernel

/-! ## The semaphores -/

/-- The number of slot `j` of semaphore array `a`: the arrays in the kernel's order, sends of `x`, receives of `x`, sends and
    receives of the router's block, of the weights, of the partial sums. -/
def dsem (a : Fin 8) (j : Fin 4) : DmaSem sig := ⟨5 + 4 * a.val + j.val, by have := a.isLt; have := j.isLt; show _ < 37; omega⟩

theorem dsem_inj {a a' : Fin 8} {j j' : Fin 4} (h : dsem a j = dsem a' j') : a = a' ∧ j = j' := by
  have h' : 5 + 4 * a.val + j.val = 5 + 4 * a'.val + j'.val := congrArg Fin.val h
  have := j.isLt; have := j'.isLt
  exact ⟨Fin.ext (by omega), Fin.ext (by omega)⟩

/-- The semaphore arrays, by number. -/
abbrev sarr : Fin 8 → DmaSems sig S4
  | 0 => cc0_scratch5 | 1 => cc0_scratch6 | 2 => cc0_scratch7 | 3 => cc0_scratch8
  | 4 => cc0_scratch9 | 5 => cc0_scratch10 | 6 => cc0_scratch11 | 7 => cc0_scratch12

theorem sem_of (a : Fin 8) (j : Fin 4) (off : Fin 1 → Nat) (h : off = ![j.val]) (hb : ∀ i, off i + S1.size i ≤ S4.size i) :
    (((sarr a).slice (Rect.unit (s := S4) off S1.size hb)).squeeze S_ squeezes_S1_S_).sem = dsem a j := by
  subst h; revert a j; decide

end Cert.KernelIdealRun

end
-- ==== Proof.KernelIdealRun.Protocol.lean ====
module

public import proofs.«01_k».proof.Proof.KernelIdealRun.Geo

/-! # The exchange protocol

Every device waits for its three peers' signals; then it sends its block of `x` and of the router to the three, later its
routing weights, and last, to each peer, the partial sum of that peer's tokens over its own two experts. Below: what every buffer
holds, what each semaphore's units stand for, and in which order a device pays what it owes. -/

@[expose] public section

noncomputable section

namespace Cert.KernelIdealRun

open Cert.KernelIdeal Cert.KernelIdeal.Gen Cert.Moe
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The contents -/

variable (F) in
/-- The four arguments as the devices hold them: `x`'s block, the router's, and the two weights'. -/
structure Ins where
  x : Dev nD → Vec F S128x512 .f32
  r : Dev nD → Vec F S512x2 .f32
  a : Dev nD → Vec F S2x512x1024 .f32
  b : Dev nD → Vec F S2x1024x512 .f32

section Values
variable (I : Ins F) (c : Dev nD)

/-- The two experts' weights of a device, in the kernel's narrow format. -/
def a0 : Vec F S1x512x1024 .f32 := (Memref.whole cc0_stg2_0 : Memref sig .tc .vmem S2x512x1024 .f32).view.readAt (Elt F) (Rect.unit (s := S2x512x1024) ![0, 0, 0] S1x512x1024.size inb_S2x512x1024_S1x512x1024_0_0_0).toLoadRect (I.a c)
def a1 : Vec F S1x512x1024 .f32 := (Memref.whole cc0_stg2_0 : Memref sig .tc .vmem S2x512x1024 .f32).view.readAt (Elt F) (Rect.unit (s := S2x512x1024) ![1, 0, 0] S1x512x1024.size inb_S2x512x1024_S1x512x1024_1_0_0).toLoadRect (I.a c)
def b0 : Vec F S1x1024x512 .f32 := (Memref.whole cc0_stg3_0 : Memref sig .tc .vmem S2x1024x512 .f32).view.readAt (Elt F) (Rect.unit (s := S2x1024x512) ![0, 0, 0] S1x1024x512.size inb_S2x1024x512_S1x1024x512_0_0_0).toLoadRect (I.b c)
def b1 : Vec F S1x1024x512 .f32 := (Memref.whole cc0_stg3_0 : Memref sig .tc .vmem S2x1024x512 .f32).view.readAt (Elt F) (Rect.unit (s := S2x1024x512) ![1, 0, 0] S1x1024x512.size inb_S2x1024x512_S1x1024x512_1_0_0).toLoadRect (I.b c)

/-- Slot `j` of the gathered `x`: the block of the device at place `j`. -/
def xG (j : Fin 4) : Vec F S1x128x512 .bf16 := k0_pay3 (I.x (at_ c j))
/-- Slot `j` of the gathered router: the transposed block of the device at place `j`. -/
def rG (j : Fin 4) : Vec F S1x2x512 .f32 := k0_pay4 (I.r (at_ c j))
def xA : Vec F S4x128x512 .bf16 := stack (a := 128) (b := 512) (xG I c)
def rA : Vec F S4x2x512 .f32 := stack (a := 2) (b := 512) (rG I c)
/-- Slot `j` of the gathered routing weights: those of the tokens of the device at place `j`. -/
def wG (j : Fin 4) : Vec F S1x8x128 .f32 := k0_pay21 (k0_pay18 (rA I c) (I.x (at_ c j))) (k0_pay19 (rA I c) (I.x (at_ c j)))
def wA : Vec F S4x8x128 .f32 := stack (a := 8) (b := 128) (wG I c)
/-- The column numbers the kernel compares the experts with. -/
abbrev eids : IVec S128x8 32 := iota .tc S128x8 32 [1] iota_S128x8_d1_w32
/-- Slot `j` of the outgoing sums: the tokens of the device at place `j` over the two experts of `c`. -/
def uG (j : Fin 4) : Vec F S1x128x512 .bf16 :=
  k0_pay27 (k0_pay26 eids (Scalar.muli (zw c) 2#32) (Scalar.addi (Scalar.muli (zw c) 2#32) 1#32)
    (k0_pay24 (k0_pay5 (a0 I c)) (k0_pay7 (b0 I c)) (xG I c j)) (k0_pay25 (k0_pay6 (a1 I c)) (k0_pay8 (b1 I c)) (xG I c j)) (wG I c j))
def uA : Vec F S4x128x512 .bf16 := stack (a := 128) (b := 512) (uG I c)
/-- Slot `j` of the incoming sums: the tokens of `c` over the experts of the device at place `j`; zero at its own place. -/
def vG (j : Fin 4) : Vec F S1x128x512 .bf16 := if j = z c then k0_pay1 else uG I (at_ c j) (z c)
def vA : Vec F S4x128x512 .bf16 := stack (a := 128) (b := 512) (vG I c)
/-- The sum of the tokens of `c` over its own two experts. -/
def own : FVec F S128x512 .f32 :=
  k0_pay22 (zw c) (k0_pay9 (k0_pay2 (I.x c)) (a0 I c) (b0 I c)) (k0_pay11 (k0_pay8 (b1 I c)) (k0_pay10 (k0_pay2 (I.x c)) (a1 I c)) (Scalar.ofBits .f32 0x00000000#32))
    eids (k0_pay20 (k0_pay18 (rA I c) (I.x c)) (k0_pay19 (rA I c) (I.x c)))
/-- The result of device `c`. -/
def out : FVec F S128x512 .f32 := k0_pay40 (own I c) (vA I c)

omit [Named F] in
theorem xA_at (j : Fin 4) : xA I (at_ c j) = xA I c := congrArg (stack (a := 128) (b := 512)) (funext fun i => congrArg (fun d => k0_pay3 (I.x d)) (at_at c j i))
omit [Named F] in
theorem rA_at (j : Fin 4) : rA I (at_ c j) = rA I c := congrArg (stack (a := 2) (b := 512)) (funext fun i => congrArg (fun d => k0_pay4 (I.r d)) (at_at c j i))
theorem wG_at (j i : Fin 4) : wG I (at_ c j) i = wG I c i := by unfold wG; rw [at_at, rA_at]
theorem wA_at (j : Fin 4) : wA I (at_ c j) = wA I c := congrArg (stack (a := 8) (b := 128)) (funext fun i => wG_at I c j i)

end Values

/-! ## The slots of the buffers -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Slot `j` of a buffer as the kernel's copies name it. -/
abbrev xM (j : Fin 4) : Memref sig .tc .vmem S128x512 .bf16 := ((Memref.whole cc0_scratch0 : Memref sig .tc .vmem S4x128x512 .bf16).slice (slotR 128 512 j) (fun _ => rfl)).squeeze S128x512 squeezes_S1x128x512_S128x512
abbrev rM (j : Fin 4) : Memref sig .tc .vmem S2x512 .f32 := ((Memref.whole cc0_scratch1 : Memref sig .tc .vmem S4x2x512 .f32).slice (slotR 2 512 j) (fun _ => rfl)).squeeze S2x512 squeezes_S1x2x512_S2x512
abbrev wM (j : Fin 4) : Memref sig .tc .vmem S8x128 .f32 := ((Memref.whole cc0_scratch2 : Memref sig .tc .vmem S4x8x128 .f32).slice (slotR 8 128 j) (fun _ => rfl)).squeeze S8x128 squeezes_S1x8x128_S8x128
abbrev uM (j : Fin 4) : Memref sig .tc .vmem S128x512 .bf16 := ((Memref.whole cc0_scratch3 : Memref sig .tc .vmem S4x128x512 .bf16).slice (slotR 128 512 j) (fun _ => rfl)).squeeze S128x512 squeezes_S1x128x512_S128x512
abbrev vM (j : Fin 4) : Memref sig .tc .vmem S128x512 .bf16 := ((Memref.whole cc0_scratch4 : Memref sig .tc .vmem S4x128x512 .bf16).slice (slotR 128 512 j) (fun _ => rfl)).squeeze S128x512 squeezes_S1x128x512_S128x512

/-- Slot `j` of a buffer of device `c` at share `q` and contents `f`: the gathered `x`, router and weights, the outgoing and the
    incoming sums. -/
def xs (c : Dev nD) (j : Fin 4) (q : PosShare TreeShare) (f : Vec F S4x128x512 .bf16) : sProp 𝕄 := ((c : Thread nD τ).loc cc0_scratch0) ↦[slotS 128 512 j]{q} f
def rs (c : Dev nD) (j : Fin 4) (q : PosShare TreeShare) (f : Vec F S4x2x512 .f32) : sProp 𝕄 := ((c : Thread nD τ).loc cc0_scratch1) ↦[slotS 2 512 j]{q} f
def ws (c : Dev nD) (j : Fin 4) (q : PosShare TreeShare) (f : Vec F S4x8x128 .f32) : sProp 𝕄 := ((c : Thread nD τ).loc cc0_scratch2) ↦[slotS 8 128 j]{q} f
def us (c : Dev nD) (j : Fin 4) (q : PosShare TreeShare) (f : Vec F S4x128x512 .bf16) : sProp 𝕄 := ((c : Thread nD τ).loc cc0_scratch3) ↦[slotS 128 512 j]{q} f
def vs (c : Dev nD) (j : Fin 4) (q : PosShare TreeShare) (f : Vec F S4x128x512 .bf16) : sProp 𝕄 := ((c : Thread nD τ).loc cc0_scratch4) ↦[slotS 128 512 j]{q} f

section
variable (c : Dev nD) (j : Fin 4) (q : PosShare TreeShare)
omit [FloatOps F] [Named F]
instance xs_st (f) : BI.Storable (upEmb : UEmb _ 𝕄) (xs (F := F) c j q f) := by unfold xs; infer_instance
instance rs_st (f) : BI.Storable (upEmb : UEmb _ 𝕄) (rs (F := F) c j q f) := by unfold rs; infer_instance
instance ws_st (f) : BI.Storable (upEmb : UEmb _ 𝕄) (ws (F := F) c j q f) := by unfold ws; infer_instance
instance us_st (f) : BI.Storable (upEmb : UEmb _ 𝕄) (us (F := F) c j q f) := by unfold us; infer_instance
instance vs_st (f) : BI.Storable (upEmb : UEmb _ 𝕄) (vs (F := F) c j q f) := by unfold vs; infer_instance
theorem xM_set : (xM j).view.set = slotS 128 512 j := (View.set_reshape (v := (View.whole cc0_scratch0 : View sig .tc _ S4x128x512 .bf16).slice (slotR 128 512 j)) squeezes_S1x128x512_S128x512.numel_eq).trans (View.set_slice_whole cc0_scratch0 (slotR 128 512 j))
theorem rM_set : (rM j).view.set = slotS 2 512 j := (View.set_reshape (v := (View.whole cc0_scratch1 : View sig .tc _ S4x2x512 .f32).slice (slotR 2 512 j)) squeezes_S1x2x512_S2x512.numel_eq).trans (View.set_slice_whole cc0_scratch1 (slotR 2 512 j))
theorem wM_set : (wM j).view.set = slotS 8 128 j := (View.set_reshape (v := (View.whole cc0_scratch2 : View sig .tc _ S4x8x128 .f32).slice (slotR 8 128 j)) squeezes_S1x8x128_S8x128.numel_eq).trans (View.set_slice_whole cc0_scratch2 (slotR 8 128 j))
theorem uM_set : (uM j).view.set = slotS 128 512 j := (View.set_reshape (v := (View.whole cc0_scratch3 : View sig .tc _ S4x128x512 .bf16).slice (slotR 128 512 j)) squeezes_S1x128x512_S128x512.numel_eq).trans (View.set_slice_whole cc0_scratch3 (slotR 128 512 j))
theorem vM_set : (vM j).view.set = slotS 128 512 j := (View.set_reshape (v := (View.whole cc0_scratch4 : View sig .tc _ S4x128x512 .bf16).slice (slotR 128 512 j)) squeezes_S1x128x512_S128x512.numel_eq).trans (View.set_slice_whole cc0_scratch4 (slotR 128 512 j))
theorem xs_eq (f) : (xs (F := F) c j q f) = ((xM j).view.loc (c : Thread nD τ) ↦[(xM j).view.set]{q} f) := by rw [xM_set]; rfl
theorem rs_eq (f) : (rs (F := F) c j q f) = ((rM j).view.loc (c : Thread nD τ) ↦[(rM j).view.set]{q} f) := by rw [rM_set]; rfl
theorem ws_eq (f) : (ws (F := F) c j q f) = ((wM j).view.loc (c : Thread nD τ) ↦[(wM j).view.set]{q} f) := by rw [wM_set]; rfl
theorem us_eq (f) : (us (F := F) c j q f) = ((uM j).view.loc (c : Thread nD τ) ↦[(uM j).view.set]{q} f) := by rw [uM_set]; rfl
theorem vs_eq (f) : (vs (F := F) c j q f) = ((vM j).view.loc (c : Thread nD τ) ↦[(vM j).view.set]{q} f) := by rw [vM_set]; rfl
end

/-! ## The schedule -/

abbrev barS : Sem sig := (SemArray.scalar (sig.barrier 0 rfl) : Sems sig S_).sem
abbrev barCell (c : Dev nD) : GSem nD τ sig := ((c : Thread nD τ), .reg barS)
abbrev dcell (c : Dev nD) (a : Fin 8) (j : Fin 4) : GSem nD τ sig := ((c : Thread nD τ), .dma (dsem a j))

/-- The credit of one copy of each kind. -/
abbrev NX : ℕ := (xM 0).view.dmaCredit
abbrev NR : ℕ := (rM 0).view.dmaCredit
abbrev NW : ℕ := (wM 0).view.dmaCredit
def amt : Fin 8 → ℕ
  | 0 => NX | 1 => NX | 2 => NR | 3 => NR | 4 => NW | 5 => NW | 6 => NX | 7 => NX

theorem amt_pos (a : Fin 8) : 0 < amt a := by
  fin_cases a
  · exact View.dmaCredit_pos _ (by decide)
  · exact View.dmaCredit_pos _ (by decide)
  · exact View.dmaCredit_pos _ (by decide)
  · exact View.dmaCredit_pos _ (by decide)
  · exact View.dmaCredit_pos _ (by decide)
  · exact View.dmaCredit_pos _ (by decide)
  · exact View.dmaCredit_pos _ (by decide)
  · exact View.dmaCredit_pos _ (by decide)

section Sched
variable (I : Ins F)

/-- What duty `k` of the barrier of `c` hands `c`: the peer `k` steps on gives up the slots `c` will write there. -/
def barPay (c : Dev nD) (k : Fin 4) : sProp 𝕄 :=
  iprop((∃ f, xs (peer c k) (z c) fullShare f) ∗ (∃ f, rs (peer c k) (z c) fullShare f)
    ∗ (∃ f, ws (peer c k) (z c) fullShare f) ∗ (∃ f, vs (peer c k) (z c) fullShare f))

/-- What the units of slot `j` of array `a` hand device `c`: a send its own source back, a receive the slot filled. -/
def dmaPay (c : Dev nD) (a : Fin 8) (j : Fin 4) : sProp 𝕄 :=
  match a with
  | 0 => xs c (z c) (shr (j - z c)) (xA I c)
  | 1 => xs c j fullShare (xA I c)
  | 2 => rs c (z c) (shr (j - z c)) (rA I c)
  | 3 => rs c j fullShare (rA I c)
  | 4 => ws c (z c) (shr (j - z c)) (wA I c)
  | 5 => ws c j fullShare (wA I c)
  | 6 => us c j fullShare (uA I c)
  | 7 => vs c j fullShare (vA I c)

/-- The array and the slot of a semaphore number. -/
def arrOf (q : ℕ) : Fin 8 := ⟨(q - 5) / 4 % 8, Nat.mod_lt _ (by decide)⟩
def slotOf (q : ℕ) : Fin 4 := ⟨(q - 5) % 4, Nat.mod_lt _ (by decide)⟩

theorem arrOf_dsem (a : Fin 8) (j : Fin 4) : arrOf (dsem a j).val = a := by revert a j; decide
theorem slotOf_dsem (a : Fin 8) (j : Fin 4) : slotOf (dsem a j).val = j := by revert a j; decide

def ringRd : Rounds.Schedule (GSem nD τ sig) (Fin 4) 𝕄 where
  duties g r := if r = 0 ∧ g.1.2 = .tc then
      (match g.2 with
        | .reg _ => Finset.univ.erase 0
        | .dma q => if 5 ≤ q.val ∧ slotOf q.val ≠ z g.1.1 then {0} else ∅)
    else ∅
  unitless _ := False
  amount g _ _ := match g.2 with
    | .reg _ => 1
    | .dma q => amt (arrOf q.val)
  payload g _ d := match g.2 with
    | .reg _ => barPay g.1.1 d
    | .dma q => dmaPay I g.1.1 (arrOf q.val) (slotOf q.val)
  amount_pos g _ _ _ := by
    rcases g with ⟨t, s | s⟩
    · exact Nat.one_pos
    · exact amt_pos _

instance dmaPay_st (c a j) : BI.Storable (upEmb : UEmb _ 𝕄) (dmaPay I c a j) := by
  unfold dmaPay; split <;> infer_instance

instance ringRd_payload_storable (g : GSem nD τ sig) (r : ℕ) (d : Fin 4) :
    BI.Storable (upEmb : UEmb _ 𝕄) ((ringRd I).payload g r d) := by
  rcases g with ⟨t, s | s⟩
  · show BI.Storable upEmb (barPay t.1 d)
    unfold barPay; infer_instance
  · show BI.Storable upEmb (dmaPay I t.1 _ _)
    infer_instance

theorem duties_bar (c : Dev nD) : (ringRd I).duties (barCell c) 0 = Finset.univ.erase 0 := by
  dsimp only [ringRd]; exact if_pos ⟨rfl, rfl⟩
theorem duties_dma (c : Dev nD) (a : Fin 8) {j : Fin 4} (h : j ≠ z c) : (ringRd I).duties (dcell c a j) 0 = {0} := by
  dsimp only [ringRd]
  rw [if_pos ⟨rfl, rfl⟩, slotOf_dsem]
  exact if_pos ⟨by show 5 ≤ 5 + 4 * a.val + j.val; omega, h⟩
theorem duties_own (c : Dev nD) (a : Fin 8) : ∀ r, 0 ≤ r → (ringRd I).duties (dcell c a (z c)) r = ∅ := by
  intro r _
  dsimp only [ringRd]
  split
  · rw [slotOf_dsem]; exact if_neg fun h => h.2 rfl
  · rfl
theorem duties_later (g : GSem nD τ sig) : ∀ r, 1 ≤ r → (ringRd I).duties g r = ∅ :=
  fun r hr => by dsimp only [ringRd]; exact if_neg fun h => by omega
theorem amount_bar (c : Dev nD) (d : Fin 4) : (ringRd I).amount (barCell c) 0 d = 1 := rfl
theorem amount_dma (c : Dev nD) (a : Fin 8) (j d : Fin 4) : (ringRd I).amount (dcell c a j) 0 d = amt a := by
  show amt (arrOf (dsem a j).val) = amt a; rw [arrOf_dsem]
theorem payload_bar (c : Dev nD) (d : Fin 4) : (ringRd I).payload (barCell c) 0 d = barPay c d := rfl
theorem payload_dma (c : Dev nD) (a : Fin 8) (j d : Fin 4) : (ringRd I).payload (dcell c a j) 0 d = dmaPay I c a j := by
  show dmaPay I c (arrOf (dsem a j).val) (slotOf (dsem a j).val) = _; rw [arrOf_dsem, slotOf_dsem]
theorem expect_bar (c : Dev nD) : (ringRd I).expect (barCell c) 0 = 3 := by
  unfold Schedule.expect Schedule.amountOf
  rw [duties_bar, Finset.sum_congr rfl fun d _ => amount_bar I c d]; decide
theorem expect_dma (c : Dev nD) (a : Fin 8) {j : Fin 4} (h : j ≠ z c) : (ringRd I).expect (dcell c a j) 0 = amt a := by
  unfold Schedule.expect Schedule.amountOf; rw [duties_dma I c a h, Finset.sum_singleton, amount_dma]
theorem rest_bar (c : Dev nD) : bigSep ((ringRd I).duties (barCell c) 0 \ ∅) (fun d => (ringRd I).payload (barCell c) 0 d)
    = iprop(barPay c 1 ∗ barPay c 2 ∗ barPay c 3) := by
  rw [Finset.sdiff_empty, duties_bar, bigSep_eq_bigSepL_of_eq [1, 2, 3] (by decide) (by decide)]
  rfl
theorem rest_dma (c : Dev nD) (a : Fin 8) {j : Fin 4} (h : j ≠ z c) :
    bigSep ((ringRd I).duties (dcell c a j) 0 \ ∅) (fun d => (ringRd I).payload (dcell c a j) 0 d) = dmaPay I c a j := by
  rw [Finset.sdiff_empty, duties_dma I c a h, bigSep_singleton, payload_dma]

end Sched

/-! ## What a device owes, in the order it pays -/

/-- What a list of payments amounts to; the head of the list is paid first. -/
def Os : List (GSem nD τ sig × ℕ) → CellTallies nD τ sig Unit
  | [] => 0
  | e :: l => Os l + tallyAt e.1 () e.2

theorem Os_pos {l : List (GSem nD τ sig × ℕ)} {g : GSem nD τ sig} {u : Unit} (h : 0 < Os l g u) : ∃ e ∈ l, e.1 = g := by
  induction l with
  | nil => exact absurd h (Nat.lt_irrefl 0)
  | cons e l ih =>
    unfold Os at h
    rw [Pi.add_apply, Finsupp.add_apply, tallyAt_apply] at h
    by_cases he : g = e.1 ∧ u = ()
    · exact ⟨e, List.mem_cons_self, he.1.symm⟩
    · rw [if_neg he, Nat.add_zero] at h
      obtain ⟨e', h', h''⟩ := ih h
      exact ⟨e', List.mem_cons_of_mem _ h', h''⟩

/-- The payments of device `c`: its signals, then the landings of its copies. -/
def oweL (c : Dev nD) : List (GSem nD τ sig × ℕ) :=
  [(barCell (peer c 1), 1), (barCell (peer c 2), 1), (barCell (peer c 3), 1),
   (dcell (peer c 1) 1 (z c), amt 1), (dcell (peer c 1) 3 (z c), amt 3),
   (dcell (peer c 2) 1 (z c), amt 1), (dcell (peer c 2) 3 (z c), amt 3),
   (dcell (peer c 3) 1 (z c), amt 1), (dcell (peer c 3) 3 (z c), amt 3),
   (dcell (peer c 1) 5 (z c), amt 5), (dcell (peer c 2) 5 (z c), amt 5), (dcell (peer c 3) 5 (z c), amt 5),
   (dcell (peer c 1) 7 (z c), amt 7), (dcell (peer c 2) 7 (z c), amt 7), (dcell (peer c 3) 7 (z c), amt 7)]

/-- What device `c` still owes after `n` payments. -/
def O (c : Dev nD) (n : ℕ) : CellTallies nD τ sig Unit := Os ((oweL c).drop n)

def L (g : GSem nD τ sig) : Finset Unit := if g.1.2 = .tc then {()} else ∅
/-- The levels of the arrays: what is waited for first lies lowest. -/
def lvA : Fin 8 → ℕ
  | 0 => 0 | 1 => 2 | 2 => 0 | 3 => 2 | 4 => 0 | 5 => 3 | 6 => 0 | 7 => 4
def lv (g : GSem nD τ sig) (_ : Unit) : ℕ := match g.2 with
  | .reg _ => 1
  | .dma q => lvA (arrOf q.val)

theorem L_of_ne (g : GSem nD τ sig) (h : g.1.2 ≠ .tc) : L g = ∅ := if_neg h
theorem L_tc (c : Dev nD) (sm : SemLoc sig) : L ((c : Thread nD τ), sm) = {()} := if_pos rfl
theorem lv_dcell (c : Dev nD) (a : Fin 8) (j : Fin 4) : lv (dcell c a j) () = lvA a := by
  show lvA (arrOf (dsem a j).val) = _; rw [arrOf_dsem]

theorem oweL_tc (c : Dev nD) : ∀ e ∈ oweL c, e.1.1.2 = .tc := by
  intro e he
  simp only [oweL, List.mem_cons, List.not_mem_nil, or_false] at he
  rcases he with h | h | h | h | h | h | h | h | h | h | h | h | h | h | h <;> (rw [h])

/-- The levels of the payments, in order. -/
theorem oweL_lv (c : Dev nD) : (oweL c).map (fun e => lv e.1 ()) = [1, 1, 1, 2, 2, 2, 2, 2, 2, 3, 3, 3, 4, 4, 4] := by
  simp only [oweL, List.map_cons, List.map_nil, lv_dcell]; rfl

/-- A device may wait on a cell of its own that lies below all it still owes. -/
theorem mayWait (c : Dev nD) (sm : SemLoc sig) (n : ℕ)
    (h : ∀ x ∈ ([1, 1, 1, 2, 2, 2, 2, 2, 2, 3, 3, 3, 4, 4, 4] : List ℕ).drop n, lv ((c : Thread nD τ), sm) () < x) :
    (levAts L lv : sProp 𝕄) ⊢ MayWait (c : Thread nD τ) sm () (O c n) := by
  refine MayOwe.of_cut (L := L) (lev := lv) (lv ((c : Thread nD τ), sm) ())
    (fun p hp => by rw [Finset.mem_singleton.mp hp, L_tc]; exact Finset.mem_singleton_self _)
    (fun g u hg => ?_) (fun p hp => by rw [Finset.mem_singleton.mp hp]) (fun g u hg => ?_)
  · obtain ⟨e, he, rfl⟩ := Os_pos hg
    unfold L; rw [if_pos (oweL_tc c e (List.mem_of_mem_drop he))]; exact Finset.mem_singleton_self _
  · obtain ⟨e, he, rfl⟩ := Os_pos hg
    refine h _ ?_
    rw [← oweL_lv c, ← List.map_drop]
    exact List.mem_map.2 ⟨e, he, rfl⟩

end Cert.KernelIdealRun

end
-- ==== Proof.KernelIdealRun.Steps.lean ====
module

public import proofs.«01_k».proof.Proof.KernelIdealRun.Protocol

/-! # The steps of the kernel under the protocol

One rule for each kind of step: a signal to a peer, the wait for the three signals, a copy of each kind to a peer, a wait for one
copy, a read and a rewriting of one slot. -/

@[expose] public section

noncomputable section

namespace Cert.KernelIdealRun

open Cert.KernelIdeal Cert.KernelIdeal.Gen Cert.Moe
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-! ## The names of the cells -/

/-- The cells of the protocol: a device's barrier, or slot `j` of its semaphore array `a`. -/
abbrev CK : Type := Dev nD × Option (Fin 8 × Fin 4)
abbrev kcell (x : CK) : GSem nD τ sig := match x.2 with
  | none => barCell x.1
  | some aj => dcell x.1 aj.1 aj.2

section
variable (I : Ins F) (K : CK → ℕ)

/-- The invariant of every cell, and that every cell has reached its first round. -/
def records : sProp 𝕄 :=
  iprop((bigSep Finset.univ fun ck : CK => cellInv ER (ringRd I) (K ck) (kcell ck))
    ∗ bigSep Finset.univ fun ck : CK => reached ER (kcell ck) 0)

instance records_persistent : BI.Persistent (records I K) := by unfold records; infer_instance

theorem inv_at (ck : CK) : records I K ⊢ cellInv ER (ringRd I) (K ck) (kcell ck) := by
  unfold records
  exact sep_elim_left.trans (bigSep_elim (Finset.mem_univ ck))
theorem reached_at (ck : CK) : records I K ⊢ reached ER (kcell ck) 0 := by
  unfold records
  exact sep_elim_right.trans (bigSep_elim (Finset.mem_univ ck))

/-- Device `c` owes what is left of its payments after `n` of them. -/
def ow (c : Dev nD) (n : ℕ) : sProp 𝕄 := iprop(∃ W, owes (c : Thread nD τ) (O c n) W)

/-- What a device needs to send to the peer `d` steps on: its place on its own send cell, and the right to pay both cells. -/
def sk (c : Dev nD) (sa ra : Fin 8) (d : Fin 4) : sProp 𝕄 :=
  iprop(atPos ER (dcell c sa (z c + d)) 0 ∅ 0 ∗ dutyTok ER (dcell c sa (z c + d)) 0 0 ∗ dutyTok ER (dcell (peer c d) ra (z c)) 0 0)
/-- What a device needs to wait on slot `z c + d` of array `a`: its place there and the units promised. -/
def rk (c : Dev nD) (a : Fin 8) (d : Fin 4) : sProp 𝕄 :=
  iprop(cred (tallyAt (dcell c a (z c + d)) () (amt a)) ∗ atPos ER (dcell c a (z c + d)) 0 ∅ 0)
/-- Slot `z c + d` of array `a`, spent. -/
def zk (c : Dev nD) (a : Fin 8) (d : Fin 4) : sProp 𝕄 := semVal (dcell c a (z c + d)) 0

/-- What a device gives with its signal to the peer `d` steps on, and the right to signal. -/
def gv (c : Dev nD) (d : Fin 4) : sProp 𝕄 :=
  iprop(dutyTok ER (barCell (peer c d)) 0 (-d) ∗ (∃ f, xs c (z c + d) fullShare f) ∗ (∃ f, rs c (z c + d) fullShare f)
    ∗ (∃ f, ws c (z c + d) fullShare f) ∗ (∃ f, vs c (z c + d) fullShare f))

/-- A signal to the peer `d` steps on, which hands over the slots that peer writes. -/
theorem st_signal {α : Type} {Q : α → sProp 𝕄} {k : PUnit → Prog (TpuEff nD τ sig (Elt F) Λ₀ .tc) α} (c n : Dev nD) (d : Fin 4) (hd : d ≠ 0) (hn : n = peer c d) (i : ℕ)
    (hO : O c i = O c (i + 1) + tallyAt (barCell (peer c d)) () 1) :
    iprop(records I K ∗ ow c i ∗ gv c d)
      ⊢ iprop((ow c (i + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) barS (1#32).toInt) k) Q) := by
  subst hn
  unfold ow gv
  iintro ⟨#HR, ⟨%W, HO⟩, Ht, Hx, Hr, Hw, Hv⟩ Hk
  iapply (Rounds.wp_signal 𝒱₀ ER (ringRd I) (c : Thread nD τ) none (dst := (peer c d : Thread nD τ)) (κ := K (peer c d, none))
      (d := -d) (r := 0) (k' := 1) (by rw [duties_bar]; exact Finset.mem_erase.2 ⟨neg_ne hd, Finset.mem_univ _⟩) (amount_bar I (peer c d) (-d)) () (O c (i + 1)) hO (W := W)) $$ [HO Ht Hx Hr Hw Hv]
  · isplitr; · iapply (inv_at I K (peer c d, none)); iexact HR
    isplitl [HO]; · iexact HO
    isplitl [Ht]; · iexact Ht
    isplitl [Hx Hr Hw Hv]
    · rw [payload_bar]; unfold barPay; rw [peer_neg, z_peer]
      isplitl [Hx]; · iexact Hx
      isplitl [Hr]; · iexact Hr
      isplitl [Hw]; · iexact Hw
      iexact Hv
    · iapply (reached_at I K (peer c d, none)); iexact HR
  iintro HO
  iapply Hk
  iexists W; iexact HO

/-- The wait for the three signals: the slots of the peers that this device writes. -/
theorem st_barrier {α : Type} {Q : α → sProp 𝕄} {k : PUnit → Prog (TpuEff nD τ sig (Elt F) Λ₀ .tc) α} (c : Dev nD) :
    iprop(records I K ∗ levAts L lv ∗ ow c 3 ∗ cred (tallyAt (barCell c) () 3) ∗ atPos ER (barCell c) 0 ∅ 0)
      ⊢ iprop(((ow c 3 ∗ semVal (barCell c) 0 ∗ barPay c 1 ∗ barPay c 2 ∗ barPay c 3)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32).toInt) k) Q) := by
  unfold ow
  iintro ⟨#HR, #HL, ⟨%W, HO⟩, Hc, Hat⟩ Hk
  iapply (Rounds.wp_wait_rest_token 𝒱₀ ER (ringRd I) (c : Thread nD τ) none (κ := K (c, none))
      (wpE_semWait_eq 𝒱₀ (c : Thread nD τ) none Set.univ) (Set.mem_univ _) () (O := O c 3) (W := W) (R := 0) (m := 0) (T := ∅) (k' := 3)
      (by rw [expect_bar])) $$ [HO Hc Hat]
  · isplitr; · iapply (inv_at I K (c, none)); iexact HR
    isplitl [Hc]; · iexact Hc
    isplitl [HO]; · iexact HO
    isplitr; · iapply (mayWait c (.reg barS) 3 (show ∀ x ∈ _, 1 < x by decide)); iexact HL
    iexact Hat
  iintro ⟨HO, Hat, -, Hpay⟩
  ihave Hp := (Entails.of_eq (rest_bar I c)) $$ Hpay
  imod (Rounds.cell_close ER (ringRd I) (Set.mem_univ (K (c, none))) (fun h => h) (R := 0 + 1) (duties_later I (barCell c))) $$ [Hat] with Hz
  · isplitr; · iapply (inv_at I K (c, none)); iexact HR
    iexact Hat
  iapply Hk
  isplitl [HO]; · iexists _; iexact HO
  isplitl [Hz]; · iexact Hz
  iexact Hp

/-- The wait for one copy: slot `z c + d` of semaphore array `a` is spent, and what its units stand for comes. -/
theorem st_wait {α : Type} {Q : α → sProp 𝕄} {k : PUnit → Prog (TpuEff nD τ sig (Elt F) Λ₀ .tc) α} (c : Dev nD) (a : Fin 8) (d : Fin 4) (hd : d ≠ 0) (i : ℕ)
    (hl : ∀ x ∈ ([1, 1, 1, 2, 2, 2, 2, 2, 2, 3, 3, 3, 4, 4, 4] : List ℕ).drop i, lvA a < x)
    {sp sp' : Space} {s s' : Shape} {e e' : EltTy} {sem : DmaSem sig} {src : Memref sig .tc sp' s' e'} {dst : Memref sig .tc sp s e}
    {hsrc : src.view.WordExact} {hdst : dst.view.WordExact}
    (hs : sem = dsem a (z c + d)) (hN : dst.view.dmaCredit = amt a) :
    iprop(records I K ∗ levAts L lv ∗ ow c i ∗ rk c a d)
      ⊢ iprop(((ow c i ∗ zk c a d ∗ dmaPay I c a (z c + d))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hs
  unfold ow rk zk
  iintro ⟨#HR, #HL, ⟨%W, HO⟩, Hc, Hat⟩ Hk
  iapply (Rounds.wp_wait_rest_token 𝒱₀ ER (ringRd I) (c : Thread nD τ) none (κ := K (c, some (a, z c + d)))
      (wpE_waitDma2_eq 𝒱₀ (c : Thread nD τ) none Set.univ) (Set.mem_univ _) () (O := O c i) (W := W) (R := 0) (m := 0) (T := ∅)
      (by rw [Nat.zero_add, hN]; exact (expect_dma I c a (add_ne c hd)).symm)) $$ [HO Hc Hat]
  · isplitr; · iapply (inv_at I K (c, some (a, z c + d))); iexact HR
    isplitl [Hc]; · rw [hN]; iexact Hc
    isplitl [HO]; · iexact HO
    isplitr; · iapply (mayWait c (.dma (dsem a (z c + d))) i (by rw [lv_dcell]; exact hl)); iexact HL
    iexact Hat
  iintro ⟨HO, Hat, -, Hpay⟩
  ihave Hp := (Entails.of_eq (rest_dma I c a (add_ne c hd))) $$ Hpay
  imod (Rounds.cell_close ER (ringRd I) (Set.mem_univ (K (c, some (a, z c + d)))) (fun h => h) (R := 0 + 1) (duties_later I (dcell c a (z c + d)))) $$ [Hat] with Hz
  · isplitr; · iapply (inv_at I K (c, some (a, z c + d))); iexact HR
    iexact Hat
  iapply Hk
  isplitl [HO]; · iexists _; iexact HO
  isplitl [Hz]; · iexact Hz
  iexact Hp

/-- A cell nothing is ever sent on is closed at once. -/
theorem st_close (c : Dev nD) (a : Fin 8) :
    iprop(records I K ∗ atPos ER (dcell c a (z c)) 0 ∅ 0) ⊢ |={Set.univ}=> (zk c a 0 : sProp 𝕄) := by
  unfold zk; rw [add_none]
  iintro ⟨#HR, Hat⟩
  iapply (Rounds.cell_close ER (ringRd I) (Set.mem_univ (K (c, some (a, z c)))) (fun h => h) (R := 0) (duties_own I c a))
  isplitr; · iapply (inv_at I K (c, some (a, z c))); iexact HR
  iexact Hat

/-- A copy to the peer `d` steps on: the send pays slot `z c + d` of array `sa`, the landing slot `z c` of array `ra` there. -/
theorem st_send {α : Type} {Q : α → sProp 𝕄} {k : PUnit → Prog (TpuEff nD τ sig (Elt F) Λ₀ .tc) α} {s : Shape} {e : EltTy} (c n : Dev nD) (d : Fin 4) (hd : d ≠ 0) (hn : n = peer c d) (i : ℕ) (sa ra : Fin 8)
    {src : Memref sig .tc .vmem s e} {dst : Memref sig (Dev.tc n : Thread nD τ).2.kind .vmem s e} {sS rS : DmaSem sig}
    {hsc : dst.view.ref.isScScratch = false} {hsrc : src.view.WordExact} {hdst : dst.view.WordExact}
    {hsem : DmaTarget.Typed .vmem (.dma rS) (.remote (Dev.tc n : Thread nD τ) dst (.dma sS) hsc)}
    (hS : sS = dsem sa (z c + d)) (hR : rS = dsem ra (z c))
    (hO : O c i = O c (i + 1) + tallyAt (dcell (peer c d) ra (z c)) () (amt ra))
    (hN : dst.view.dmaCredit = amt ra) (ha : amt sa = amt ra) {q : PosShare TreeShare}
    (fs : Buf (Elt F) (src.view.loc (c : Thread nD τ))) (fd : Buf (Elt F) (dst.view.loc (n : Thread nD τ)))
    (hp₁ : (src.view.loc (c : Thread nD τ) ↦[src.view.set]{q} fs : sProp 𝕄) ⊢ dmaPay I c sa (z c + d))
    (hp₂ : (dst.view.loc (n : Thread nD τ) ↦[dst.view.set]{fullShare} (dst.view.write (Elt F) fd (src.view.read (Elt F) fs) Finset.univ) : sProp 𝕄)
      ⊢ dmaPay I (peer c d) ra (z c)) :
    iprop(records I K ∗ ow c i ∗ (src.view.loc (c : Thread nD τ) ↦[src.view.set]{q} fs) ∗ (dst.view.loc (n : Thread nD τ) ↦[dst.view.set]{fullShare} fd)
        ∗ sk c sa ra d)
      ⊢ iprop(((ow c (i + 1) ∗ rk c sa d)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) k) Q) := by
  subst hn hS hR
  unfold ow sk rk
  iintro ⟨#HR, ⟨%W, HO⟩, Hs, Hd, Hat, Ht, Ht'⟩ Hk
  iapply (Rounds.wp_send_pointsTo 𝒱₀ ER (ringRd I) (c : Thread nD τ) none (c' := (peer c d : Thread nD τ)) (sS := .dma (dsem sa (z c + d))) (sem := .dma (dsem ra (z c))) (κ₁ := K (c, some (sa, z c + d))) (κ₂ := K (peer c d, some (ra, z c)))
      (r₁ := 0) (r₂ := 0) (d₁ := 0) (d₂ := 0) (fd := fd) (fs := fs)
      (by rw [duties_dma I c sa (add_ne c hd)]; exact Finset.mem_singleton_self _)
      (by rw [duties_dma I (peer c d) ra (by rw [z_peer]; exact (add_ne c hd).symm)]; exact Finset.mem_singleton_self _)
      () () (amt ra) hN ((amount_dma I c sa _ 0).trans ha) (amount_dma I (peer c d) ra _ 0) (O c (i + 1)) hO (W := W)
      (by rw [payload_dma]; exact hp₁) (by rw [payload_dma]; exact hp₂)) $$ [HO Hs Hd Ht Ht']
  · isplitr; · iapply (inv_at I K (c, some (sa, z c + d))); iexact HR
    isplitr; · iapply (inv_at I K (peer c d, some (ra, z c))); iexact HR
    isplitl [Hs]; · iexact Hs
    isplitl [Hd]; · iexact Hd
    isplitl [HO]; · iexact HO
    isplitl [Ht]; · iexact Ht
    isplitr; · iapply (reached_at I K (c, some (sa, z c + d))); iexact HR
    isplitl [Ht']; · iexact Ht'
    iapply (reached_at I K (peer c d, some (ra, z c))); iexact HR
  iintro ⟨Hc, HO⟩
  iapply Hk
  isplitl [HO]; · iexists W; iexact HO
  isplitl [Hc]; · rw [ha]; iexact Hc
  iexact Hat

end

/-! ## The copies -/

theorem xM_of (j : Fin 4) (off : Fin 3 → ℕ) (h : off = ![j.val, 0, 0]) (hb : ∀ a, off a + S1x128x512.size a ≤ S4x128x512.size a) :
    ((Memref.whole cc0_scratch0 : Memref sig .tc .vmem S4x128x512 .bf16).slice (Rect.unit (s := S4x128x512) off S1x128x512.size hb) (fun _ => rfl)).squeeze S128x512 squeezes_S1x128x512_S128x512 = xM j := by subst h; rfl
theorem rM_of (j : Fin 4) (off : Fin 3 → ℕ) (h : off = ![j.val, 0, 0]) (hb : ∀ a, off a + S1x2x512.size a ≤ S4x2x512.size a) :
    ((Memref.whole cc0_scratch1 : Memref sig .tc .vmem S4x2x512 .f32).slice (Rect.unit (s := S4x2x512) off S1x2x512.size hb) (fun _ => rfl)).squeeze S2x512 squeezes_S1x2x512_S2x512 = rM j := by subst h; rfl
theorem wM_of (j : Fin 4) (off : Fin 3 → ℕ) (h : off = ![j.val, 0, 0]) (hb : ∀ a, off a + S1x8x128.size a ≤ S4x8x128.size a) :
    ((Memref.whole cc0_scratch2 : Memref sig .tc .vmem S4x8x128 .f32).slice (Rect.unit (s := S4x8x128) off S1x8x128.size hb) (fun _ => rfl)).squeeze S8x128 squeezes_S1x8x128_S8x128 = wM j := by subst h; rfl
theorem uM_of (j : Fin 4) (off : Fin 3 → ℕ) (h : off = ![j.val, 0, 0]) (hb : ∀ a, off a + S1x128x512.size a ≤ S4x128x512.size a) :
    ((Memref.whole cc0_scratch3 : Memref sig .tc .vmem S4x128x512 .bf16).slice (Rect.unit (s := S4x128x512) off S1x128x512.size hb) (fun _ => rfl)).squeeze S128x512 squeezes_S1x128x512_S128x512 = uM j := by subst h; rfl
theorem vM_of (j : Fin 4) (off : Fin 3 → ℕ) (h : off = ![j.val, 0, 0]) (hb : ∀ a, off a + S1x128x512.size a ≤ S4x128x512.size a) :
    ((Memref.whole cc0_scratch4 : Memref sig .tc .vmem S4x128x512 .bf16).slice (Rect.unit (s := S4x128x512) off S1x128x512.size hb) (fun _ => rfl)).squeeze S128x512 squeezes_S1x128x512_S128x512 = vM j := by subst h; rfl

theorem credit_x (j : Fin 4) : (xM j).view.dmaCredit = NX := rfl
theorem credit_r (j : Fin 4) : (rM j).view.dmaCredit = NR := rfl
theorem credit_w (j : Fin 4) : (wM j).view.dmaCredit = NW := rfl
theorem credit_u (j : Fin 4) : (uM j).view.dmaCredit = NX := rfl
theorem credit_v (j : Fin 4) : (vM j).view.dmaCredit = NX := rfl

theorem uG_vG (I : Ins F) (c : Dev nD) {d : Fin 4} (hd : d ≠ 0) : uG I c (z c + d) = vG I (peer c d) (z c) := by
  unfold vG
  rw [z_peer, if_neg (add_ne c hd).symm, at_peer, at_z]

/-- What a landing of x leaves in the peer's slot. -/
theorem land_x (I : Ins F) (c : Dev nD) (d : Fin 4) (f : Vec F S4x128x512 .bf16) :
    (((xM (z c)).view.loc (peer c d : Thread nD τ)) ↦[(xM (z c)).view.set]{fullShare} ((xM (z c)).view.write (Elt F) f ((xM (z c)).view.read (Elt F) (xA I c)) Finset.univ) : sProp 𝕄)
      = xs (peer c d) (z c) fullShare (xA I (peer c d)) := by
  rw [xs_eq, peer, xA_at]
  exact pointsTo_congr (copy_slot (v := View.whole cc0_scratch0) (v' := View.whole cc0_scratch0) (j := z c) (k := z c)
    (h := squeezes_S1x128x512_S128x512.numel_eq) (h' := squeezes_S1x128x512_S128x512.numel_eq) (xA I c) f (xA I c) fun _ => rfl)

/-- What a landing of r leaves in the peer's slot. -/
theorem land_r (I : Ins F) (c : Dev nD) (d : Fin 4) (f : Vec F S4x2x512 .f32) :
    (((rM (z c)).view.loc (peer c d : Thread nD τ)) ↦[(rM (z c)).view.set]{fullShare} ((rM (z c)).view.write (Elt F) f ((rM (z c)).view.read (Elt F) (rA I c)) Finset.univ) : sProp 𝕄)
      = rs (peer c d) (z c) fullShare (rA I (peer c d)) := by
  rw [rs_eq, peer, rA_at]
  exact pointsTo_congr (copy_slot (v := View.whole cc0_scratch1) (v' := View.whole cc0_scratch1) (j := z c) (k := z c)
    (h := squeezes_S1x2x512_S2x512.numel_eq) (h' := squeezes_S1x2x512_S2x512.numel_eq) (rA I c) f (rA I c) fun _ => rfl)

/-- What a landing of w leaves in the peer's slot. -/
theorem land_w (I : Ins F) (c : Dev nD) (d : Fin 4) (f : Vec F S4x8x128 .f32) :
    (((wM (z c)).view.loc (peer c d : Thread nD τ)) ↦[(wM (z c)).view.set]{fullShare} ((wM (z c)).view.write (Elt F) f ((wM (z c)).view.read (Elt F) (wA I c)) Finset.univ) : sProp 𝕄)
      = ws (peer c d) (z c) fullShare (wA I (peer c d)) := by
  rw [ws_eq, peer, wA_at]
  exact pointsTo_congr (copy_slot (v := View.whole cc0_scratch2) (v' := View.whole cc0_scratch2) (j := z c) (k := z c)
    (h := squeezes_S1x8x128_S8x128.numel_eq) (h' := squeezes_S1x8x128_S8x128.numel_eq) (wA I c) f (wA I c) fun _ => rfl)

theorem land_p (I : Ins F) (c : Dev nD) {d : Fin 4} (hd : d ≠ 0) (f : Vec F S4x128x512 .bf16) :
    (((vM (z c)).view.loc (peer c d : Thread nD τ)) ↦[(vM (z c)).view.set]{fullShare} ((vM (z c)).view.write (Elt F) f ((uM (z c + d)).view.read (Elt F) (uA I c)) Finset.univ) : sProp 𝕄)
      = vs (peer c d) (z c) fullShare (vA I (peer c d)) := by
  rw [vs_eq]
  exact pointsTo_congr (copy_slot (v := View.whole cc0_scratch3) (v' := View.whole cc0_scratch4) (j := z c + d) (k := z c)
    (h := squeezes_S1x128x512_S128x512.numel_eq) (h' := squeezes_S1x128x512_S128x512.numel_eq) (uA I c) f (vA I (peer c d)) fun y =>
        (stack_emb (uG I c) (z c + d) y).trans ((congrFun (uG_vG I c hd) y).trans (stack_emb (vG I (peer c d)) (z c) y).symm))

section
variable (I : Ins F) (K : CK → ℕ)

/-- A device sends its block of `x` to the peer `d` steps on. -/
theorem send_x {α : Type} {Q : α → sProp 𝕄} {k : PUnit → Prog (TpuEff nD τ sig (Elt F) Λ₀ .tc) α} (c n : Dev nD) (d : Fin 4) (hd : d ≠ 0) (hn : n = peer c d) (i : ℕ)
    {src : Memref sig .tc .vmem S128x512 .bf16} {dst : Memref sig (Dev.tc n : Thread nD τ).2.kind .vmem S128x512 .bf16} {sS rS : DmaSem sig}
    {hsc : dst.view.ref.isScScratch = false} {hsrc : src.view.WordExact} {hdst : dst.view.WordExact}
    {hsem : DmaTarget.Typed .vmem (.dma rS) (.remote (Dev.tc n : Thread nD τ) dst (.dma sS) hsc)}
    (hs : src = xM (z c)) (hd' : dst = xM (z c)) (hS : sS = dsem 0 (z c + d)) (hR : rS = dsem 1 (z c))
    (hO : O c i = O c (i + 1) + tallyAt (dcell (peer c d) 1 (z c)) () (amt 1)) :
    iprop(records I K ∗ ow c i ∗ xs c (z c) (shr d) (xA I c) ∗ (∃ f, xs (peer c d) (z c) fullShare f) ∗ sk c 0 1 d)
      ⊢ iprop(((ow c (i + 1) ∗ rk c 0 d)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) k) Q) := by
  subst hs hd' hn
  iintro ⟨HR, HO, Hs, ⟨%f, Hd⟩, Hk⟩
  iapply (st_send I K c (peer c d) d hd rfl i 0 1 (src := xM (z c)) (dst := xM (z c)) (hsc := hsc) (hsrc := hsrc) (hdst := hdst) (hsem := hsem) (k := k) (Q := Q) hS hR hO (credit_x (z c)) rfl (q := (shr d)) (xA I c) f
    (by show _ ⊢ dmaPay I c 0 (z c + d)
        have e : dmaPay I c 0 (z c + d) = xs c (z c) (shr d) (xA I c) := by unfold dmaPay; dsimp only; rw [sub_z]
        rw [e, xs_eq])
    (Entails.of_eq (land_x I c d f))) $$ [HR HO Hs Hd Hk]
  isplitl [HR]; · iexact HR
  isplitl [HO]; · iexact HO
  isplitl [Hs]; · iapply (Entails.of_eq (xs_eq c (z c) (shr d) (xA I c))); iexact Hs
  isplitl [Hd]; · iapply (Entails.of_eq (xs_eq (peer c d) (z c) fullShare f)); iexact Hd
  iexact Hk

/-- A device sends its block of the router to the peer `d` steps on. -/
theorem send_r {α : Type} {Q : α → sProp 𝕄} {k : PUnit → Prog (TpuEff nD τ sig (Elt F) Λ₀ .tc) α} (c n : Dev nD) (d : Fin 4) (hd : d ≠ 0) (hn : n = peer c d) (i : ℕ)
    {src : Memref sig .tc .vmem S2x512 .f32} {dst : Memref sig (Dev.tc n : Thread nD τ).2.kind .vmem S2x512 .f32} {sS rS : DmaSem sig}
    {hsc : dst.view.ref.isScScratch = false} {hsrc : src.view.WordExact} {hdst : dst.view.WordExact}
    {hsem : DmaTarget.Typed .vmem (.dma rS) (.remote (Dev.tc n : Thread nD τ) dst (.dma sS) hsc)}
    (hs : src = rM (z c)) (hd' : dst = rM (z c)) (hS : sS = dsem 2 (z c + d)) (hR : rS = dsem 3 (z c))
    (hO : O c i = O c (i + 1) + tallyAt (dcell (peer c d) 3 (z c)) () (amt 3)) :
    iprop(records I K ∗ ow c i ∗ rs c (z c) (shr d) (rA I c) ∗ (∃ f, rs (peer c d) (z c) fullShare f) ∗ sk c 2 3 d)
      ⊢ iprop(((ow c (i + 1) ∗ rk c 2 d)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) k) Q) := by
  subst hs hd' hn
  iintro ⟨HR, HO, Hs, ⟨%f, Hd⟩, Hk⟩
  iapply (st_send I K c (peer c d) d hd rfl i 2 3 (src := rM (z c)) (dst := rM (z c)) (hsc := hsc) (hsrc := hsrc) (hdst := hdst) (hsem := hsem) (k := k) (Q := Q) hS hR hO (credit_r (z c)) rfl (q := (shr d)) (rA I c) f
    (by show _ ⊢ dmaPay I c 2 (z c + d)
        have e : dmaPay I c 2 (z c + d) = rs c (z c) (shr d) (rA I c) := by unfold dmaPay; dsimp only; rw [sub_z]
        rw [e, rs_eq])
    (Entails.of_eq (land_r I c d f))) $$ [HR HO Hs Hd Hk]
  isplitl [HR]; · iexact HR
  isplitl [HO]; · iexact HO
  isplitl [Hs]; · iapply (Entails.of_eq (rs_eq c (z c) (shr d) (rA I c))); iexact Hs
  isplitl [Hd]; · iapply (Entails.of_eq (rs_eq (peer c d) (z c) fullShare f)); iexact Hd
  iexact Hk

/-- A device sends its routing weights to the peer `d` steps on. -/
theorem send_w {α : Type} {Q : α → sProp 𝕄} {k : PUnit → Prog (TpuEff nD τ sig (Elt F) Λ₀ .tc) α} (c n : Dev nD) (d : Fin 4) (hd : d ≠ 0) (hn : n = peer c d) (i : ℕ)
    {src : Memref sig .tc .vmem S8x128 .f32} {dst : Memref sig (Dev.tc n : Thread nD τ).2.kind .vmem S8x128 .f32} {sS rS : DmaSem sig}
    {hsc : dst.view.ref.isScScratch = false} {hsrc : src.view.WordExact} {hdst : dst.view.WordExact}
    {hsem : DmaTarget.Typed .vmem (.dma rS) (.remote (Dev.tc n : Thread nD τ) dst (.dma sS) hsc)}
    (hs : src = wM (z c)) (hd' : dst = wM (z c)) (hS : sS = dsem 4 (z c + d)) (hR : rS = dsem 5 (z c))
    (hO : O c i = O c (i + 1) + tallyAt (dcell (peer c d) 5 (z c)) () (amt 5)) :
    iprop(records I K ∗ ow c i ∗ ws c (z c) (shr d) (wA I c) ∗ (∃ f, ws (peer c d) (z c) fullShare f) ∗ sk c 4 5 d)
      ⊢ iprop(((ow c (i + 1) ∗ rk c 4 d)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) k) Q) := by
  subst hs hd' hn
  iintro ⟨HR, HO, Hs, ⟨%f, Hd⟩, Hk⟩
  iapply (st_send I K c (peer c d) d hd rfl i 4 5 (src := wM (z c)) (dst := wM (z c)) (hsc := hsc) (hsrc := hsrc) (hdst := hdst) (hsem := hsem) (k := k) (Q := Q) hS hR hO (credit_w (z c)) rfl (q := (shr d)) (wA I c) f
    (by show _ ⊢ dmaPay I c 4 (z c + d)
        have e : dmaPay I c 4 (z c + d) = ws c (z c) (shr d) (wA I c) := by unfold dmaPay; dsimp only; rw [sub_z]
        rw [e, ws_eq])
    (Entails.of_eq (land_w I c d f))) $$ [HR HO Hs Hd Hk]
  isplitl [HR]; · iexact HR
  isplitl [HO]; · iexact HO
  isplitl [Hs]; · iapply (Entails.of_eq (ws_eq c (z c) (shr d) (wA I c))); iexact Hs
  isplitl [Hd]; · iapply (Entails.of_eq (ws_eq (peer c d) (z c) fullShare f)); iexact Hd
  iexact Hk

/-- A device sends the sums of the peer `d` steps on to that peer. -/
theorem send_p {α : Type} {Q : α → sProp 𝕄} {k : PUnit → Prog (TpuEff nD τ sig (Elt F) Λ₀ .tc) α} (c n : Dev nD) (d : Fin 4) (hd : d ≠ 0) (hn : n = peer c d) (i : ℕ)
    {src : Memref sig .tc .vmem S128x512 .bf16} {dst : Memref sig (Dev.tc n : Thread nD τ).2.kind .vmem S128x512 .bf16} {sS rS : DmaSem sig}
    {hsc : dst.view.ref.isScScratch = false} {hsrc : src.view.WordExact} {hdst : dst.view.WordExact}
    {hsem : DmaTarget.Typed .vmem (.dma rS) (.remote (Dev.tc n : Thread nD τ) dst (.dma sS) hsc)}
    (hs : src = uM (z c + d)) (hd' : dst = vM (z c)) (hS : sS = dsem 6 (z c + d)) (hR : rS = dsem 7 (z c))
    (hO : O c i = O c (i + 1) + tallyAt (dcell (peer c d) 7 (z c)) () (amt 7)) :
    iprop(records I K ∗ ow c i ∗ us c (z c + d) fullShare (uA I c) ∗ (∃ f, vs (peer c d) (z c) fullShare f) ∗ sk c 6 7 d)
      ⊢ iprop(((ow c (i + 1) ∗ rk c 6 d)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) k) Q) := by
  subst hs hd' hn
  iintro ⟨HR, HO, Hs, ⟨%f, Hd⟩, Hk⟩
  iapply (st_send I K c (peer c d) d hd rfl i 6 7 (src := uM (z c + d)) (dst := vM (z c)) (hsc := hsc) (hsrc := hsrc) (hdst := hdst) (hsem := hsem) (k := k) (Q := Q) hS hR hO (credit_v (z c)) rfl (q := fullShare) (uA I c) f
    (by show _ ⊢ dmaPay I c 6 (z c + d)
        have e : dmaPay I c 6 (z c + d) = us c (z c + d) fullShare (uA I c) := by unfold dmaPay; dsimp only
        rw [e, us_eq])
    (Entails.of_eq (land_p I c hd f))) $$ [HR HO Hs Hd Hk]
  isplitl [HR]; · iexact HR
  isplitl [HO]; · iexact HO
  isplitl [Hs]; · iapply (Entails.of_eq (us_eq c (z c + d) fullShare (uA I c))); iexact Hs
  isplitl [Hd]; · iapply (Entails.of_eq (vs_eq (peer c d) (z c) fullShare f)); iexact Hd
  iexact Hk

end

theorem o1_eq (c : Dev nD) : k0_off1 c = ![(z c).val, 0, 0] := k0_off1_eq c
theorem o2_eq (c : Dev nD) : k0_off2 c = ![(z c).val, 0, 0] := k0_off2_eq c
theorem o4_eq (c : Dev nD) : k0_off4 c = ![(z c).val] := k0_off4_eq c
theorem o5_eq (c : Dev nD) : k0_off5 c = ![(z c).val, 0, 0] := k0_off5_eq c
theorem o6_eq (c : Dev nD) : k0_off6 c = ![(z c).val, 0, 0] := k0_off6_eq c
theorem o8_eq (c : Dev nD) : k0_off8 c = ![(z c).val, 0, 0] := k0_off8_eq c
theorem o9_eq (c : Dev nD) : k0_off9 c = ![(z c).val, 0, 0] := k0_off9_eq c

/-! ## The waits, by array -/

section
variable (I : Ins F) (K : CK → ℕ)

/-- The wait for the send of `x` to a peer. -/
theorem wt0 {α : Type} {Q : α → sProp 𝕄} {k : PUnit → Prog (TpuEff nD τ sig (Elt F) Λ₀ .tc) α} (c : Dev nD) (d : Fin 4) (hd : d ≠ 0) (i : ℕ)
    (hl : ∀ x ∈ ([1, 1, 1, 2, 2, 2, 2, 2, 2, 3, 3, 3, 4, 4, 4] : List ℕ).drop i, lvA 0 < x)
    {sp' : Space} {s' : Shape} {e' : EltTy} {sem : DmaSem sig} {src : Memref sig .tc sp' s' e'} {dst : Memref sig .tc .vmem S128x512 .bf16}
    {hsrc : src.view.WordExact} {hdst : dst.view.WordExact} (hs : sem = dsem 0 (z c + d)) (hD : dst = xM (z c)) :
    iprop(records I K ∗ levAts L lv ∗ ow c i ∗ rk c 0 d)
      ⊢ iprop(((ow c i ∗ zk c 0 d ∗ xs c (z c) (shr d) (xA I c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hD
  have e : dmaPay I c 0 (z c + d) = xs c (z c) (shr d) (xA I c) := by unfold dmaPay; dsimp only; rw [sub_z]
  have H := st_wait I K c 0 d hd i hl (src := src) (dst := xM (z c)) (hsrc := hsrc) (hdst := hdst) (k := k) (Q := Q) hs (credit_x (z c))
  rw [e] at H
  exact H

/-- The wait for a peer's `x`. -/
theorem wt1 {α : Type} {Q : α → sProp 𝕄} {k : PUnit → Prog (TpuEff nD τ sig (Elt F) Λ₀ .tc) α} (c : Dev nD) (d : Fin 4) (hd : d ≠ 0) (i : ℕ)
    (hl : ∀ x ∈ ([1, 1, 1, 2, 2, 2, 2, 2, 2, 3, 3, 3, 4, 4, 4] : List ℕ).drop i, lvA 1 < x)
    {sp' : Space} {s' : Shape} {e' : EltTy} {sem : DmaSem sig} {src : Memref sig .tc sp' s' e'} {dst : Memref sig .tc .vmem S128x512 .bf16}
    {hsrc : src.view.WordExact} {hdst : dst.view.WordExact} (hs : sem = dsem 1 (z c + d)) (hD : dst = xM (z c + d)) :
    iprop(records I K ∗ levAts L lv ∗ ow c i ∗ rk c 1 d)
      ⊢ iprop(((ow c i ∗ zk c 1 d ∗ xs c (z c + d) fullShare (xA I c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hD
  have e : dmaPay I c 1 (z c + d) = xs c (z c + d) fullShare (xA I c) := by unfold dmaPay; dsimp only
  have H := st_wait I K c 1 d hd i hl (src := src) (dst := xM (z c + d)) (hsrc := hsrc) (hdst := hdst) (k := k) (Q := Q) hs (credit_x (z c + d))
  rw [e] at H
  exact H

/-- The wait for the send of the router to a peer. -/
theorem wt2 {α : Type} {Q : α → sProp 𝕄} {k : PUnit → Prog (TpuEff nD τ sig (Elt F) Λ₀ .tc) α} (c : Dev nD) (d : Fin 4) (hd : d ≠ 0) (i : ℕ)
    (hl : ∀ x ∈ ([1, 1, 1, 2, 2, 2, 2, 2, 2, 3, 3, 3, 4, 4, 4] : List ℕ).drop i, lvA 2 < x)
    {sp' : Space} {s' : Shape} {e' : EltTy} {sem : DmaSem sig} {src : Memref sig .tc sp' s' e'} {dst : Memref sig .tc .vmem S2x512 .f32}
    {hsrc : src.view.WordExact} {hdst : dst.view.WordExact} (hs : sem = dsem 2 (z c + d)) (hD : dst = rM (z c)) :
    iprop(records I K ∗ levAts L lv ∗ ow c i ∗ rk c 2 d)
      ⊢ iprop(((ow c i ∗ zk c 2 d ∗ rs c (z c) (shr d) (rA I c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hD
  have e : dmaPay I c 2 (z c + d) = rs c (z c) (shr d) (rA I c) := by unfold dmaPay; dsimp only; rw [sub_z]
  have H := st_wait I K c 2 d hd i hl (src := src) (dst := rM (z c)) (hsrc := hsrc) (hdst := hdst) (k := k) (Q := Q) hs (credit_r (z c))
  rw [e] at H
  exact H

/-- The wait for a peer's router block. -/
theorem wt3 {α : Type} {Q : α → sProp 𝕄} {k : PUnit → Prog (TpuEff nD τ sig (Elt F) Λ₀ .tc) α} (c : Dev nD) (d : Fin 4) (hd : d ≠ 0) (i : ℕ)
    (hl : ∀ x ∈ ([1, 1, 1, 2, 2, 2, 2, 2, 2, 3, 3, 3, 4, 4, 4] : List ℕ).drop i, lvA 3 < x)
    {sp' : Space} {s' : Shape} {e' : EltTy} {sem : DmaSem sig} {src : Memref sig .tc sp' s' e'} {dst : Memref sig .tc .vmem S2x512 .f32}
    {hsrc : src.view.WordExact} {hdst : dst.view.WordExact} (hs : sem = dsem 3 (z c + d)) (hD : dst = rM (z c + d)) :
    iprop(records I K ∗ levAts L lv ∗ ow c i ∗ rk c 3 d)
      ⊢ iprop(((ow c i ∗ zk c 3 d ∗ rs c (z c + d) fullShare (rA I c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hD
  have e : dmaPay I c 3 (z c + d) = rs c (z c + d) fullShare (rA I c) := by unfold dmaPay; dsimp only
  have H := st_wait I K c 3 d hd i hl (src := src) (dst := rM (z c + d)) (hsrc := hsrc) (hdst := hdst) (k := k) (Q := Q) hs (credit_r (z c + d))
  rw [e] at H
  exact H

/-- The wait for the send of the weights to a peer. -/
theorem wt4 {α : Type} {Q : α → sProp 𝕄} {k : PUnit → Prog (TpuEff nD τ sig (Elt F) Λ₀ .tc) α} (c : Dev nD) (d : Fin 4) (hd : d ≠ 0) (i : ℕ)
    (hl : ∀ x ∈ ([1, 1, 1, 2, 2, 2, 2, 2, 2, 3, 3, 3, 4, 4, 4] : List ℕ).drop i, lvA 4 < x)
    {sp' : Space} {s' : Shape} {e' : EltTy} {sem : DmaSem sig} {src : Memref sig .tc sp' s' e'} {dst : Memref sig .tc .vmem S8x128 .f32}
    {hsrc : src.view.WordExact} {hdst : dst.view.WordExact} (hs : sem = dsem 4 (z c + d)) (hD : dst = wM (z c)) :
    iprop(records I K ∗ levAts L lv ∗ ow c i ∗ rk c 4 d)
      ⊢ iprop(((ow c i ∗ zk c 4 d ∗ ws c (z c) (shr d) (wA I c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hD
  have e : dmaPay I c 4 (z c + d) = ws c (z c) (shr d) (wA I c) := by unfold dmaPay; dsimp only; rw [sub_z]
  have H := st_wait I K c 4 d hd i hl (src := src) (dst := wM (z c)) (hsrc := hsrc) (hdst := hdst) (k := k) (Q := Q) hs (credit_w (z c))
  rw [e] at H
  exact H

/-- The wait for a peer's weights. -/
theorem wt5 {α : Type} {Q : α → sProp 𝕄} {k : PUnit → Prog (TpuEff nD τ sig (Elt F) Λ₀ .tc) α} (c : Dev nD) (d : Fin 4) (hd : d ≠ 0) (i : ℕ)
    (hl : ∀ x ∈ ([1, 1, 1, 2, 2, 2, 2, 2, 2, 3, 3, 3, 4, 4, 4] : List ℕ).drop i, lvA 5 < x)
    {sp' : Space} {s' : Shape} {e' : EltTy} {sem : DmaSem sig} {src : Memref sig .tc sp' s' e'} {dst : Memref sig .tc .vmem S8x128 .f32}
    {hsrc : src.view.WordExact} {hdst : dst.view.WordExact} (hs : sem = dsem 5 (z c + d)) (hD : dst = wM (z c + d)) :
    iprop(records I K ∗ levAts L lv ∗ ow c i ∗ rk c 5 d)
      ⊢ iprop(((ow c i ∗ zk c 5 d ∗ ws c (z c + d) fullShare (wA I c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hD
  have e : dmaPay I c 5 (z c + d) = ws c (z c + d) fullShare (wA I c) := by unfold dmaPay; dsimp only
  have H := st_wait I K c 5 d hd i hl (src := src) (dst := wM (z c + d)) (hsrc := hsrc) (hdst := hdst) (k := k) (Q := Q) hs (credit_w (z c + d))
  rw [e] at H
  exact H

/-- The wait for the send of sums to a peer. -/
theorem wt6 {α : Type} {Q : α → sProp 𝕄} {k : PUnit → Prog (TpuEff nD τ sig (Elt F) Λ₀ .tc) α} (c : Dev nD) (d : Fin 4) (hd : d ≠ 0) (i : ℕ)
    (hl : ∀ x ∈ ([1, 1, 1, 2, 2, 2, 2, 2, 2, 3, 3, 3, 4, 4, 4] : List ℕ).drop i, lvA 6 < x)
    {sp' : Space} {s' : Shape} {e' : EltTy} {sem : DmaSem sig} {src : Memref sig .tc sp' s' e'} {dst : Memref sig .tc .vmem S128x512 .bf16}
    {hsrc : src.view.WordExact} {hdst : dst.view.WordExact} (hs : sem = dsem 6 (z c + d)) (hD : dst = uM (z c + d)) :
    iprop(records I K ∗ levAts L lv ∗ ow c i ∗ rk c 6 d)
      ⊢ iprop(((ow c i ∗ zk c 6 d ∗ us c (z c + d) fullShare (uA I c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hD
  have e : dmaPay I c 6 (z c + d) = us c (z c + d) fullShare (uA I c) := by unfold dmaPay; dsimp only
  have H := st_wait I K c 6 d hd i hl (src := src) (dst := uM (z c + d)) (hsrc := hsrc) (hdst := hdst) (k := k) (Q := Q) hs (credit_u (z c + d))
  rw [e] at H
  exact H

/-- The wait for a peer's sums. -/
theorem wt7 {α : Type} {Q : α → sProp 𝕄} {k : PUnit → Prog (TpuEff nD τ sig (Elt F) Λ₀ .tc) α} (c : Dev nD) (d : Fin 4) (hd : d ≠ 0) (i : ℕ)
    (hl : ∀ x ∈ ([1, 1, 1, 2, 2, 2, 2, 2, 2, 3, 3, 3, 4, 4, 4] : List ℕ).drop i, lvA 7 < x)
    {sp' : Space} {s' : Shape} {e' : EltTy} {sem : DmaSem sig} {src : Memref sig .tc sp' s' e'} {dst : Memref sig .tc .vmem S128x512 .bf16}
    {hsrc : src.view.WordExact} {hdst : dst.view.WordExact} (hs : sem = dsem 7 (z c + d)) (hD : dst = vM (z c + d)) :
    iprop(records I K ∗ levAts L lv ∗ ow c i ∗ rk c 7 d)
      ⊢ iprop(((ow c i ∗ zk c 7 d ∗ vs c (z c + d) fullShare (vA I c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hD
  have e : dmaPay I c 7 (z c + d) = vs c (z c + d) fullShare (vA I c) := by unfold dmaPay; dsimp only
  have H := st_wait I K c 7 d hd i hl (src := src) (dst := vM (z c + d)) (hsrc := hsrc) (hdst := hdst) (k := k) (Q := Q) hs (credit_v (z c + d))
  rw [e] at H
  exact H

end

/-! ## Reading and rewriting one slot -/

section
variable {α : Type}

/-- A read of slot `j`. -/
theorem ld_x {Q : α → sProp 𝕄} (c : Dev nD) (j : Fin 4) (q : PosShare TreeShare) {off : Fin 3 → ℕ} (ho : off = ![j.val, 0, 0])
    {hb : ∀ a, off a + S1x128x512.size a ≤ S4x128x512.size a} {hl} {k : Vec F S1x128x512 .bf16 → Prog (TpuEff nD τ sig (Elt F) Λ₀ .tc) α} (f : Vec F S4x128x512 .bf16) (v : Vec F S1x128x512 .bf16) (hv : ∀ y, f ((slotR 128 512 j).emb y) = v y) :
    xs c j q f ⊢ iprop((xs c j q f -∗ wp frame (wpE (defs₀ (F := F)) 𝒱₀ (c : Thread nD τ) none) Set.univ (k v) Q)
      -∗ wp frame (wpE (defs₀ (F := F)) 𝒱₀ (c : Thread nD τ) none) Set.univ (.op (.load (Memref.whole cc0_scratch0 : Memref sig .tc .vmem S4x128x512 .bf16) (Rect.unit (s := S4x128x512) off S1x128x512.size hb).toLoadRect hl) k) Q) := by
  subst ho
  obtain rfl := funext hv
  unfold xs
  exact wp_load_rect 𝒱₀ (c : Thread nD τ) none Set.univ (m := Memref.whole cc0_scratch0) (r := slotR 128 512 j) (le_of_eq (View.set_slice_whole cc0_scratch0 (slotR 128 512 j)))
/-- A read of slot `j` where the slots' contents are known. -/
theorem ld_x' {Q : α → sProp 𝕄} (c : Dev nD) (j : Fin 4) (q : PosShare TreeShare) {off : Fin 3 → ℕ} (ho : off = ![j.val, 0, 0])
    {hb : ∀ a, off a + S1x128x512.size a ≤ S4x128x512.size a} {hl} {k : Vec F S1x128x512 .bf16 → Prog (TpuEff nD τ sig (Elt F) Λ₀ .tc) α} (g : Fin 4 → Vec F S1x128x512 .bf16) :
    xs c j q (stack (a := 128) (b := 512) g) ⊢ iprop((xs c j q (stack (a := 128) (b := 512) g) -∗ wp frame (wpE (defs₀ (F := F)) 𝒱₀ (c : Thread nD τ) none) Set.univ (k (g j)) Q)
      -∗ wp frame (wpE (defs₀ (F := F)) 𝒱₀ (c : Thread nD τ) none) Set.univ (.op (.load (Memref.whole cc0_scratch0 : Memref sig .tc .vmem S4x128x512 .bf16) (Rect.unit (s := S4x128x512) off S1x128x512.size hb).toLoadRect hl) k) Q) := by
  exact ld_x c j q ho (stack (a := 128) (b := 512) g) (g j) fun y => stack_emb g j y
/-- A rewriting of slot `j`. -/
theorem sto_x {Q : α → sProp 𝕄} (c : Dev nD) (j : Fin 4) {off : Fin 3 → ℕ} (ho : off = ![j.val, 0, 0])
    {hb : ∀ a, off a + S1x128x512.size a ≤ S4x128x512.size a} {w : Vec F S1x128x512 .bf16} {hx hm} {k : PUnit → Prog (TpuEff nD τ sig (Elt F) Λ₀ .tc) α} (f : Vec F S4x128x512 .bf16) (g : Fin 4 → Vec F S1x128x512 .bf16) (hw : w = g j) :
    xs c j fullShare f ⊢ iprop((xs c j fullShare (stack (a := 128) (b := 512) g) -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch0 : Memref sig .tc .vmem S4x128x512 .bf16) (Rect.unit (s := S4x128x512) off S1x128x512.size hb) w Finset.univ hx hm) k) Q) := by
  subst ho
  have e : ((((c : Thread nD τ).loc cc0_scratch0) ↦[slotS 128 512 j]{fullShare} (((Memref.whole cc0_scratch0 : Memref sig .tc .vmem S4x128x512 .bf16).access (slotR 128 512 j)).write (Elt F) f w Finset.univ)) : sProp 𝕄)
      = xs c j fullShare (stack (a := 128) (b := 512) g) :=
    pointsTo_congr fun i hi => store_slot (v := (Memref.whole cc0_scratch0 : Memref sig .tc .vmem S4x128x512 .bf16).view) f (stack (a := 128) (b := 512) g) w
      (fun y => (congrFun hw y).trans (stack_emb g j y).symm) i (le_of_eq (View.set_slice_whole cc0_scratch0 (slotR 128 512 j)).symm hi)
  rw [← e]
  unfold xs
  exact wp_store 𝒱₀ (c : Thread nD τ) none Set.univ (m := Memref.whole cc0_scratch0) (r := slotR 128 512 j) (le_of_eq (View.set_slice_whole cc0_scratch0 (slotR 128 512 j)))

/-- A read of slot `j`. -/
theorem ld_r {Q : α → sProp 𝕄} (c : Dev nD) (j : Fin 4) (q : PosShare TreeShare) {off : Fin 3 → ℕ} (ho : off = ![j.val, 0, 0])
    {hb : ∀ a, off a + S1x2x512.size a ≤ S4x2x512.size a} {hl} {k : Vec F S1x2x512 .f32 → Prog (TpuEff nD τ sig (Elt F) Λ₀ .tc) α} (f : Vec F S4x2x512 .f32) (v : Vec F S1x2x512 .f32) (hv : ∀ y, f ((slotR 2 512 j).emb y) = v y) :
    rs c j q f ⊢ iprop((rs c j q f -∗ wp frame (wpE (defs₀ (F := F)) 𝒱₀ (c : Thread nD τ) none) Set.univ (k v) Q)
      -∗ wp frame (wpE (defs₀ (F := F)) 𝒱₀ (c : Thread nD τ) none) Set.univ (.op (.load (Memref.whole cc0_scratch1 : Memref sig .tc .vmem S4x2x512 .f32) (Rect.unit (s := S4x2x512) off S1x2x512.size hb).toLoadRect hl) k) Q) := by
  subst ho
  obtain rfl := funext hv
  unfold rs
  exact wp_load_rect 𝒱₀ (c : Thread nD τ) none Set.univ (m := Memref.whole cc0_scratch1) (r := slotR 2 512 j) (le_of_eq (View.set_slice_whole cc0_scratch1 (slotR 2 512 j)))
/-- A read of slot `j` where the slots' contents are known. -/
theorem ld_r' {Q : α → sProp 𝕄} (c : Dev nD) (j : Fin 4) (q : PosShare TreeShare) {off : Fin 3 → ℕ} (ho : off = ![j.val, 0, 0])
    {hb : ∀ a, off a + S1x2x512.size a ≤ S4x2x512.size a} {hl} {k : Vec F S1x2x512 .f32 → Prog (TpuEff nD τ sig (Elt F) Λ₀ .tc) α} (g : Fin 4 → Vec F S1x2x512 .f32) :
    rs c j q (stack (a := 2) (b := 512) g) ⊢ iprop((rs c j q (stack (a := 2) (b := 512) g) -∗ wp frame (wpE (defs₀ (F := F)) 𝒱₀ (c : Thread nD τ) none) Set.univ (k (g j)) Q)
      -∗ wp frame (wpE (defs₀ (F := F)) 𝒱₀ (c : Thread nD τ) none) Set.univ (.op (.load (Memref.whole cc0_scratch1 : Memref sig .tc .vmem S4x2x512 .f32) (Rect.unit (s := S4x2x512) off S1x2x512.size hb).toLoadRect hl) k) Q) := by
  exact ld_r c j q ho (stack (a := 2) (b := 512) g) (g j) fun y => stack_emb g j y
/-- A rewriting of slot `j`. -/
theorem sto_r {Q : α → sProp 𝕄} (c : Dev nD) (j : Fin 4) {off : Fin 3 → ℕ} (ho : off = ![j.val, 0, 0])
    {hb : ∀ a, off a + S1x2x512.size a ≤ S4x2x512.size a} {w : Vec F S1x2x512 .f32} {hx hm} {k : PUnit → Prog (TpuEff nD τ sig (Elt F) Λ₀ .tc) α} (f : Vec F S4x2x512 .f32) (g : Fin 4 → Vec F S1x2x512 .f32) (hw : w = g j) :
    rs c j fullShare f ⊢ iprop((rs c j fullShare (stack (a := 2) (b := 512) g) -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch1 : Memref sig .tc .vmem S4x2x512 .f32) (Rect.unit (s := S4x2x512) off S1x2x512.size hb) w Finset.univ hx hm) k) Q) := by
  subst ho
  have e : ((((c : Thread nD τ).loc cc0_scratch1) ↦[slotS 2 512 j]{fullShare} (((Memref.whole cc0_scratch1 : Memref sig .tc .vmem S4x2x512 .f32).access (slotR 2 512 j)).write (Elt F) f w Finset.univ)) : sProp 𝕄)
      = rs c j fullShare (stack (a := 2) (b := 512) g) :=
    pointsTo_congr fun i hi => store_slot (v := (Memref.whole cc0_scratch1 : Memref sig .tc .vmem S4x2x512 .f32).view) f (stack (a := 2) (b := 512) g) w
      (fun y => (congrFun hw y).trans (stack_emb g j y).symm) i (le_of_eq (View.set_slice_whole cc0_scratch1 (slotR 2 512 j)).symm hi)
  rw [← e]
  unfold rs
  exact wp_store 𝒱₀ (c : Thread nD τ) none Set.univ (m := Memref.whole cc0_scratch1) (r := slotR 2 512 j) (le_of_eq (View.set_slice_whole cc0_scratch1 (slotR 2 512 j)))

/-- A read of slot `j`. -/
theorem ld_w {Q : α → sProp 𝕄} (c : Dev nD) (j : Fin 4) (q : PosShare TreeShare) {off : Fin 3 → ℕ} (ho : off = ![j.val, 0, 0])
    {hb : ∀ a, off a + S1x8x128.size a ≤ S4x8x128.size a} {hl} {k : Vec F S1x8x128 .f32 → Prog (TpuEff nD τ sig (Elt F) Λ₀ .tc) α} (f : Vec F S4x8x128 .f32) (v : Vec F S1x8x128 .f32) (hv : ∀ y, f ((slotR 8 128 j).emb y) = v y) :
    ws c j q f ⊢ iprop((ws c j q f -∗ wp frame (wpE (defs₀ (F := F)) 𝒱₀ (c : Thread nD τ) none) Set.univ (k v) Q)
      -∗ wp frame (wpE (defs₀ (F := F)) 𝒱₀ (c : Thread nD τ) none) Set.univ (.op (.load (Memref.whole cc0_scratch2 : Memref sig .tc .vmem S4x8x128 .f32) (Rect.unit (s := S4x8x128) off S1x8x128.size hb).toLoadRect hl) k) Q) := by
  subst ho
  obtain rfl := funext hv
  unfold ws
  exact wp_load_rect 𝒱₀ (c : Thread nD τ) none Set.univ (m := Memref.whole cc0_scratch2) (r := slotR 8 128 j) (le_of_eq (View.set_slice_whole cc0_scratch2 (slotR 8 128 j)))
/-- A read of slot `j` where the slots' contents are known. -/
theorem ld_w' {Q : α → sProp 𝕄} (c : Dev nD) (j : Fin 4) (q : PosShare TreeShare) {off : Fin 3 → ℕ} (ho : off = ![j.val, 0, 0])
    {hb : ∀ a, off a + S1x8x128.size a ≤ S4x8x128.size a} {hl} {k : Vec F S1x8x128 .f32 → Prog (TpuEff nD τ sig (Elt F) Λ₀ .tc) α} (g : Fin 4 → Vec F S1x8x128 .f32) :
    ws c j q (stack (a := 8) (b := 128) g) ⊢ iprop((ws c j q (stack (a := 8) (b := 128) g) -∗ wp frame (wpE (defs₀ (F := F)) 𝒱₀ (c : Thread nD τ) none) Set.univ (k (g j)) Q)
      -∗ wp frame (wpE (defs₀ (F := F)) 𝒱₀ (c : Thread nD τ) none) Set.univ (.op (.load (Memref.whole cc0_scratch2 : Memref sig .tc .vmem S4x8x128 .f32) (Rect.unit (s := S4x8x128) off S1x8x128.size hb).toLoadRect hl) k) Q) := by
  exact ld_w c j q ho (stack (a := 8) (b := 128) g) (g j) fun y => stack_emb g j y
/-- A rewriting of slot `j`. -/
theorem sto_w {Q : α → sProp 𝕄} (c : Dev nD) (j : Fin 4) {off : Fin 3 → ℕ} (ho : off = ![j.val, 0, 0])
    {hb : ∀ a, off a + S1x8x128.size a ≤ S4x8x128.size a} {w : Vec F S1x8x128 .f32} {hx hm} {k : PUnit → Prog (TpuEff nD τ sig (Elt F) Λ₀ .tc) α} (f : Vec F S4x8x128 .f32) (g : Fin 4 → Vec F S1x8x128 .f32) (hw : w = g j) :
    ws c j fullShare f ⊢ iprop((ws c j fullShare (stack (a := 8) (b := 128) g) -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch2 : Memref sig .tc .vmem S4x8x128 .f32) (Rect.unit (s := S4x8x128) off S1x8x128.size hb) w Finset.univ hx hm) k) Q) := by
  subst ho
  have e : ((((c : Thread nD τ).loc cc0_scratch2) ↦[slotS 8 128 j]{fullShare} (((Memref.whole cc0_scratch2 : Memref sig .tc .vmem S4x8x128 .f32).access (slotR 8 128 j)).write (Elt F) f w Finset.univ)) : sProp 𝕄)
      = ws c j fullShare (stack (a := 8) (b := 128) g) :=
    pointsTo_congr fun i hi => store_slot (v := (Memref.whole cc0_scratch2 : Memref sig .tc .vmem S4x8x128 .f32).view) f (stack (a := 8) (b := 128) g) w
      (fun y => (congrFun hw y).trans (stack_emb g j y).symm) i (le_of_eq (View.set_slice_whole cc0_scratch2 (slotR 8 128 j)).symm hi)
  rw [← e]
  unfold ws
  exact wp_store 𝒱₀ (c : Thread nD τ) none Set.univ (m := Memref.whole cc0_scratch2) (r := slotR 8 128 j) (le_of_eq (View.set_slice_whole cc0_scratch2 (slotR 8 128 j)))

/-- A read of slot `j`. -/
theorem ld_u {Q : α → sProp 𝕄} (c : Dev nD) (j : Fin 4) (q : PosShare TreeShare) {off : Fin 3 → ℕ} (ho : off = ![j.val, 0, 0])
    {hb : ∀ a, off a + S1x128x512.size a ≤ S4x128x512.size a} {hl} {k : Vec F S1x128x512 .bf16 → Prog (TpuEff nD τ sig (Elt F) Λ₀ .tc) α} (f : Vec F S4x128x512 .bf16) (v : Vec F S1x128x512 .bf16) (hv : ∀ y, f ((slotR 128 512 j).emb y) = v y) :
    us c j q f ⊢ iprop((us c j q f -∗ wp frame (wpE (defs₀ (F := F)) 𝒱₀ (c : Thread nD τ) none) Set.univ (k v) Q)
      -∗ wp frame (wpE (defs₀ (F := F)) 𝒱₀ (c : Thread nD τ) none) Set.univ (.op (.load (Memref.whole cc0_scratch3 : Memref sig .tc .vmem S4x128x512 .bf16) (Rect.unit (s := S4x128x512) off S1x128x512.size hb).toLoadRect hl) k) Q) := by
  subst ho
  obtain rfl := funext hv
  unfold us
  exact wp_load_rect 𝒱₀ (c : Thread nD τ) none Set.univ (m := Memref.whole cc0_scratch3) (r := slotR 128 512 j) (le_of_eq (View.set_slice_whole cc0_scratch3 (slotR 128 512 j)))
/-- A read of slot `j` where the slots' contents are known. -/
theorem ld_u' {Q : α → sProp 𝕄} (c : Dev nD) (j : Fin 4) (q : PosShare TreeShare) {off : Fin 3 → ℕ} (ho : off = ![j.val, 0, 0])
    {hb : ∀ a, off a + S1x128x512.size a ≤ S4x128x512.size a} {hl} {k : Vec F S1x128x512 .bf16 → Prog (TpuEff nD τ sig (Elt F) Λ₀ .tc) α} (g : Fin 4 → Vec F S1x128x512 .bf16) :
    us c j q (stack (a := 128) (b := 512) g) ⊢ iprop((us c j q (stack (a := 128) (b := 512) g) -∗ wp frame (wpE (defs₀ (F := F)) 𝒱₀ (c : Thread nD τ) none) Set.univ (k (g j)) Q)
      -∗ wp frame (wpE (defs₀ (F := F)) 𝒱₀ (c : Thread nD τ) none) Set.univ (.op (.load (Memref.whole cc0_scratch3 : Memref sig .tc .vmem S4x128x512 .bf16) (Rect.unit (s := S4x128x512) off S1x128x512.size hb).toLoadRect hl) k) Q) := by
  exact ld_u c j q ho (stack (a := 128) (b := 512) g) (g j) fun y => stack_emb g j y
/-- A rewriting of slot `j`. -/
theorem sto_u {Q : α → sProp 𝕄} (c : Dev nD) (j : Fin 4) {off : Fin 3 → ℕ} (ho : off = ![j.val, 0, 0])
    {hb : ∀ a, off a + S1x128x512.size a ≤ S4x128x512.size a} {w : Vec F S1x128x512 .bf16} {hx hm} {k : PUnit → Prog (TpuEff nD τ sig (Elt F) Λ₀ .tc) α} (f : Vec F S4x128x512 .bf16) (g : Fin 4 → Vec F S1x128x512 .bf16) (hw : w = g j) :
    us c j fullShare f ⊢ iprop((us c j fullShare (stack (a := 128) (b := 512) g) -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch3 : Memref sig .tc .vmem S4x128x512 .bf16) (Rect.unit (s := S4x128x512) off S1x128x512.size hb) w Finset.univ hx hm) k) Q) := by
  subst ho
  have e : ((((c : Thread nD τ).loc cc0_scratch3) ↦[slotS 128 512 j]{fullShare} (((Memref.whole cc0_scratch3 : Memref sig .tc .vmem S4x128x512 .bf16).access (slotR 128 512 j)).write (Elt F) f w Finset.univ)) : sProp 𝕄)
      = us c j fullShare (stack (a := 128) (b := 512) g) :=
    pointsTo_congr fun i hi => store_slot (v := (Memref.whole cc0_scratch3 : Memref sig .tc .vmem S4x128x512 .bf16).view) f (stack (a := 128) (b := 512) g) w
      (fun y => (congrFun hw y).trans (stack_emb g j y).symm) i (le_of_eq (View.set_slice_whole cc0_scratch3 (slotR 128 512 j)).symm hi)
  rw [← e]
  unfold us
  exact wp_store 𝒱₀ (c : Thread nD τ) none Set.univ (m := Memref.whole cc0_scratch3) (r := slotR 128 512 j) (le_of_eq (View.set_slice_whole cc0_scratch3 (slotR 128 512 j)))

/-- A read of slot `j`. -/
theorem ld_v {Q : α → sProp 𝕄} (c : Dev nD) (j : Fin 4) (q : PosShare TreeShare) {off : Fin 3 → ℕ} (ho : off = ![j.val, 0, 0])
    {hb : ∀ a, off a + S1x128x512.size a ≤ S4x128x512.size a} {hl} {k : Vec F S1x128x512 .bf16 → Prog (TpuEff nD τ sig (Elt F) Λ₀ .tc) α} (f : Vec F S4x128x512 .bf16) (v : Vec F S1x128x512 .bf16) (hv : ∀ y, f ((slotR 128 512 j).emb y) = v y) :
    vs c j q f ⊢ iprop((vs c j q f -∗ wp frame (wpE (defs₀ (F := F)) 𝒱₀ (c : Thread nD τ) none) Set.univ (k v) Q)
      -∗ wp frame (wpE (defs₀ (F := F)) 𝒱₀ (c : Thread nD τ) none) Set.univ (.op (.load (Memref.whole cc0_scratch4 : Memref sig .tc .vmem S4x128x512 .bf16) (Rect.unit (s := S4x128x512) off S1x128x512.size hb).toLoadRect hl) k) Q) := by
  subst ho
  obtain rfl := funext hv
  unfold vs
  exact wp_load_rect 𝒱₀ (c : Thread nD τ) none Set.univ (m := Memref.whole cc0_scratch4) (r := slotR 128 512 j) (le_of_eq (View.set_slice_whole cc0_scratch4 (slotR 128 512 j)))
/-- A read of slot `j` where the slots' contents are known. -/
theorem ld_v' {Q : α → sProp 𝕄} (c : Dev nD) (j : Fin 4) (q : PosShare TreeShare) {off : Fin 3 → ℕ} (ho : off = ![j.val, 0, 0])
    {hb : ∀ a, off a + S1x128x512.size a ≤ S4x128x512.size a} {hl} {k : Vec F S1x128x512 .bf16 → Prog (TpuEff nD τ sig (Elt F) Λ₀ .tc) α} (g : Fin 4 → Vec F S1x128x512 .bf16) :
    vs c j q (stack (a := 128) (b := 512) g) ⊢ iprop((vs c j q (stack (a := 128) (b := 512) g) -∗ wp frame (wpE (defs₀ (F := F)) 𝒱₀ (c : Thread nD τ) none) Set.univ (k (g j)) Q)
      -∗ wp frame (wpE (defs₀ (F := F)) 𝒱₀ (c : Thread nD τ) none) Set.univ (.op (.load (Memref.whole cc0_scratch4 : Memref sig .tc .vmem S4x128x512 .bf16) (Rect.unit (s := S4x128x512) off S1x128x512.size hb).toLoadRect hl) k) Q) := by
  exact ld_v c j q ho (stack (a := 128) (b := 512) g) (g j) fun y => stack_emb g j y
/-- A rewriting of slot `j`. -/
theorem sto_v {Q : α → sProp 𝕄} (c : Dev nD) (j : Fin 4) {off : Fin 3 → ℕ} (ho : off = ![j.val, 0, 0])
    {hb : ∀ a, off a + S1x128x512.size a ≤ S4x128x512.size a} {w : Vec F S1x128x512 .bf16} {hx hm} {k : PUnit → Prog (TpuEff nD τ sig (Elt F) Λ₀ .tc) α} (f : Vec F S4x128x512 .bf16) (g : Fin 4 → Vec F S1x128x512 .bf16) (hw : w = g j) :
    vs c j fullShare f ⊢ iprop((vs c j fullShare (stack (a := 128) (b := 512) g) -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch4 : Memref sig .tc .vmem S4x128x512 .bf16) (Rect.unit (s := S4x128x512) off S1x128x512.size hb) w Finset.univ hx hm) k) Q) := by
  subst ho
  have e : ((((c : Thread nD τ).loc cc0_scratch4) ↦[slotS 128 512 j]{fullShare} (((Memref.whole cc0_scratch4 : Memref sig .tc .vmem S4x128x512 .bf16).access (slotR 128 512 j)).write (Elt F) f w Finset.univ)) : sProp 𝕄)
      = vs c j fullShare (stack (a := 128) (b := 512) g) :=
    pointsTo_congr fun i hi => store_slot (v := (Memref.whole cc0_scratch4 : Memref sig .tc .vmem S4x128x512 .bf16).view) f (stack (a := 128) (b := 512) g) w
      (fun y => (congrFun hw y).trans (stack_emb g j y).symm) i (le_of_eq (View.set_slice_whole cc0_scratch4 (slotR 128 512 j)).symm hi)
  rw [← e]
  unfold vs
  exact wp_store 𝒱₀ (c : Thread nD τ) none Set.univ (m := Memref.whole cc0_scratch4) (r := slotR 128 512 j) (le_of_eq (View.set_slice_whole cc0_scratch4 (slotR 128 512 j)))

end

end Cert.KernelIdealRun

end
-- ==== Proof.KernelIdealRun.Stage.lean ====
module

public import proofs.«01_k».proof.Proof.KernelIdealRun.Steps

/-! # The staging buffers

Reads of the arguments, the writing of the result, and the two buffers the kernel reads whole. -/

@[expose] public section

noncomputable section

namespace Cert.KernelIdealRun

open Cert.KernelIdeal Cert.KernelIdeal.Gen Cert.Moe
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The staging buffers -/

section
variable (I : Ins F)

/-- The staging buffers of device `c`: its four arguments, and its result at contents `f`. -/
def px (c : Dev nD) : sProp 𝕄 := ((c : Thread nD τ).loc cc0_stg0_0) ↦{fullShare} (I.x c)
def pr (c : Dev nD) : sProp 𝕄 := ((c : Thread nD τ).loc cc0_stg1_0) ↦{fullShare} (I.r c)
def pa (c : Dev nD) : sProp 𝕄 := ((c : Thread nD τ).loc cc0_stg2_0) ↦{fullShare} (I.a c)
def pb (c : Dev nD) : sProp 𝕄 := ((c : Thread nD τ).loc cc0_stg3_0) ↦{fullShare} (I.b c)
def po (c : Dev nD) (f : Vec F S128x512 .f32) : sProp 𝕄 := ((c : Thread nD τ).loc cc0_stg4_0) ↦{fullShare} f

theorem hz2 : (![0, 0] : Fin 2 → ℕ) = fun _ => 0 := funext fun a => by fin_cases a <;> rfl
theorem hz3 : (![0, 0, 0] : Fin 3 → ℕ) = fun _ => 0 := funext fun a => by fin_cases a <;> rfl

/-- A read of `x`. -/
theorem ld_px {α : Type} {Q : α → sProp 𝕄} (c : Dev nD) {hb : ∀ a, (![0, 0] : Fin 2 → ℕ) a + S128x512.size a ≤ S128x512.size a} {hl} {k : Vec F S128x512 .f32 → Prog (TpuEff nD τ sig (Elt F) Λ₀ .tc) α} :
    px I c ⊢ iprop((px I c -∗ wp frame (wpE (defs₀ (F := F)) 𝒱₀ (c : Thread nD τ) none) Set.univ (k (I.x c)) Q)
      -∗ wp frame (wpE (defs₀ (F := F)) 𝒱₀ (c : Thread nD τ) none) Set.univ (.op (.load (Memref.whole cc0_stg0_0 : Memref sig .tc .vmem S128x512 .f32) (Rect.unit (s := S128x512) ![0, 0] S128x512.size hb).toLoadRect hl) k) Q) := by
  have H := wp_load (defs := defs₀ (F := F)) 𝒱₀ (c : Thread nD τ) none (Γ := .empty) Set.univ (m := (Memref.whole cc0_stg0_0 : Memref sig .tc .vmem S128x512 .f32)) (r := (Rect.unit (s := S128x512) ![0, 0] S128x512.size hb).toLoadRect)
    (hl := hl) (k := k) (Q := Q) (q := fullShare) (f := I.x c) (S := Finset.univ) (Finset.subset_univ _)
  rw [show View.readAt (Elt F) (Memref.whole cc0_stg0_0).view (Rect.unit (s := S128x512) ![0, 0] S128x512.size hb).toLoadRect (I.x c) = I.x c from Memref.readAt_unit_zero (Elt F) cc0_stg0_0 hz2 _ _] at H
  exact H
/-- A read of the router's block. -/
theorem ld_pr {α : Type} {Q : α → sProp 𝕄} (c : Dev nD) {hb : ∀ a, (![0, 0] : Fin 2 → ℕ) a + S512x2.size a ≤ S512x2.size a} {hl} {k : Vec F S512x2 .f32 → Prog (TpuEff nD τ sig (Elt F) Λ₀ .tc) α} :
    pr I c ⊢ iprop((pr I c -∗ wp frame (wpE (defs₀ (F := F)) 𝒱₀ (c : Thread nD τ) none) Set.univ (k (I.r c)) Q)
      -∗ wp frame (wpE (defs₀ (F := F)) 𝒱₀ (c : Thread nD τ) none) Set.univ (.op (.load (Memref.whole cc0_stg1_0 : Memref sig .tc .vmem S512x2 .f32) (Rect.unit (s := S512x2) ![0, 0] S512x2.size hb).toLoadRect hl) k) Q) := by
  have H := wp_load (defs := defs₀ (F := F)) 𝒱₀ (c : Thread nD τ) none (Γ := .empty) Set.univ (m := (Memref.whole cc0_stg1_0 : Memref sig .tc .vmem S512x2 .f32)) (r := (Rect.unit (s := S512x2) ![0, 0] S512x2.size hb).toLoadRect)
    (hl := hl) (k := k) (Q := Q) (q := fullShare) (f := I.r c) (S := Finset.univ) (Finset.subset_univ _)
  rw [show View.readAt (Elt F) (Memref.whole cc0_stg1_0).view (Rect.unit (s := S512x2) ![0, 0] S512x2.size hb).toLoadRect (I.r c) = I.r c from Memref.readAt_unit_zero (Elt F) cc0_stg1_0 hz2 _ _] at H
  exact H
/-- A read of the first weights of the device's first expert. -/
theorem ld_pa0 {α : Type} {Q : α → sProp 𝕄} (c : Dev nD) {hl} {k : Vec F S1x512x1024 .f32 → Prog (TpuEff nD τ sig (Elt F) Λ₀ .tc) α} :
    pa I c ⊢ iprop((pa I c -∗ wp frame (wpE (defs₀ (F := F)) 𝒱₀ (c : Thread nD τ) none) Set.univ (k (a0 I c)) Q)
      -∗ wp frame (wpE (defs₀ (F := F)) 𝒱₀ (c : Thread nD τ) none) Set.univ (.op (.load (Memref.whole cc0_stg2_0 : Memref sig .tc .vmem S2x512x1024 .f32) (Rect.unit (s := S2x512x1024) ![0, 0, 0] S1x512x1024.size inb_S2x512x1024_S1x512x1024_0_0_0).toLoadRect hl) k) Q) :=
  wp_load (defs := defs₀ (F := F)) 𝒱₀ (c : Thread nD τ) none (Γ := .empty) Set.univ (m := (Memref.whole cc0_stg2_0 : Memref sig .tc .vmem S2x512x1024 .f32)) (r := (Rect.unit (s := S2x512x1024) ![0, 0, 0] S1x512x1024.size inb_S2x512x1024_S1x512x1024_0_0_0).toLoadRect)
    (hl := hl) (k := k) (Q := Q) (q := fullShare) (f := I.a c) (S := Finset.univ) (Finset.subset_univ _)
/-- A read of the first weights of the device's second expert. -/
theorem ld_pa1 {α : Type} {Q : α → sProp 𝕄} (c : Dev nD) {hl} {k : Vec F S1x512x1024 .f32 → Prog (TpuEff nD τ sig (Elt F) Λ₀ .tc) α} :
    pa I c ⊢ iprop((pa I c -∗ wp frame (wpE (defs₀ (F := F)) 𝒱₀ (c : Thread nD τ) none) Set.univ (k (a1 I c)) Q)
      -∗ wp frame (wpE (defs₀ (F := F)) 𝒱₀ (c : Thread nD τ) none) Set.univ (.op (.load (Memref.whole cc0_stg2_0 : Memref sig .tc .vmem S2x512x1024 .f32) (Rect.unit (s := S2x512x1024) ![1, 0, 0] S1x512x1024.size inb_S2x512x1024_S1x512x1024_1_0_0).toLoadRect hl) k) Q) :=
  wp_load (defs := defs₀ (F := F)) 𝒱₀ (c : Thread nD τ) none (Γ := .empty) Set.univ (m := (Memref.whole cc0_stg2_0 : Memref sig .tc .vmem S2x512x1024 .f32)) (r := (Rect.unit (s := S2x512x1024) ![1, 0, 0] S1x512x1024.size inb_S2x512x1024_S1x512x1024_1_0_0).toLoadRect)
    (hl := hl) (k := k) (Q := Q) (q := fullShare) (f := I.a c) (S := Finset.univ) (Finset.subset_univ _)
/-- A read of the second weights of the device's first expert. -/
theorem ld_pb0 {α : Type} {Q : α → sProp 𝕄} (c : Dev nD) {hl} {k : Vec F S1x1024x512 .f32 → Prog (TpuEff nD τ sig (Elt F) Λ₀ .tc) α} :
    pb I c ⊢ iprop((pb I c -∗ wp frame (wpE (defs₀ (F := F)) 𝒱₀ (c : Thread nD τ) none) Set.univ (k (b0 I c)) Q)
      -∗ wp frame (wpE (defs₀ (F := F)) 𝒱₀ (c : Thread nD τ) none) Set.univ (.op (.load (Memref.whole cc0_stg3_0 : Memref sig .tc .vmem S2x1024x512 .f32) (Rect.unit (s := S2x1024x512) ![0, 0, 0] S1x1024x512.size inb_S2x1024x512_S1x1024x512_0_0_0).toLoadRect hl) k) Q) :=
  wp_load (defs := defs₀ (F := F)) 𝒱₀ (c : Thread nD τ) none (Γ := .empty) Set.univ (m := (Memref.whole cc0_stg3_0 : Memref sig .tc .vmem S2x1024x512 .f32)) (r := (Rect.unit (s := S2x1024x512) ![0, 0, 0] S1x1024x512.size inb_S2x1024x512_S1x1024x512_0_0_0).toLoadRect)
    (hl := hl) (k := k) (Q := Q) (q := fullShare) (f := I.b c) (S := Finset.univ) (Finset.subset_univ _)
/-- A read of the second weights of the device's second expert. -/
theorem ld_pb1 {α : Type} {Q : α → sProp 𝕄} (c : Dev nD) {hl} {k : Vec F S1x1024x512 .f32 → Prog (TpuEff nD τ sig (Elt F) Λ₀ .tc) α} :
    pb I c ⊢ iprop((pb I c -∗ wp frame (wpE (defs₀ (F := F)) 𝒱₀ (c : Thread nD τ) none) Set.univ (k (b1 I c)) Q)
      -∗ wp frame (wpE (defs₀ (F := F)) 𝒱₀ (c : Thread nD τ) none) Set.univ (.op (.load (Memref.whole cc0_stg3_0 : Memref sig .tc .vmem S2x1024x512 .f32) (Rect.unit (s := S2x1024x512) ![1, 0, 0] S1x1024x512.size inb_S2x1024x512_S1x1024x512_1_0_0).toLoadRect hl) k) Q) :=
  wp_load (defs := defs₀ (F := F)) 𝒱₀ (c : Thread nD τ) none (Γ := .empty) Set.univ (m := (Memref.whole cc0_stg3_0 : Memref sig .tc .vmem S2x1024x512 .f32)) (r := (Rect.unit (s := S2x1024x512) ![1, 0, 0] S1x1024x512.size inb_S2x1024x512_S1x1024x512_1_0_0).toLoadRect)
    (hl := hl) (k := k) (Q := Q) (q := fullShare) (f := I.b c) (S := Finset.univ) (Finset.subset_univ _)
/-- A read of the result's buffer, whose outcome the kernel does not use. -/
theorem ld_po {α : Type} {Q : α → sProp 𝕄} (c : Dev nD) (f : Vec F S128x512 .f32) {hb : ∀ a, (![0, 0] : Fin 2 → ℕ) a + S128x512.size a ≤ S128x512.size a} {hl} {k : Vec F S128x512 .f32 → Prog (TpuEff nD τ sig (Elt F) Λ₀ .tc) α} :
    po c f ⊢ iprop((po c f -∗ wp frame (wpE (defs₀ (F := F)) 𝒱₀ (c : Thread nD τ) none) Set.univ (k f) Q)
      -∗ wp frame (wpE (defs₀ (F := F)) 𝒱₀ (c : Thread nD τ) none) Set.univ (.op (.load (Memref.whole cc0_stg4_0 : Memref sig .tc .vmem S128x512 .f32) (Rect.unit (s := S128x512) ![0, 0] S128x512.size hb).toLoadRect hl) k) Q) := by
  have H := wp_load (defs := defs₀ (F := F)) 𝒱₀ (c : Thread nD τ) none (Γ := .empty) Set.univ (m := (Memref.whole cc0_stg4_0 : Memref sig .tc .vmem S128x512 .f32)) (r := (Rect.unit (s := S128x512) ![0, 0] S128x512.size hb).toLoadRect)
    (hl := hl) (k := k) (Q := Q) (q := fullShare) (f := f) (S := Finset.univ) (Finset.subset_univ _)
  rw [show View.readAt (Elt F) (Memref.whole cc0_stg4_0).view (Rect.unit (s := S128x512) ![0, 0] S128x512.size hb).toLoadRect f = f from Memref.readAt_unit_zero (Elt F) cc0_stg4_0 hz2 _ _] at H
  exact H
/-- The result is written whole. -/
theorem sto_po {α : Type} {Q : α → sProp 𝕄} (c : Dev nD) (f w : Vec F S128x512 .f32) {hb : ∀ a, (![0, 0] : Fin 2 → ℕ) a + S128x512.size a ≤ S128x512.size a} {hx hm} {k : PUnit → Prog (TpuEff nD τ sig (Elt F) Λ₀ .tc) α} :
    po c f ⊢ iprop((po c w -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_stg4_0 : Memref sig .tc .vmem S128x512 .f32) (Rect.unit (s := S128x512) ![0, 0] S128x512.size hb) w Finset.univ hx hm) k) Q) := by
  have H := wp_store (defs := defs₀ (F := F)) 𝒱₀ (c : Thread nD τ) none (Γ := .empty) Set.univ (m := (Memref.whole cc0_stg4_0 : Memref sig .tc .vmem S128x512 .f32)) (r := (Rect.unit (s := S128x512) ![0, 0] S128x512.size hb))
    (w := w) (Mk := Finset.univ) (hx := hx) (hm := hm) (k := k) (Q := Q) (f := f) (S := Finset.univ) (Finset.subset_univ _)
  rw [show View.write (Elt F) ((Memref.whole cc0_stg4_0).access (Rect.unit (s := S128x512) ![0, 0] S128x512.size hb)) f w Finset.univ = w from Memref.write_access_unit_zero_univ (Elt F) cc0_stg4_0 hz2 _ _ _] at H
  exact H

end

/-! ## The gathered router and the incoming sums as whole buffers -/

/-- The four slots of the gathered router are the whole of it. -/
theorem rs_whole (c : Dev nD) (q : PosShare TreeShare) (f : Vec F S4x2x512 .f32) :
    ((((c : Thread nD τ).loc cc0_scratch1) ↦{q} f : sProp 𝕄)) = iprop(rs c (z c) q f ∗ rs c (z c + 1) q f ∗ rs c (z c + 2) q f ∗ rs c (z c + 3) q f) :=
  cut4 (Name := ℕ) (U := UU) (Ix := Unit) (Lvl := ℕ) (ℓ := (c : Thread nD τ).loc cc0_scratch1) (slotS 2 512) (fun _ _ h => slotS_disj h) slotS_univ (z c) q f
/-- A read of the whole gathered router. -/
theorem ld_rall {α : Type} {Q : α → sProp 𝕄} (c : Dev nD) (q : PosShare TreeShare) (f : Vec F S4x2x512 .f32) {hb : ∀ a, (![0, 0, 0] : Fin 3 → ℕ) a + S4x2x512.size a ≤ S4x2x512.size a} {hl} {k : Vec F S4x2x512 .f32 → Prog (TpuEff nD τ sig (Elt F) Λ₀ .tc) α} :
    iprop(rs c (z c) q f ∗ rs c (z c + 1) q f ∗ rs c (z c + 2) q f ∗ rs c (z c + 3) q f) ⊢
      iprop((((rs c (z c) q f ∗ rs c (z c + 1) q f ∗ rs c (z c + 2) q f ∗ rs c (z c + 3) q f) -∗ wp frame (wpE (defs₀ (F := F)) 𝒱₀ (c : Thread nD τ) none) Set.univ (k f) Q))
      -∗ wp frame (wpE (defs₀ (F := F)) 𝒱₀ (c : Thread nD τ) none) Set.univ (.op (.load (Memref.whole cc0_scratch1 : Memref sig .tc .vmem S4x2x512 .f32) (Rect.unit (s := S4x2x512) ![0, 0, 0] S4x2x512.size hb).toLoadRect hl) k) Q) := by
  have H := wp_load (defs := defs₀ (F := F)) 𝒱₀ (c : Thread nD τ) none (Γ := .empty) Set.univ (m := (Memref.whole cc0_scratch1 : Memref sig .tc .vmem S4x2x512 .f32)) (r := (Rect.unit (s := S4x2x512) ![0, 0, 0] S4x2x512.size hb).toLoadRect)
    (hl := hl) (k := k) (Q := Q) (q := q) (f := f) (S := Finset.univ) (Finset.subset_univ _)
  rw [show View.readAt (Elt F) (Memref.whole cc0_scratch1).view (Rect.unit (s := S4x2x512) ![0, 0, 0] S4x2x512.size hb).toLoadRect f = f from Memref.readAt_unit_zero (Elt F) cc0_scratch1 hz3 _ _] at H
  rw [← rs_whole]
  exact H

/-- The four slots of the incoming sums are the whole of it. -/
theorem vs_whole (c : Dev nD) (q : PosShare TreeShare) (f : Vec F S4x128x512 .bf16) :
    ((((c : Thread nD τ).loc cc0_scratch4) ↦{q} f : sProp 𝕄)) = iprop(vs c (z c) q f ∗ vs c (z c + 1) q f ∗ vs c (z c + 2) q f ∗ vs c (z c + 3) q f) :=
  cut4 (Name := ℕ) (U := UU) (Ix := Unit) (Lvl := ℕ) (ℓ := (c : Thread nD τ).loc cc0_scratch4) (slotS 128 512) (fun _ _ h => slotS_disj h) slotS_univ (z c) q f
/-- A read of the whole incoming sums. -/
theorem ld_vall {α : Type} {Q : α → sProp 𝕄} (c : Dev nD) (q : PosShare TreeShare) (f : Vec F S4x128x512 .bf16) {hb : ∀ a, (![0, 0, 0] : Fin 3 → ℕ) a + S4x128x512.size a ≤ S4x128x512.size a} {hl} {k : Vec F S4x128x512 .bf16 → Prog (TpuEff nD τ sig (Elt F) Λ₀ .tc) α} :
    iprop(vs c (z c) q f ∗ vs c (z c + 1) q f ∗ vs c (z c + 2) q f ∗ vs c (z c + 3) q f) ⊢
      iprop((((vs c (z c) q f ∗ vs c (z c + 1) q f ∗ vs c (z c + 2) q f ∗ vs c (z c + 3) q f) -∗ wp frame (wpE (defs₀ (F := F)) 𝒱₀ (c : Thread nD τ) none) Set.univ (k f) Q))
      -∗ wp frame (wpE (defs₀ (F := F)) 𝒱₀ (c : Thread nD τ) none) Set.univ (.op (.load (Memref.whole cc0_scratch4 : Memref sig .tc .vmem S4x128x512 .bf16) (Rect.unit (s := S4x128x512) ![0, 0, 0] S4x128x512.size hb).toLoadRect hl) k) Q) := by
  have H := wp_load (defs := defs₀ (F := F)) 𝒱₀ (c : Thread nD τ) none (Γ := .empty) Set.univ (m := (Memref.whole cc0_scratch4 : Memref sig .tc .vmem S4x128x512 .bf16)) (r := (Rect.unit (s := S4x128x512) ![0, 0, 0] S4x128x512.size hb).toLoadRect)
    (hl := hl) (k := k) (Q := Q) (q := q) (f := f) (S := Finset.univ) (Finset.subset_univ _)
  rw [show View.readAt (Elt F) (Memref.whole cc0_scratch4).view (Rect.unit (s := S4x128x512) ![0, 0, 0] S4x128x512.size hb).toLoadRect f = f from Memref.readAt_unit_zero (Elt F) cc0_scratch4 hz3 _ _] at H
  rw [← vs_whole]
  exact H

/-- A slot of the gathered router cut into the four shares. -/
theorem rs_cut (c : Dev nD) (j : Fin 4) (f : Vec F S4x2x512 .f32) :
    (rs c j fullShare f : sProp 𝕄) ⊣⊢ iprop(rs c j (shr 0) f ∗ rs c j (shr 1) f ∗ rs c j (shr 2) f ∗ rs c j (shr 3) f) := by
  unfold rs; exact shares4
theorem xs_cut (c : Dev nD) (j : Fin 4) (f : Vec F S4x128x512 .bf16) :
    (xs c j fullShare f : sProp 𝕄) ⊣⊢ iprop(xs c j (shr 0) f ∗ xs c j (shr 1) f ∗ xs c j (shr 2) f ∗ xs c j (shr 3) f) := by
  unfold xs; exact shares4
theorem ws_cut (c : Dev nD) (j : Fin 4) (f : Vec F S4x8x128 .f32) :
    (ws c j fullShare f : sProp 𝕄) ⊣⊢ iprop(ws c j (shr 0) f ∗ ws c j (shr 1) f ∗ ws c j (shr 2) f ∗ ws c j (shr 3) f) := by
  unfold ws; exact shares4

end Cert.KernelIdealRun

end
-- ==== Proof.KernelIdealRun.PartsA.lean ====
module

public import proofs.«01_k».proof.Proof.KernelIdealRun.Stage

/-! # The body, parts 1 to 8

One rule for each of these parts: what it needs and what it leaves. -/

@[expose] public section

noncomputable section

namespace Cert.KernelIdealRun

open Cert.KernelIdeal Cert.KernelIdeal.Gen Cert.Moe
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section
variable (I : Ins F) (K : CK → ℕ)

/-- Part 1 of the body. -/
theorem part1 {Q : (Σ' (d0 : Dev nD) (v2 : BitVec 32) (v5 : BitVec 32) (v8 : BitVec 32) (v14 : Sems sig S_) (v32 : BitVec 32) (c4_i32_15 : BitVec 32), BitVec 32) → sProp 𝕄} (c : Dev nD)   :
    iprop(records I K ∗ levAts L lv ∗ ow c 0 ∗ (∃ f, vs c (z c) fullShare f) ∗ gv c 1)
      ⊢ iprop((∀ w1 w2 w5 w6 w7, (ow c 1 ∗ vs c (z c) fullShare (vA I c)) -∗ Q ⟨c, w1, w2, zw c, SemArray.scalar (sig.barrier 0 rfl), w5, w6, w7⟩)
        -∗ wp frame (wpE (defs₀ (F := F)) 𝒱₀ (c : Thread nD τ) none) Set.univ
          (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 ) Q) := by
  simp only [k0_part1_eq_skeleton]; unfold k0_part1_skel
  simp only [semSignalWord, semWaitWord, Prog.lift, Prog.bind_op, Prog.bind_ret, Prog.pure_eq_ret, wp_deviceId]
  iintro ⟨#HR, #HL, HO, Hv, HG⟩ Hk
  icases Hv with ⟨%f, Hv⟩
  iapply (ld_v c (z c) fullShare (o1_eq c) f _ fun _ => rfl) $$ Hv; iintro Hv
  iapply (sto_v c (z c) (o1_eq c) f (vG I c) (by unfold vG; rw [if_pos rfl])) $$ Hv; iintro Hv
  iapply (st_signal I K c _ 1 (by decide) (dev1_eq c) 0 rfl) $$ [HO HG]
  · isplitr; · iexact HR
    isplitl [HO]; · iexact HO
    iexact HG
  iintro HO
  rw [wp_ret]; imodintro
  iapply Hk
  isplitl [HO]; · iexact HO
  iexact Hv

/-- Part 2 of the body. -/
theorem part2 {Q : (PUnit) → sProp 𝕄} (c : Dev nD) (v2 : BitVec 32) (v5 : BitVec 32) (v8 : BitVec 32) (v32 : BitVec 32) (c4_i32_15 : BitVec 32) (c0_i32_16 : BitVec 32)  :
    iprop(records I K ∗ levAts L lv ∗ ow c 1 ∗ gv c 2 ∗ gv c 3 ∗ cred (tallyAt (barCell c) () 3) ∗ atPos ER (barCell c) 0 ∅ 0)
      ⊢ iprop(((ow c 3 ∗ semVal (barCell c) 0 ∗ barPay c 1 ∗ barPay c 2 ∗ barPay c 3) -∗ Q ⟨⟩)
        -∗ wp frame (wpE (defs₀ (F := F)) 𝒱₀ (c : Thread nD τ) none) Set.univ
          (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 (SemArray.scalar (sig.barrier 0 rfl)) v32 c4_i32_15 c0_i32_16) Q) := by
  simp only [k0_part2_eq_skeleton]; unfold k0_part2_skel
  simp only [semSignalWord, semWaitWord, Prog.lift, Prog.bind_op, Prog.bind_ret, Prog.pure_eq_ret, wp_deviceId]
  iintro ⟨#HR, #HL, HO, HG2, HG3, Hc, Ha⟩ Hk
  iapply (st_signal I K c _ 2 (by decide) (dev2_eq c) 1 rfl) $$ [HO HG2]
  · isplitr; · iexact HR
    isplitl [HO]; · iexact HO
    iexact HG2
  iintro HO
  iapply (st_signal I K c _ 3 (by decide) (dev3_eq c) 2 rfl) $$ [HO HG3]
  · isplitr; · iexact HR
    isplitl [HO]; · iexact HO
    iexact HG3
  iintro HO
  iapply (st_barrier I K c) $$ [HO Hc Ha]
  · isplitr; · iexact HR
    isplitr; · iexact HL
    isplitl [HO]; · iexact HO
    isplitl [Hc] <;> iassumption
  iintro ⟨HO, Hz, H1, H2, H3⟩
  rw [wp_ret]; imodintro
  iapply Hk
  isplitl [HO]; · iexact HO
  isplitl [Hz]; · iexact Hz
  isplitl [H1]; · iexact H1
  isplitl [H2]; · iexact H2
  iexact H3

/-- Part 3 of the body. -/
theorem part3 {Q : (Σ' (v68 : FVec F S128x512 .bf16) (v96 : BitVec 32) (v101 : BitVec 1), BitVec 32) → sProp 𝕄} (c : Dev nD) (v8 : BitVec 32)  :
    iprop(records I K ∗ levAts L lv ∗ px I c ∗ pr I c ∗ (∃ f, xs c (z c) fullShare f) ∗ (∃ f, rs c (z c) fullShare f))
      ⊢ iprop((∀ w1 w2 w3, (px I c ∗ pr I c ∗ xs c (z c) fullShare (xA I c) ∗ rs c (z c) fullShare (rA I c)) -∗ Q ⟨k0_pay2 (I.x c), w1, w2, w3⟩)
        -∗ wp frame (wpE (defs₀ (F := F)) 𝒱₀ (c : Thread nD τ) none) Set.univ
          (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v8) Q) := by
  simp only [k0_part3_eq_skeleton]; unfold k0_part3_skel
  simp only [semSignalWord, semWaitWord, Prog.lift, Prog.bind_op, Prog.bind_ret, Prog.pure_eq_ret, wp_deviceId]
  iintro ⟨#HR, #HL, Hpx, Hpr, Hx, Hr⟩ Hk
  icases Hx with ⟨%f, Hx⟩
  icases Hr with ⟨%g, Hr⟩
  iapply (ld_px I c) $$ Hpx; iintro Hpx
  iapply (ld_x c (z c) fullShare (o1_eq c) f _ fun _ => rfl) $$ Hx; iintro Hx
  iapply (sto_x c (z c) (o1_eq c) f (xG I c) (by unfold xG; rw [at_z])) $$ Hx; iintro Hx
  iapply (ld_pr I c) $$ Hpr; iintro Hpr
  iapply (ld_r c (z c) fullShare (o2_eq c) g _ fun _ => rfl) $$ Hr; iintro Hr
  iapply (sto_r c (z c) (o2_eq c) g (rG I c) (by unfold rG; rw [at_z])) $$ Hr; iintro Hr
  rw [wp_ret]; imodintro
  iapply Hk
  isplitl [Hpx]; · iexact Hpx
  isplitl [Hpr]; · iexact Hpr
  isplitl [Hx]; · iexact Hx
  iexact Hr

/-- Part 4 of the body. -/
theorem part4 {Q : (PUnit) → sProp 𝕄} (c : Dev nD) (v2 : BitVec 32) (v5 : BitVec 32) (v8 : BitVec 32) (v96 : BitVec 32) (v101 : BitVec 1) (v102 : BitVec 32)  :
    iprop(records I K ∗ levAts L lv ∗ ow c 3 ∗ xs c (z c) (shr 1) (xA I c) ∗ (∃ f, xs (peer c 1) (z c) fullShare f) ∗ sk c 0 1 1)
      ⊢ iprop(((ow c 4 ∗ rk c 0 1) -∗ Q ⟨⟩)
        -∗ wp frame (wpE (defs₀ (F := F)) 𝒱₀ (c : Thread nD τ) none) Set.univ
          (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 v96 v101 v102) Q) := by
  simp only [k0_part4_eq_skeleton]; unfold k0_part4_skel
  simp only [semSignalWord, semWaitWord, Prog.lift, Prog.bind_op, Prog.bind_ret, Prog.pure_eq_ret, wp_deviceId]
  iintro ⟨#HR, #HL, HO, Hsx1, Hdx1, Hkx1⟩ Hk
  iapply (send_x I K c _ 1 (by decide) (dev4_eq c) 3 (xM_of (z c) _ (o5_eq c) _) (xM_of (z c) _ (o5_eq c) _) (sem_of 0 (z c + 1) _ (off3_eq c 0) _) (sem_of 1 (z c) _ (o4_eq c) _) rfl) $$ [HO Hsx1 Hdx1 Hkx1]
  · isplitr; · iexact HR
    isplitl [HO]; · iexact HO
    isplitl [Hsx1]; · iexact Hsx1
    isplitl [Hdx1]; · iexact Hdx1
    iexact Hkx1
  iintro ⟨HO, Hwx1⟩
  rw [wp_ret]; imodintro
  iapply Hk
  isplitl [HO]; · iexact HO
  iexact Hwx1

/-- Part 5 of the body. -/
theorem part5 {Q : (PUnit) → sProp 𝕄} (c : Dev nD) (v2 : BitVec 32) (v5 : BitVec 32) (v8 : BitVec 32)  :
    iprop(records I K ∗ levAts L lv ∗ ow c 4 ∗ rs c (z c) (shr 1) (rA I c) ∗ (∃ f, rs (peer c 1) (z c) fullShare f) ∗ sk c 2 3 1)
      ⊢ iprop(((ow c 5 ∗ rk c 2 1) -∗ Q ⟨⟩)
        -∗ wp frame (wpE (defs₀ (F := F)) 𝒱₀ (c : Thread nD τ) none) Set.univ
          (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8) Q) := by
  simp only [k0_part5_eq_skeleton]; unfold k0_part5_skel
  simp only [semSignalWord, semWaitWord, Prog.lift, Prog.bind_op, Prog.bind_ret, Prog.pure_eq_ret, wp_deviceId]
  iintro ⟨#HR, #HL, HO, Hsr1, Hdr1, Hkr1⟩ Hk
  iapply (send_r I K c _ 1 (by decide) (dev5_eq c) 4 (rM_of (z c) _ (o6_eq c) _) (rM_of (z c) _ (o6_eq c) _) (sem_of 2 (z c + 1) _ (off3_eq c 0) _) (sem_of 3 (z c) _ (o4_eq c) _) rfl) $$ [HO Hsr1 Hdr1 Hkr1]
  · isplitr; · iexact HR
    isplitl [HO]; · iexact HO
    isplitl [Hsr1]; · iexact Hsr1
    isplitl [Hdr1]; · iexact Hdr1
    iexact Hkr1
  iintro ⟨HO, Hwr1⟩
  rw [wp_ret]; imodintro
  iapply Hk
  isplitl [HO]; · iexact HO
  iexact Hwr1

/-- Part 6 of the body. -/
theorem part6 {Q : (Σ' (v206 : BitVec 32) (v207 : BitVec 32) (v208 : BitVec 1), BitVec 1) → sProp 𝕄} (c : Dev nD) (v2 : BitVec 32) (v5 : BitVec 32) (v8 : BitVec 32)  :
    iprop(records I K ∗ levAts L lv ∗ ow c 5 ∗ xs c (z c) (shr 2) (xA I c) ∗ (∃ f, xs (peer c 2) (z c) fullShare f) ∗ sk c 0 1 2 ∗ rs c (z c) (shr 2) (rA I c) ∗ (∃ f, rs (peer c 2) (z c) fullShare f) ∗ sk c 2 3 2)
      ⊢ iprop((∀ w0 w1 w2 w3, (ow c 7 ∗ rk c 0 2 ∗ rk c 2 2) -∗ Q ⟨w0, w1, w2, w3⟩)
        -∗ wp frame (wpE (defs₀ (F := F)) 𝒱₀ (c : Thread nD τ) none) Set.univ
          (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8) Q) := by
  simp only [k0_part6_eq_skeleton]; unfold k0_part6_skel
  simp only [semSignalWord, semWaitWord, Prog.lift, Prog.bind_op, Prog.bind_ret, Prog.pure_eq_ret, wp_deviceId]
  iintro ⟨#HR, #HL, HO, Hsx2, Hdx2, Hkx2, Hsr2, Hdr2, Hkr2⟩ Hk
  iapply (send_x I K c _ 2 (by decide) (dev6_eq c) 5 (xM_of (z c) _ (o5_eq c) _) (xM_of (z c) _ (o5_eq c) _) (sem_of 0 (z c + 2) _ (off3_eq c 1) _) (sem_of 1 (z c) _ (o4_eq c) _) rfl) $$ [HO Hsx2 Hdx2 Hkx2]
  · isplitr; · iexact HR
    isplitl [HO]; · iexact HO
    isplitl [Hsx2]; · iexact Hsx2
    isplitl [Hdx2]; · iexact Hdx2
    iexact Hkx2
  iintro ⟨HO, Hwx2⟩
  iapply (send_r I K c _ 2 (by decide) (dev7_eq c) 6 (rM_of (z c) _ (o6_eq c) _) (rM_of (z c) _ (o6_eq c) _) (sem_of 2 (z c + 2) _ (off3_eq c 1) _) (sem_of 3 (z c) _ (o4_eq c) _) rfl) $$ [HO Hsr2 Hdr2 Hkr2]
  · isplitr; · iexact HR
    isplitl [HO]; · iexact HO
    isplitl [Hsr2]; · iexact Hsr2
    isplitl [Hdr2]; · iexact Hdr2
    iexact Hkr2
  iintro ⟨HO, Hwr2⟩
  rw [wp_ret]; imodintro
  iapply Hk
  isplitl [HO]; · iexact HO
  isplitl [Hwx2]; · iexact Hwx2
  iexact Hwr2

/-- Part 7 of the body. -/
theorem part7 {Q : (Σ' (v242 : BitVec 32) (v243 : BitVec 32), BitVec 1) → sProp 𝕄} (c : Dev nD) (v2 : BitVec 32) (v5 : BitVec 32) (v8 : BitVec 32) (v206 : BitVec 32) (v207 : BitVec 32) (v208 : BitVec 1) (v211 : BitVec 1)  :
    iprop(records I K ∗ levAts L lv ∗ ow c 7 ∗ xs c (z c) (shr 3) (xA I c) ∗ (∃ f, xs (peer c 3) (z c) fullShare f) ∗ sk c 0 1 3)
      ⊢ iprop((∀ w0 w1 w2, (ow c 8 ∗ rk c 0 3) -∗ Q ⟨w0, w1, w2⟩)
        -∗ wp frame (wpE (defs₀ (F := F)) 𝒱₀ (c : Thread nD τ) none) Set.univ
          (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 v206 v207 v208 v211) Q) := by
  simp only [k0_part7_eq_skeleton]; unfold k0_part7_skel
  simp only [semSignalWord, semWaitWord, Prog.lift, Prog.bind_op, Prog.bind_ret, Prog.pure_eq_ret, wp_deviceId]
  iintro ⟨#HR, #HL, HO, Hsx3, Hdx3, Hkx3⟩ Hk
  iapply (send_x I K c _ 3 (by decide) (dev8_eq c) 7 (xM_of (z c) _ (o5_eq c) _) (xM_of (z c) _ (o5_eq c) _) (sem_of 0 (z c + 3) _ (off3_eq c 2) _) (sem_of 1 (z c) _ (o4_eq c) _) rfl) $$ [HO Hsx3 Hdx3 Hkx3]
  · isplitr; · iexact HR
    isplitl [HO]; · iexact HO
    isplitl [Hsx3]; · iexact Hsx3
    isplitl [Hdx3]; · iexact Hdx3
    iexact Hkx3
  iintro ⟨HO, Hwx3⟩
  rw [wp_ret]; imodintro
  iapply Hk
  isplitl [HO]; · iexact HO
  iexact Hwx3

/-- Part 8 of the body. -/
theorem part8 {Q : (Σ' (v267 : FVec F S512x1024 .bf16) (v270 : FVec F S512x1024 .bf16) (v273 : FVec F S1024x512 .bf16) (v276 : FVec F S1024x512 .bf16) (v281 : FVec F S128x512 .f32) (v282 : FVec F S128x1024 .f32), F .f32) → sProp 𝕄} (c : Dev nD) (v2 : BitVec 32) (v5 : BitVec 32) (v68 : FVec F S128x512 .bf16) (v242 : BitVec 32) (v243 : BitVec 32) (v248 : BitVec 1)  :
    iprop(records I K ∗ levAts L lv ∗ ow c 8 ∗ rs c (z c) (shr 3) (rA I c) ∗ (∃ f, rs (peer c 3) (z c) fullShare f) ∗ sk c 2 3 3 ∗ pa I c ∗ pb I c)
      ⊢ iprop(((ow c 9 ∗ rk c 2 3 ∗ pa I c ∗ pb I c) -∗ Q ⟨k0_pay5 (a0 I c), k0_pay6 (a1 I c), k0_pay7 (b0 I c), k0_pay8 (b1 I c), k0_pay9 v68 (a0 I c) (b0 I c), k0_pay10 v68 (a1 I c), Scalar.ofBits .f32 0x00000000#32⟩)
        -∗ wp frame (wpE (defs₀ (F := F)) 𝒱₀ (c : Thread nD τ) none) Set.univ
          (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v68 v242 v243 v248) Q) := by
  simp only [k0_part8_eq_skeleton]; unfold k0_part8_skel
  simp only [semSignalWord, semWaitWord, Prog.lift, Prog.bind_op, Prog.bind_ret, Prog.pure_eq_ret, wp_deviceId]
  iintro ⟨#HR, #HL, HO, Hsr3, Hdr3, Hkr3, Hpa, Hpb⟩ Hk
  iapply (send_r I K c _ 3 (by decide) (dev9_eq c) 8 (rM_of (z c) _ (o6_eq c) _) (rM_of (z c) _ (o6_eq c) _) (sem_of 2 (z c + 3) _ (off3_eq c 2) _) (sem_of 3 (z c) _ (o4_eq c) _) rfl) $$ [HO Hsr3 Hdr3 Hkr3]
  · isplitr; · iexact HR
    isplitl [HO]; · iexact HO
    isplitl [Hsr3]; · iexact Hsr3
    isplitl [Hdr3]; · iexact Hdr3
    iexact Hkr3
  iintro ⟨HO, Hwr3⟩
  iapply (ld_pa0 I c) $$ Hpa; iintro Hpa
  iapply (ld_pa1 I c) $$ Hpa; iintro Hpa
  iapply (ld_pb0 I c) $$ Hpb; iintro Hpb
  iapply (ld_pb1 I c) $$ Hpb; iintro Hpb
  rw [wp_ret]; imodintro
  iapply Hk
  isplitl [HO]; · iexact HO
  isplitl [Hwr3]; · iexact Hwr3
  isplitl [Hpa]; · iexact Hpa
  iexact Hpb

end

end Cert.KernelIdealRun

end
-- ==== Proof.KernelIdealRun.PartsB.lean ====
module

public import proofs.«01_k».proof.Proof.KernelIdealRun.Stage

/-! # The body, parts 9 to 16

One rule for each of these parts: what it needs and what it leaves. -/

@[expose] public section

noncomputable section

namespace Cert.KernelIdealRun

open Cert.KernelIdeal Cert.KernelIdeal.Gen Cert.Moe
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section
variable (I : Ins F) (K : CK → ℕ)

/-- Part 9 of the body. -/
theorem part9 {Q : (FVec F S128x512 .f32) → sProp 𝕄} (c : Dev nD) (v2 : BitVec 32) (v5 : BitVec 32) (v8 : BitVec 32) (v276 : FVec F S1024x512 .bf16) (v282 : FVec F S128x1024 .f32) (cst_172 : F .f32)  :
    iprop(records I K ∗ levAts L lv ∗ emp)
      ⊢ iprop(((emp) -∗ Q (k0_pay11 v276 v282 cst_172))
        -∗ wp frame (wpE (defs₀ (F := F)) 𝒱₀ (c : Thread nD τ) none) Set.univ
          (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 v276 v282 cst_172) Q) := by
  simp only [k0_part9_eq_skeleton]; unfold k0_part9_skel
  simp only [semSignalWord, semWaitWord, Prog.lift, Prog.bind_op, Prog.bind_ret, Prog.pure_eq_ret, wp_deviceId]
  iintro ⟨#HR, #HL, -⟩ Hk
  rw [wp_ret]; imodintro
  iapply Hk
  iempintro

/-- Part 10 of the body. -/
theorem part10 {Q : (BitVec 32) → sProp 𝕄} (c : Dev nD) (v2 : BitVec 32) (v5 : BitVec 32) (v8 : BitVec 32)  :
    iprop(records I K ∗ levAts L lv ∗ ow c 9 ∗ rk c 3 1 ∗ rk c 3 2)
      ⊢ iprop((∀ w0, (ow c 9 ∗ zk c 3 1 ∗ rs c (z c + 1) fullShare (rA I c) ∗ zk c 3 2 ∗ rs c (z c + 2) fullShare (rA I c)) -∗ Q w0)
        -∗ wp frame (wpE (defs₀ (F := F)) 𝒱₀ (c : Thread nD τ) none) Set.univ
          (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8) Q) := by
  simp only [k0_part10_eq_skeleton]; unfold k0_part10_skel
  simp only [semSignalWord, semWaitWord, Prog.lift, Prog.bind_op, Prog.bind_ret, Prog.pure_eq_ret, wp_deviceId]
  iintro ⟨#HR, #HL, HO, Hk31, Hk32⟩ Hk
  iapply (wt3 I K c 1 (by decide) 9 (by decide) (sem_of 3 (z c + 1) _ (off3_eq c 0) _) (rM_of (z c + 1) _ (off7_eq c 0) _)) $$ [HO Hk31]
  · isplitr; · iexact HR
    isplitr; · iexact HL
    isplitl [HO]; · iexact HO
    iexact Hk31
  iintro ⟨HO, Hz31, Hb31⟩
  iapply (wt3 I K c 2 (by decide) 9 (by decide) (sem_of 3 (z c + 2) _ (off3_eq c 1) _) (rM_of (z c + 2) _ (off7_eq c 1) _)) $$ [HO Hk32]
  · isplitr; · iexact HR
    isplitr; · iexact HL
    isplitl [HO]; · iexact HO
    iexact Hk32
  iintro ⟨HO, Hz32, Hb32⟩
  rw [wp_ret]; imodintro
  iapply Hk
  isplitl [HO]; · iexact HO
  isplitl [Hz31]; · iexact Hz31
  isplitl [Hb31]; · iexact Hb31
  isplitl [Hz32]; · iexact Hz32
  iexact Hb32

/-- Part 11 of the body. -/
theorem part11 {Q : (Vec F S4x2x512 .f32) → sProp 𝕄} (c : Dev nD) (v2 : BitVec 32) (v5 : BitVec 32) (v8 : BitVec 32) (c3_i32_218 : BitVec 32)  :
    iprop(records I K ∗ levAts L lv ∗ ow c 9 ∗ rk c 3 3 ∗ rs c (z c) (shr 0) (rA I c) ∗ rs c (z c + 1) fullShare (rA I c) ∗ rs c (z c + 2) fullShare (rA I c))
      ⊢ iprop(((ow c 9 ∗ zk c 3 3 ∗ rs c (z c + 3) fullShare (rA I c) ∗ rs c (z c) (shr 0) (rA I c) ∗ rs c (z c + 1) fullShare (rA I c) ∗ rs c (z c + 2) fullShare (rA I c)) -∗ Q (rA I c))
        -∗ wp frame (wpE (defs₀ (F := F)) 𝒱₀ (c : Thread nD τ) none) Set.univ
          (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 c3_i32_218) Q) := by
  simp only [k0_part11_eq_skeleton]; unfold k0_part11_skel
  simp only [semSignalWord, semWaitWord, Prog.lift, Prog.bind_op, Prog.bind_ret, Prog.pure_eq_ret, wp_deviceId]
  iintro ⟨#HR, #HL, HO, Hk33, Hr0, Hb31, Hb32⟩ Hk
  iapply (wt3 I K c 3 (by decide) 9 (by decide) (sem_of 3 (z c + 3) _ (off3_eq c 2) _) (rM_of (z c + 3) _ (off7_eq c 2) _)) $$ [HO Hk33]
  · isplitr; · iexact HR
    isplitr; · iexact HL
    isplitl [HO]; · iexact HO
    iexact Hk33
  iintro ⟨HO, Hz33, Hb33⟩
  ihave Hc1 := (rs_cut c (z c + 1) (rA I c)).1 $$ Hb31
  icases Hc1 with ⟨Hq1, Hrest1⟩
  ihave Hc2 := (rs_cut c (z c + 2) (rA I c)).1 $$ Hb32
  icases Hc2 with ⟨Hq2, Hrest2⟩
  ihave Hc3 := (rs_cut c (z c + 3) (rA I c)).1 $$ Hb33
  icases Hc3 with ⟨Hq3, Hrest3⟩
  iapply (ld_rall c (shr 0) (rA I c)) $$ [Hr0 Hq1 Hq2 Hq3]
  · isplitl [Hr0]; · iexact Hr0
    isplitl [Hq1]; · iexact Hq1
    isplitl [Hq2] <;> iassumption
  iintro ⟨Hr0, Hq1, Hq2, Hq3⟩
  ihave Hb31 := (rs_cut c (z c + 1) (rA I c)).2 $$ [Hq1 Hrest1]
  · isplitl [Hq1] <;> iassumption
  ihave Hb32 := (rs_cut c (z c + 2) (rA I c)).2 $$ [Hq2 Hrest2]
  · isplitl [Hq2] <;> iassumption
  ihave Hb33 := (rs_cut c (z c + 3) (rA I c)).2 $$ [Hq3 Hrest3]
  · isplitl [Hq3] <;> iassumption
  rw [wp_ret]; imodintro
  iapply Hk
  isplitl [HO]; · iexact HO
  isplitl [Hz33]; · iexact Hz33
  isplitl [Hb33]; · iexact Hb33
  isplitl [Hr0]; · iexact Hr0
  isplitl [Hb31]; · iexact Hb31
  iexact Hb32

/-- Part 12 of the body. -/
theorem part12 {Q : (Σ' (v394 : IVec S128x8 32) (v428 : FVec F S128x8 .f32), FVec F S128x8 .f32) → sProp 𝕄} (c : Dev nD) (v389 : Vec F S4x2x512 .f32)  :
    iprop(records I K ∗ levAts L lv ∗ px I c)
      ⊢ iprop(((px I c) -∗ Q ⟨eids, k0_pay18 v389 (I.x c), k0_pay19 v389 (I.x c)⟩)
        -∗ wp frame (wpE (defs₀ (F := F)) 𝒱₀ (c : Thread nD τ) none) Set.univ
          (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 v389) Q) := by
  simp only [k0_part12_eq_skeleton]; unfold k0_part12_skel
  simp only [semSignalWord, semWaitWord, Prog.lift, Prog.bind_op, Prog.bind_ret, Prog.pure_eq_ret, wp_deviceId]
  iintro ⟨#HR, #HL, Hpx⟩ Hk
  iapply (ld_px I c) $$ Hpx; iintro Hpx
  rw [wp_ret]; imodintro
  iapply Hk
  iexact Hpx

/-- Part 13 of the body. -/
theorem part13 {Q : (FVec F S128x8 .f32) → sProp 𝕄} (c : Dev nD) (v2 : BitVec 32) (v5 : BitVec 32) (v8 : BitVec 32) (v428 : FVec F S128x8 .f32) (v434 : FVec F S128x8 .f32) (hw : k0_pay21 v428 v434 = wG I c (z c)) :
    iprop(records I K ∗ levAts L lv ∗ (∃ f, ws c (z c) fullShare f))
      ⊢ iprop(((ws c (z c) fullShare (wA I c)) -∗ Q (k0_pay20 v428 v434))
        -∗ wp frame (wpE (defs₀ (F := F)) 𝒱₀ (c : Thread nD τ) none) Set.univ
          (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 v428 v434) Q) := by
  simp only [k0_part13_eq_skeleton]; unfold k0_part13_skel
  simp only [semSignalWord, semWaitWord, Prog.lift, Prog.bind_op, Prog.bind_ret, Prog.pure_eq_ret, wp_deviceId]
  iintro ⟨#HR, #HL, Hw⟩ Hk
  icases Hw with ⟨%f, Hw⟩
  iapply (ld_w c (z c) fullShare (o8_eq c) f _ fun _ => rfl) $$ Hw; iintro Hw
  iapply (sto_w c (z c) (o8_eq c) f (wG I c) hw) $$ Hw; iintro Hw
  rw [wp_ret]; imodintro
  iapply Hk
  iexact Hw

/-- Part 14 of the body. -/
theorem part14 {Q : (PUnit) → sProp 𝕄} (c : Dev nD) (v2 : BitVec 32) (v5 : BitVec 32) (v8 : BitVec 32)  :
    iprop(records I K ∗ levAts L lv ∗ ow c 9 ∗ ws c (z c) (shr 1) (wA I c) ∗ (∃ f, ws (peer c 1) (z c) fullShare f) ∗ sk c 4 5 1)
      ⊢ iprop(((ow c 10 ∗ rk c 4 1) -∗ Q ⟨⟩)
        -∗ wp frame (wpE (defs₀ (F := F)) 𝒱₀ (c : Thread nD τ) none) Set.univ
          (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8) Q) := by
  simp only [k0_part14_eq_skeleton]; unfold k0_part14_skel
  simp only [semSignalWord, semWaitWord, Prog.lift, Prog.bind_op, Prog.bind_ret, Prog.pure_eq_ret, wp_deviceId]
  iintro ⟨#HR, #HL, HO, Hsw1, Hdw1, Hkw1⟩ Hk
  iapply (send_w I K c _ 1 (by decide) (dev10_eq c) 9 (wM_of (z c) _ (o9_eq c) _) (wM_of (z c) _ (o9_eq c) _) (sem_of 4 (z c + 1) _ (off3_eq c 0) _) (sem_of 5 (z c) _ (o4_eq c) _) rfl) $$ [HO Hsw1 Hdw1 Hkw1]
  · isplitr; · iexact HR
    isplitl [HO]; · iexact HO
    isplitl [Hsw1]; · iexact Hsw1
    isplitl [Hdw1]; · iexact Hdw1
    iexact Hkw1
  iintro ⟨HO, Hww1⟩
  rw [wp_ret]; imodintro
  iapply Hk
  isplitl [HO]; · iexact HO
  iexact Hww1

/-- Part 15 of the body. -/
theorem part15 {Q : (PUnit) → sProp 𝕄} (c : Dev nD) (v2 : BitVec 32) (v5 : BitVec 32) (v8 : BitVec 32)  :
    iprop(records I K ∗ levAts L lv ∗ ow c 10 ∗ ws c (z c) (shr 2) (wA I c) ∗ (∃ f, ws (peer c 2) (z c) fullShare f) ∗ sk c 4 5 2)
      ⊢ iprop(((ow c 11 ∗ rk c 4 2) -∗ Q ⟨⟩)
        -∗ wp frame (wpE (defs₀ (F := F)) 𝒱₀ (c : Thread nD τ) none) Set.univ
          (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8) Q) := by
  simp only [k0_part15_eq_skeleton]; unfold k0_part15_skel
  simp only [semSignalWord, semWaitWord, Prog.lift, Prog.bind_op, Prog.bind_ret, Prog.pure_eq_ret, wp_deviceId]
  iintro ⟨#HR, #HL, HO, Hsw2, Hdw2, Hkw2⟩ Hk
  iapply (send_w I K c _ 2 (by decide) (dev11_eq c) 10 (wM_of (z c) _ (o9_eq c) _) (wM_of (z c) _ (o9_eq c) _) (sem_of 4 (z c + 2) _ (off3_eq c 1) _) (sem_of 5 (z c) _ (o4_eq c) _) rfl) $$ [HO Hsw2 Hdw2 Hkw2]
  · isplitr; · iexact HR
    isplitl [HO]; · iexact HO
    isplitl [Hsw2]; · iexact Hsw2
    isplitl [Hdw2]; · iexact Hdw2
    iexact Hkw2
  iintro ⟨HO, Hww2⟩
  rw [wp_ret]; imodintro
  iapply Hk
  isplitl [HO]; · iexact HO
  iexact Hww2

/-- Part 16 of the body. -/
theorem part16 {Q : (Σ' (v550 : BitVec 32) (v552 : BitVec 32) (v569 : FVec F S128x512 .f32) (v580 : BitVec 32) (v583 : BitVec 32), BitVec 32) → sProp 𝕄} (c : Dev nD) (v8 : BitVec 32) (v281 : FVec F S128x512 .f32) (v286 : FVec F S128x512 .f32) (v394 : IVec S128x8 32) (v435 : FVec F S128x8 .f32)  :
    iprop(records I K ∗ levAts L lv ∗ ow c 11 ∗ ws c (z c) (shr 3) (wA I c) ∗ (∃ f, ws (peer c 3) (z c) fullShare f) ∗ sk c 4 5 3)
      ⊢ iprop((∀ w3 w4 w5, (ow c 12 ∗ rk c 4 3) -∗ Q ⟨Scalar.muli v8 2#32, Scalar.addi (Scalar.muli v8 2#32) 1#32, k0_pay22 v8 v281 v286 v394 v435, w3, w4, w5⟩)
        -∗ wp frame (wpE (defs₀ (F := F)) 𝒱₀ (c : Thread nD τ) none) Set.univ
          (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v8 v281 v286 v394 v435) Q) := by
  simp only [k0_part16_eq_skeleton]; unfold k0_part16_skel
  simp only [semSignalWord, semWaitWord, Prog.lift, Prog.bind_op, Prog.bind_ret, Prog.pure_eq_ret, wp_deviceId]
  iintro ⟨#HR, #HL, HO, Hsw3, Hdw3, Hkw3⟩ Hk
  iapply (send_w I K c _ 3 (by decide) (dev12_eq c) 11 (wM_of (z c) _ (o9_eq c) _) (wM_of (z c) _ (o9_eq c) _) (sem_of 4 (z c + 3) _ (off3_eq c 2) _) (sem_of 5 (z c) _ (o4_eq c) _) rfl) $$ [HO Hsw3 Hdw3 Hkw3]
  · isplitr; · iexact HR
    isplitl [HO]; · iexact HO
    isplitl [Hsw3]; · iexact Hsw3
    isplitl [Hdw3]; · iexact Hdw3
    iexact Hkw3
  iintro ⟨HO, Hww3⟩
  rw [wp_ret]; imodintro
  iapply Hk
  isplitl [HO]; · iexact HO
  iexact Hww3

end

end Cert.KernelIdealRun

end
-- ==== Proof.KernelIdealRun.PartsC.lean ====
module

public import proofs.«01_k».proof.Proof.KernelIdealRun.Stage

/-! # The body, parts 17 to 23

One rule for each of these parts: what it needs and what it leaves. -/

@[expose] public section

noncomputable section

namespace Cert.KernelIdealRun

open Cert.KernelIdeal Cert.KernelIdeal.Gen Cert.Moe
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section
variable (I : Ins F) (K : CK → ℕ)

/-- Part 17 of the body. -/
theorem part17 {Q : (Σ' (v611 : FVec F S128x512 .f32) (v616 : FVec F S128x512 .f32) (v619 : BitVec 32), BitVec 32) → sProp 𝕄} (c : Dev nD) (v2 : BitVec 32) (v5 : BitVec 32) (v8 : BitVec 32) (v267 : FVec F S512x1024 .bf16) (v270 : FVec F S512x1024 .bf16) (v273 : FVec F S1024x512 .bf16) (v276 : FVec F S1024x512 .bf16) (v580 : BitVec 32) (v583 : BitVec 32) (v584 : BitVec 32)  :
    iprop(records I K ∗ levAts L lv ∗ ow c 12 ∗ rk c 1 1)
      ⊢ iprop((∀ w2 w3, (ow c 12 ∗ zk c 1 1 ∗ xs c (z c + 1) fullShare (xA I c)) -∗ Q ⟨k0_pay24 v267 v273 (xG I c (z c + 1)), k0_pay25 v270 v276 (xG I c (z c + 1)), w2, w3⟩)
        -∗ wp frame (wpE (defs₀ (F := F)) 𝒱₀ (c : Thread nD τ) none) Set.univ
          (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 v267 v270 v273 v276 v580 v583 v584) Q) := by
  simp only [k0_part17_eq_skeleton]; unfold k0_part17_skel
  simp only [semSignalWord, semWaitWord, Prog.lift, Prog.bind_op, Prog.bind_ret, Prog.pure_eq_ret, wp_deviceId]
  iintro ⟨#HR, #HL, HO, Hk11⟩ Hk
  iapply (wt1 I K c 1 (by decide) 12 (by decide) (sem_of 1 (z c + 1) _ (off3_eq c 0) _) (xM_of (z c + 1) _ (off10_eq c 0) _)) $$ [HO Hk11]
  · isplitr; · iexact HR
    isplitr; · iexact HL
    isplitl [HO]; · iexact HO
    iexact Hk11
  iintro ⟨HO, Hz11, Hb11⟩
  iapply (ld_x c (z c + 1) fullShare (off11_eq c 0) (xA I c) (xG I c (z c + 1)) (fun y => stack_emb (xG I c) (z c + 1) y)) $$ Hb11; iintro Hb11
  rw [wp_ret]; imodintro
  iapply Hk
  isplitl [HO]; · iexact HO
  isplitl [Hz11]; · iexact Hz11
  iexact Hb11

/-- Part 18 of the body. -/
theorem part18 {Q : (FVec F S1x128x512 .bf16) → sProp 𝕄} (c : Dev nD) (v2 : BitVec 32) (v5 : BitVec 32) (v394 : IVec S128x8 32) (v550 : BitVec 32) (v552 : BitVec 32) (v580 : BitVec 32) (v611 : FVec F S128x512 .f32) (v616 : FVec F S128x512 .f32) (v619 : BitVec 32) (v620 : BitVec 32)  :
    iprop(records I K ∗ levAts L lv ∗ ow c 12 ∗ rk c 5 1)
      ⊢ iprop(((ow c 12 ∗ zk c 5 1 ∗ ws c (z c + 1) fullShare (wA I c)) -∗ Q (k0_pay26 v394 v550 v552 v611 v616 (wG I c (z c + 1))))
        -∗ wp frame (wpE (defs₀ (F := F)) 𝒱₀ (c : Thread nD τ) none) Set.univ
          (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v394 v550 v552 v580 v611 v616 v619 v620) Q) := by
  simp only [k0_part18_eq_skeleton]; unfold k0_part18_skel
  simp only [semSignalWord, semWaitWord, Prog.lift, Prog.bind_op, Prog.bind_ret, Prog.pure_eq_ret, wp_deviceId]
  iintro ⟨#HR, #HL, HO, Hk51⟩ Hk
  iapply (wt5 I K c 1 (by decide) 12 (by decide) (sem_of 5 (z c + 1) _ (off3_eq c 0) _) (wM_of (z c + 1) _ (off12_eq c 0) _)) $$ [HO Hk51]
  · isplitr; · iexact HR
    isplitr; · iexact HL
    isplitl [HO]; · iexact HO
    iexact Hk51
  iintro ⟨HO, Hz51, Hb51⟩
  iapply (ld_w c (z c + 1) fullShare (off13_eq c 0) (wA I c) (wG I c (z c + 1)) (fun y => stack_emb (wG I c) (z c + 1) y)) $$ Hb51; iintro Hb51
  rw [wp_ret]; imodintro
  iapply Hk
  isplitl [HO]; · iexact HO
  isplitl [Hz51]; · iexact Hz51
  iexact Hb51

/-- Part 19 of the body. -/
theorem part19 {Q : (Σ' (v694 : BitVec 32) (v695 : BitVec 32) (v696 : BitVec 1), BitVec 1) → sProp 𝕄} (c : Dev nD) (v2 : BitVec 32) (v5 : BitVec 32) (v8 : BitVec 32) (v580 : BitVec 32) (v662 : FVec F S1x128x512 .bf16) (hw : k0_pay27 v662 = uG I c (z c + 1)) :
    iprop(records I K ∗ levAts L lv ∗ ow c 12 ∗ (∃ f, us c (z c + 1) fullShare f) ∗ (∃ f, vs (peer c 1) (z c) fullShare f) ∗ sk c 6 7 1)
      ⊢ iprop((∀ w0 w1 w2 w3, (ow c 13 ∗ rk c 6 1) -∗ Q ⟨w0, w1, w2, w3⟩)
        -∗ wp frame (wpE (defs₀ (F := F)) 𝒱₀ (c : Thread nD τ) none) Set.univ
          (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 v580 v662) Q) := by
  simp only [k0_part19_eq_skeleton]; unfold k0_part19_skel
  simp only [semSignalWord, semWaitWord, Prog.lift, Prog.bind_op, Prog.bind_ret, Prog.pure_eq_ret, wp_deviceId]
  iintro ⟨#HR, #HL, HO, Hu, Hdp1, Hkp1⟩ Hk
  icases Hu with ⟨%f, Hu⟩
  iapply (ld_u c (z c + 1) fullShare (off11_eq c 0) f _ fun _ => rfl) $$ Hu; iintro Hu
  iapply (sto_u c (z c + 1) (off11_eq c 0) f (uG I c) hw) $$ Hu; iintro Hu
  iapply (send_p I K c _ 1 (by decide) (dev13_eq c) 12 (uM_of (z c + 1) _ (off10_eq c 0) _) (vM_of (z c) _ (o5_eq c) _) (sem_of 6 (z c + 1) _ (off3_eq c 0) _) (sem_of 7 (z c) _ (o4_eq c) _) rfl) $$ [HO Hu Hdp1 Hkp1]
  · isplitr; · iexact HR
    isplitl [HO]; · iexact HO
    isplitl [Hu]; · iexact Hu
    isplitl [Hdp1]; · iexact Hdp1
    iexact Hkp1
  iintro ⟨HO, Hwp1⟩
  rw [wp_ret]; imodintro
  iapply Hk
  isplitl [HO]; · iexact HO
  iexact Hwp1

/-- Part 20 of the body. -/
theorem part20 {Q : (Σ' (v702 : BitVec 32) (v733 : FVec F S128x512 .f32), FVec F S128x1024 .f32) → sProp 𝕄} (c : Dev nD) (v2 : BitVec 32) (v5 : BitVec 32) (v8 : BitVec 32) (v267 : FVec F S512x1024 .bf16) (v270 : FVec F S512x1024 .bf16) (v273 : FVec F S1024x512 .bf16) (v694 : BitVec 32) (v695 : BitVec 32) (v696 : BitVec 1) (v697 : BitVec 1)  :
    iprop(records I K ∗ levAts L lv ∗ ow c 13 ∗ rk c 1 2)
      ⊢ iprop((∀ w0, (ow c 13 ∗ zk c 1 2 ∗ xs c (z c + 2) fullShare (xA I c)) -∗ Q ⟨w0, k0_pay29 v267 v273 (xG I c (z c + 2)), k0_pay30 v270 (xG I c (z c + 2))⟩)
        -∗ wp frame (wpE (defs₀ (F := F)) 𝒱₀ (c : Thread nD τ) none) Set.univ
          (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 v267 v270 v273 v694 v695 v696 v697) Q) := by
  simp only [k0_part20_eq_skeleton]; unfold k0_part20_skel
  simp only [semSignalWord, semWaitWord, Prog.lift, Prog.bind_op, Prog.bind_ret, Prog.pure_eq_ret, wp_deviceId]
  iintro ⟨#HR, #HL, HO, Hk12⟩ Hk
  iapply (wt1 I K c 2 (by decide) 13 (by decide) (sem_of 1 (z c + 2) _ (off3_eq c 1) _) (xM_of (z c + 2) _ (off10_eq c 1) _)) $$ [HO Hk12]
  · isplitr; · iexact HR
    isplitr; · iexact HL
    isplitl [HO]; · iexact HO
    iexact Hk12
  iintro ⟨HO, Hz12, Hb12⟩
  iapply (ld_x c (z c + 2) fullShare (off11_eq c 1) (xA I c) (xG I c (z c + 2)) (fun y => stack_emb (xG I c) (z c + 2) y)) $$ Hb12; iintro Hb12
  rw [wp_ret]; imodintro
  iapply Hk
  isplitl [HO]; · iexact HO
  isplitl [Hz12]; · iexact Hz12
  iexact Hb12

/-- Part 21 of the body. -/
theorem part21 {Q : (Σ' (v738 : FVec F S128x512 .f32) (v765 : FVec F S128x8 .f32) (v771 : FVec F S128x1 .f32), IVec S128x8 32) → sProp 𝕄} (c : Dev nD) (v2 : BitVec 32) (v5 : BitVec 32) (v8 : BitVec 32) (v276 : FVec F S1024x512 .bf16) (v394 : IVec S128x8 32) (v550 : BitVec 32) (v552 : BitVec 32) (v702 : BitVec 32) (v734 : FVec F S128x1024 .f32)  :
    iprop(records I K ∗ levAts L lv ∗ ow c 13 ∗ rk c 5 2)
      ⊢ iprop(((ow c 13 ∗ zk c 5 2 ∗ ws c (z c + 2) fullShare (wA I c)) -∗ Q ⟨k0_pay31 v276 v734, k0_pay32 (wG I c (z c + 2)), k0_pay33 v394 v550 (wG I c (z c + 2)), k0_pay34 v552⟩)
        -∗ wp frame (wpE (defs₀ (F := F)) 𝒱₀ (c : Thread nD τ) none) Set.univ
          (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 v276 v394 v550 v552 v702 v734) Q) := by
  simp only [k0_part21_eq_skeleton]; unfold k0_part21_skel
  simp only [semSignalWord, semWaitWord, Prog.lift, Prog.bind_op, Prog.bind_ret, Prog.pure_eq_ret, wp_deviceId]
  iintro ⟨#HR, #HL, HO, Hk52⟩ Hk
  iapply (wt5 I K c 2 (by decide) 13 (by decide) (sem_of 5 (z c + 2) _ (off3_eq c 1) _) (wM_of (z c + 2) _ (off12_eq c 1) _)) $$ [HO Hk52]
  · isplitr; · iexact HR
    isplitr; · iexact HL
    isplitl [HO]; · iexact HO
    iexact Hk52
  iintro ⟨HO, Hz52, Hb52⟩
  iapply (ld_w c (z c + 2) fullShare (off13_eq c 1) (wA I c) (wG I c (z c + 2)) (fun y => stack_emb (wG I c) (z c + 2) y)) $$ Hb52; iintro Hb52
  rw [wp_ret]; imodintro
  iapply Hk
  isplitl [HO]; · iexact HO
  isplitl [Hz52]; · iexact Hz52
  iexact Hb52

/-- Part 22 of the body. -/
theorem part22 {Q : (PUnit) → sProp 𝕄} (c : Dev nD) (v2 : BitVec 32) (v5 : BitVec 32) (v8 : BitVec 32) (v394 : IVec S128x8 32) (v702 : BitVec 32) (v733 : FVec F S128x512 .f32) (v738 : FVec F S128x512 .f32) (v765 : FVec F S128x8 .f32) (v771 : FVec F S128x1 .f32) (v772 : IVec S128x8 32) (hw : k0_pay35 v394 v733 v738 v765 v771 v772 = uG I c (z c + 2)) :
    iprop(records I K ∗ levAts L lv ∗ (∃ f, us c (z c + 2) fullShare f))
      ⊢ iprop(((us c (z c + 2) fullShare (uA I c)) -∗ Q ⟨⟩)
        -∗ wp frame (wpE (defs₀ (F := F)) 𝒱₀ (c : Thread nD τ) none) Set.univ
          (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 v394 v702 v733 v738 v765 v771 v772) Q) := by
  simp only [k0_part22_eq_skeleton]; unfold k0_part22_skel
  simp only [semSignalWord, semWaitWord, Prog.lift, Prog.bind_op, Prog.bind_ret, Prog.pure_eq_ret, wp_deviceId]
  iintro ⟨#HR, #HL, Hu⟩ Hk
  icases Hu with ⟨%f, Hu⟩
  iapply (ld_u c (z c + 2) fullShare (off11_eq c 1) f _ fun _ => rfl) $$ Hu; iintro Hu
  iapply (sto_u c (z c + 2) (off11_eq c 1) f (uG I c) hw) $$ Hu; iintro Hu
  rw [wp_ret]; imodintro
  iapply Hk
  iexact Hu

/-- Part 23 of the body. -/
theorem part23 {Q : (BitVec 32) → sProp 𝕄} (c : Dev nD) (v2 : BitVec 32) (v5 : BitVec 32) (v8 : BitVec 32)  :
    iprop(records I K ∗ levAts L lv ∗ ow c 13 ∗ us c (z c + 2) fullShare (uA I c) ∗ (∃ f, vs (peer c 2) (z c) fullShare f) ∗ sk c 6 7 2 ∗ rk c 1 3)
      ⊢ iprop((∀ w0, (ow c 14 ∗ rk c 6 2 ∗ zk c 1 3 ∗ xs c (z c + 3) fullShare (xA I c)) -∗ Q w0)
        -∗ wp frame (wpE (defs₀ (F := F)) 𝒱₀ (c : Thread nD τ) none) Set.univ
          (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8) Q) := by
  simp only [k0_part23_eq_skeleton]; unfold k0_part23_skel
  simp only [semSignalWord, semWaitWord, Prog.lift, Prog.bind_op, Prog.bind_ret, Prog.pure_eq_ret, wp_deviceId]
  iintro ⟨#HR, #HL, HO, Hsp2, Hdp2, Hkp2, Hk13⟩ Hk
  iapply (send_p I K c _ 2 (by decide) (dev14_eq c) 13 (uM_of (z c + 2) _ (off10_eq c 1) _) (vM_of (z c) _ (o5_eq c) _) (sem_of 6 (z c + 2) _ (off3_eq c 1) _) (sem_of 7 (z c) _ (o4_eq c) _) rfl) $$ [HO Hsp2 Hdp2 Hkp2]
  · isplitr; · iexact HR
    isplitl [HO]; · iexact HO
    isplitl [Hsp2]; · iexact Hsp2
    isplitl [Hdp2]; · iexact Hdp2
    iexact Hkp2
  iintro ⟨HO, Hwp2⟩
  iapply (wt1 I K c 3 (by decide) 14 (by decide) (sem_of 1 (z c + 3) _ (off3_eq c 2) _) (xM_of (z c + 3) _ (off10_eq c 2) _)) $$ [HO Hk13]
  · isplitr; · iexact HR
    isplitr; · iexact HL
    isplitl [HO]; · iexact HO
    iexact Hk13
  iintro ⟨HO, Hz13, Hb13⟩
  rw [wp_ret]; imodintro
  iapply Hk
  isplitl [HO]; · iexact HO
  isplitl [Hwp2]; · iexact Hwp2
  isplitl [Hz13]; · iexact Hz13
  iexact Hb13

end

end Cert.KernelIdealRun

end
-- ==== Proof.KernelIdealRun.PartsD.lean ====
module

public import proofs.«01_k».proof.Proof.KernelIdealRun.Stage

/-! # The body, parts 24 to 30

One rule for each of these parts: what it needs and what it leaves. -/

@[expose] public section

noncomputable section

namespace Cert.KernelIdealRun

open Cert.KernelIdeal Cert.KernelIdeal.Gen Cert.Moe
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section
variable (I : Ins F) (K : CK → ℕ)

/-- Part 24 of the body. -/
theorem part24 {Q : (Σ' (v855 : FVec F S128x512 .f32), FVec F S128x512 .f32) → sProp 𝕄} (c : Dev nD) (v2 : BitVec 32) (v5 : BitVec 32) (v8 : BitVec 32) (v267 : FVec F S512x1024 .bf16) (v270 : FVec F S512x1024 .bf16) (v273 : FVec F S1024x512 .bf16) (v276 : FVec F S1024x512 .bf16) (v824 : BitVec 32)  :
    iprop(records I K ∗ levAts L lv ∗ ow c 14 ∗ rk c 5 3 ∗ xs c (z c + 3) fullShare (xA I c))
      ⊢ iprop(((ow c 14 ∗ zk c 5 3 ∗ ws c (z c + 3) fullShare (wA I c) ∗ xs c (z c + 3) fullShare (xA I c)) -∗ Q ⟨k0_pay37 v267 v273 (xG I c (z c + 3)), k0_pay38 v270 v276 (xG I c (z c + 3))⟩)
        -∗ wp frame (wpE (defs₀ (F := F)) 𝒱₀ (c : Thread nD τ) none) Set.univ
          (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 v267 v270 v273 v276 v824) Q) := by
  simp only [k0_part24_eq_skeleton]; unfold k0_part24_skel
  simp only [semSignalWord, semWaitWord, Prog.lift, Prog.bind_op, Prog.bind_ret, Prog.pure_eq_ret, wp_deviceId]
  iintro ⟨#HR, #HL, HO, Hk53, Hb13⟩ Hk
  iapply (ld_x c (z c + 3) fullShare (off11_eq c 2) (xA I c) (xG I c (z c + 3)) (fun y => stack_emb (xG I c) (z c + 3) y)) $$ Hb13; iintro Hb13
  iapply (wt5 I K c 3 (by decide) 14 (by decide) (sem_of 5 (z c + 3) _ (off3_eq c 2) _) (wM_of (z c + 3) _ (off12_eq c 2) _)) $$ [HO Hk53]
  · isplitr; · iexact HR
    isplitr; · iexact HL
    isplitl [HO]; · iexact HO
    iexact Hk53
  iintro ⟨HO, Hz53, Hb53⟩
  rw [wp_ret]; imodintro
  iapply Hk
  isplitl [HO]; · iexact HO
  isplitl [Hz53]; · iexact Hz53
  isplitl [Hb53]; · iexact Hb53
  iexact Hb13

/-- Part 25 of the body. -/
theorem part25 {Q : (Σ' (v921 : BitVec 32), BitVec 32) → sProp 𝕄} (c : Dev nD) (v2 : BitVec 32) (v5 : BitVec 32) (v8 : BitVec 32) (v394 : IVec S128x8 32) (v550 : BitVec 32) (v552 : BitVec 32) (v824 : BitVec 32) (v855 : FVec F S128x512 .f32) (v860 : FVec F S128x512 .f32) (hw : k0_pay39 v394 v550 v552 v855 v860 (wG I c (z c + 3)) = uG I c (z c + 3)) :
    iprop(records I K ∗ levAts L lv ∗ ws c (z c + 3) fullShare (wA I c) ∗ (∃ f, us c (z c + 3) fullShare f))
      ⊢ iprop((∀ w0 w1, (ws c (z c + 3) fullShare (wA I c) ∗ us c (z c + 3) fullShare (uA I c)) -∗ Q ⟨w0, w1⟩)
        -∗ wp frame (wpE (defs₀ (F := F)) 𝒱₀ (c : Thread nD τ) none) Set.univ
          (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 v394 v550 v552 v824 v855 v860) Q) := by
  simp only [k0_part25_eq_skeleton]; unfold k0_part25_skel
  simp only [semSignalWord, semWaitWord, Prog.lift, Prog.bind_op, Prog.bind_ret, Prog.pure_eq_ret, wp_deviceId]
  iintro ⟨#HR, #HL, Hb53, Hu⟩ Hk
  iapply (ld_w c (z c + 3) fullShare (off13_eq c 2) (wA I c) (wG I c (z c + 3)) (fun y => stack_emb (wG I c) (z c + 3) y)) $$ Hb53; iintro Hb53
  icases Hu with ⟨%f, Hu⟩
  iapply (ld_u c (z c + 3) fullShare (off11_eq c 2) f _ fun _ => rfl) $$ Hu; iintro Hu
  iapply (sto_u c (z c + 3) (off11_eq c 2) f (uG I c) hw) $$ Hu; iintro Hu
  rw [wp_ret]; imodintro
  iapply Hk
  isplitl [Hb53]; · iexact Hb53
  iexact Hu

/-- Part 26 of the body. -/
theorem part26 {Q : (Σ' (v957 : BitVec 32) (v961 : BitVec 32), BitVec 32) → sProp 𝕄} (c : Dev nD) (v2 : BitVec 32) (v5 : BitVec 32) (v8 : BitVec 32) (v921 : BitVec 32) (v925 : BitVec 32)  :
    iprop(records I K ∗ levAts L lv ∗ ow c 14 ∗ us c (z c + 3) fullShare (uA I c) ∗ (∃ f, vs (peer c 3) (z c) fullShare f) ∗ sk c 6 7 3)
      ⊢ iprop((∀ w0 w1 w2, (ow c 15 ∗ rk c 6 3) -∗ Q ⟨w0, w1, w2⟩)
        -∗ wp frame (wpE (defs₀ (F := F)) 𝒱₀ (c : Thread nD τ) none) Set.univ
          (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 v921 v925) Q) := by
  simp only [k0_part26_eq_skeleton]; unfold k0_part26_skel
  simp only [semSignalWord, semWaitWord, Prog.lift, Prog.bind_op, Prog.bind_ret, Prog.pure_eq_ret, wp_deviceId]
  iintro ⟨#HR, #HL, HO, Hsp3, Hdp3, Hkp3⟩ Hk
  iapply (send_p I K c _ 3 (by decide) (dev15_eq c) 14 (uM_of (z c + 3) _ (off10_eq c 2) _) (vM_of (z c) _ (o5_eq c) _) (sem_of 6 (z c + 3) _ (off3_eq c 2) _) (sem_of 7 (z c) _ (o4_eq c) _) rfl) $$ [HO Hsp3 Hdp3 Hkp3]
  · isplitr; · iexact HR
    isplitl [HO]; · iexact HO
    isplitl [Hsp3]; · iexact Hsp3
    isplitl [Hdp3]; · iexact Hdp3
    iexact Hkp3
  iintro ⟨HO, Hwp3⟩
  rw [wp_ret]; imodintro
  iapply Hk
  isplitl [HO]; · iexact HO
  iexact Hwp3

/-- Part 27 of the body. -/
theorem part27 {Q : (PUnit) → sProp 𝕄} (c : Dev nD) (v2 : BitVec 32) (v5 : BitVec 32) (v8 : BitVec 32) (v957 : BitVec 32) (v961 : BitVec 32) (c1_i32_554 : BitVec 32)  :
    iprop(records I K ∗ levAts L lv ∗ ow c 15 ∗ rk c 7 1)
      ⊢ iprop(((ow c 15 ∗ zk c 7 1 ∗ vs c (z c + 1) fullShare (vA I c)) -∗ Q ⟨⟩)
        -∗ wp frame (wpE (defs₀ (F := F)) 𝒱₀ (c : Thread nD τ) none) Set.univ
          (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8 v957 v961 c1_i32_554) Q) := by
  simp only [k0_part27_eq_skeleton]; unfold k0_part27_skel
  simp only [semSignalWord, semWaitWord, Prog.lift, Prog.bind_op, Prog.bind_ret, Prog.pure_eq_ret, wp_deviceId]
  iintro ⟨#HR, #HL, HO, Hk71⟩ Hk
  iapply (wt7 I K c 1 (by decide) 15 (by decide) (sem_of 7 (z c + 1) _ (off3_eq c 0) _) (vM_of (z c + 1) _ (off10_eq c 0) _)) $$ [HO Hk71]
  · isplitr; · iexact HR
    isplitr; · iexact HL
    isplitl [HO]; · iexact HO
    iexact Hk71
  iintro ⟨HO, Hz71, Hb71⟩
  rw [wp_ret]; imodintro
  iapply Hk
  isplitl [HO]; · iexact HO
  isplitl [Hz71]; · iexact Hz71
  iexact Hb71

/-- Part 28 of the body. -/
theorem part28 {Q : (PUnit) → sProp 𝕄} (c : Dev nD) (v2 : BitVec 32) (v5 : BitVec 32) (v8 : BitVec 32)  :
    iprop(records I K ∗ levAts L lv ∗ ow c 15 ∗ rk c 7 2)
      ⊢ iprop(((ow c 15 ∗ zk c 7 2 ∗ vs c (z c + 2) fullShare (vA I c)) -∗ Q ⟨⟩)
        -∗ wp frame (wpE (defs₀ (F := F)) 𝒱₀ (c : Thread nD τ) none) Set.univ
          (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v5 v8) Q) := by
  simp only [k0_part28_eq_skeleton]; unfold k0_part28_skel
  simp only [semSignalWord, semWaitWord, Prog.lift, Prog.bind_op, Prog.bind_ret, Prog.pure_eq_ret, wp_deviceId]
  iintro ⟨#HR, #HL, HO, Hk72⟩ Hk
  iapply (wt7 I K c 2 (by decide) 15 (by decide) (sem_of 7 (z c + 2) _ (off3_eq c 1) _) (vM_of (z c + 2) _ (off10_eq c 1) _)) $$ [HO Hk72]
  · isplitr; · iexact HR
    isplitr; · iexact HL
    isplitl [HO]; · iexact HO
    iexact Hk72
  iintro ⟨HO, Hz72, Hb72⟩
  rw [wp_ret]; imodintro
  iapply Hk
  isplitl [HO]; · iexact HO
  isplitl [Hz72]; · iexact Hz72
  iexact Hb72

/-- Part 29 of the body. -/
theorem part29 {Q : (PUnit) → sProp 𝕄} (c : Dev nD) (v569 : FVec F S128x512 .f32)  :
    iprop(records I K ∗ levAts L lv ∗ ow c 15 ∗ rk c 7 3 ∗ vs c (z c) fullShare (vA I c) ∗ vs c (z c + 1) fullShare (vA I c) ∗ vs c (z c + 2) fullShare (vA I c) ∗ (∃ f, po c f) ∗ rk c 0 1 ∗ rk c 0 2 ∗ rk c 0 3)
      ⊢ iprop(((ow c 15 ∗ zk c 7 3 ∗ vs c (z c + 3) fullShare (vA I c) ∗ vs c (z c) fullShare (vA I c) ∗ vs c (z c + 1) fullShare (vA I c) ∗ vs c (z c + 2) fullShare (vA I c) ∗ po c (k0_pay40 v569 (vA I c)) ∗ zk c 0 1 ∗ xs c (z c) (shr 1) (xA I c) ∗ zk c 0 2 ∗ xs c (z c) (shr 2) (xA I c) ∗ zk c 0 3 ∗ xs c (z c) (shr 3) (xA I c)) -∗ Q ⟨⟩)
        -∗ wp frame (wpE (defs₀ (F := F)) 𝒱₀ (c : Thread nD τ) none) Set.univ
          (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v569) Q) := by
  simp only [k0_part29_eq_skeleton]; unfold k0_part29_skel
  simp only [semSignalWord, semWaitWord, Prog.lift, Prog.bind_op, Prog.bind_ret, Prog.pure_eq_ret, wp_deviceId]
  iintro ⟨#HR, #HL, HO, Hk73, Hv, Hb71, Hb72, Hpo, Hk01, Hk02, Hk03⟩ Hk
  iapply (wt7 I K c 3 (by decide) 15 (by decide) (sem_of 7 (z c + 3) _ (off3_eq c 2) _) (vM_of (z c + 3) _ (off10_eq c 2) _)) $$ [HO Hk73]
  · isplitr; · iexact HR
    isplitr; · iexact HL
    isplitl [HO]; · iexact HO
    iexact Hk73
  iintro ⟨HO, Hz73, Hb73⟩
  iapply (ld_vall c fullShare (vA I c)) $$ [Hv Hb71 Hb72 Hb73]
  · isplitl [Hv]; · iexact Hv
    isplitl [Hb71]; · iexact Hb71
    isplitl [Hb72] <;> iassumption
  iintro ⟨Hv, Hb71, Hb72, Hb73⟩
  icases Hpo with ⟨%f, Hpo⟩
  iapply (ld_po c f) $$ Hpo; iintro Hpo
  iapply (sto_po c f) $$ Hpo; iintro Hpo
  iapply (wt0 I K c 1 (by decide) 15 (by decide) (sem_of 0 (z c + 1) _ (off3_eq c 0) _) (xM_of (z c) _ (o5_eq c) _)) $$ [HO Hk01]
  · isplitr; · iexact HR
    isplitr; · iexact HL
    isplitl [HO]; · iexact HO
    iexact Hk01
  iintro ⟨HO, Hz01, Hb01⟩
  iapply (wt0 I K c 2 (by decide) 15 (by decide) (sem_of 0 (z c + 2) _ (off3_eq c 1) _) (xM_of (z c) _ (o5_eq c) _)) $$ [HO Hk02]
  · isplitr; · iexact HR
    isplitr; · iexact HL
    isplitl [HO]; · iexact HO
    iexact Hk02
  iintro ⟨HO, Hz02, Hb02⟩
  iapply (wt0 I K c 3 (by decide) 15 (by decide) (sem_of 0 (z c + 3) _ (off3_eq c 2) _) (xM_of (z c) _ (o5_eq c) _)) $$ [HO Hk03]
  · isplitr; · iexact HR
    isplitr; · iexact HL
    isplitl [HO]; · iexact HO
    iexact Hk03
  iintro ⟨HO, Hz03, Hb03⟩
  rw [wp_ret]; imodintro
  iapply Hk
  isplitl [HO]; · iexact HO
  isplitl [Hz73]; · iexact Hz73
  isplitl [Hb73]; · iexact Hb73
  isplitl [Hv]; · iexact Hv
  isplitl [Hb71]; · iexact Hb71
  isplitl [Hb72]; · iexact Hb72
  isplitl [Hpo]; · iexact Hpo
  isplitl [Hz01]; · iexact Hz01
  isplitl [Hb01]; · iexact Hb01
  isplitl [Hz02]; · iexact Hz02
  isplitl [Hb02]; · iexact Hb02
  isplitl [Hz03]; · iexact Hz03
  iexact Hb03

/-- Part 30 of the body. -/
theorem part30 {Q : (PUnit) → sProp 𝕄} (c : Dev nD)   :
    iprop(records I K ∗ levAts L lv ∗ ow c 15 ∗ rk c 2 1 ∗ rk c 2 2 ∗ rk c 2 3 ∗ rk c 4 1 ∗ rk c 4 2)
      ⊢ iprop(((ow c 15 ∗ zk c 2 1 ∗ rs c (z c) (shr 1) (rA I c) ∗ zk c 2 2 ∗ rs c (z c) (shr 2) (rA I c) ∗ zk c 2 3 ∗ rs c (z c) (shr 3) (rA I c) ∗ zk c 4 1 ∗ ws c (z c) (shr 1) (wA I c) ∗ zk c 4 2 ∗ ws c (z c) (shr 2) (wA I c)) -∗ Q ⟨⟩)
        -∗ wp frame (wpE (defs₀ (F := F)) 𝒱₀ (c : Thread nD τ) none) Set.univ
          (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c) Q) := by
  simp only [k0_part30_eq_skeleton]; unfold k0_part30_skel
  simp only [semSignalWord, semWaitWord, Prog.lift, Prog.bind_op, Prog.bind_ret, Prog.pure_eq_ret, wp_deviceId]
  iintro ⟨#HR, #HL, HO, Hk21, Hk22, Hk23, Hk41, Hk42⟩ Hk
  iapply (wt2 I K c 1 (by decide) 15 (by decide) (sem_of 2 (z c + 1) _ (off3_eq c 0) _) (rM_of (z c) _ (o6_eq c) _)) $$ [HO Hk21]
  · isplitr; · iexact HR
    isplitr; · iexact HL
    isplitl [HO]; · iexact HO
    iexact Hk21
  iintro ⟨HO, Hz21, Hb21⟩
  iapply (wt2 I K c 2 (by decide) 15 (by decide) (sem_of 2 (z c + 2) _ (off3_eq c 1) _) (rM_of (z c) _ (o6_eq c) _)) $$ [HO Hk22]
  · isplitr; · iexact HR
    isplitr; · iexact HL
    isplitl [HO]; · iexact HO
    iexact Hk22
  iintro ⟨HO, Hz22, Hb22⟩
  iapply (wt2 I K c 3 (by decide) 15 (by decide) (sem_of 2 (z c + 3) _ (off3_eq c 2) _) (rM_of (z c) _ (o6_eq c) _)) $$ [HO Hk23]
  · isplitr; · iexact HR
    isplitr; · iexact HL
    isplitl [HO]; · iexact HO
    iexact Hk23
  iintro ⟨HO, Hz23, Hb23⟩
  iapply (wt4 I K c 1 (by decide) 15 (by decide) (sem_of 4 (z c + 1) _ (off3_eq c 0) _) (wM_of (z c) _ (o9_eq c) _)) $$ [HO Hk41]
  · isplitr; · iexact HR
    isplitr; · iexact HL
    isplitl [HO]; · iexact HO
    iexact Hk41
  iintro ⟨HO, Hz41, Hb41⟩
  iapply (wt4 I K c 2 (by decide) 15 (by decide) (sem_of 4 (z c + 2) _ (off3_eq c 1) _) (wM_of (z c) _ (o9_eq c) _)) $$ [HO Hk42]
  · isplitr; · iexact HR
    isplitr; · iexact HL
    isplitl [HO]; · iexact HO
    iexact Hk42
  iintro ⟨HO, Hz42, Hb42⟩
  rw [wp_ret]; imodintro
  iapply Hk
  isplitl [HO]; · iexact HO
  isplitl [Hz21]; · iexact Hz21
  isplitl [Hb21]; · iexact Hb21
  isplitl [Hz22]; · iexact Hz22
  isplitl [Hb22]; · iexact Hb22
  isplitl [Hz23]; · iexact Hz23
  isplitl [Hb23]; · iexact Hb23
  isplitl [Hz41]; · iexact Hz41
  isplitl [Hb41]; · iexact Hb41
  isplitl [Hz42]; · iexact Hz42
  iexact Hb42

end

end Cert.KernelIdealRun

end
-- ==== Proof.KernelIdealRun.Part31.lean ====
module

public import proofs.«01_k».proof.Proof.KernelIdealRun.PartsA
public import proofs.«01_k».proof.Proof.KernelIdealRun.PartsB
public import proofs.«01_k».proof.Proof.KernelIdealRun.PartsC
public import proofs.«01_k».proof.Proof.KernelIdealRun.PartsD

/-! # The body whole

Its thirty parts in order. -/

@[expose] public section

noncomputable section

namespace Cert.KernelIdealRun

open Cert.KernelIdeal Cert.KernelIdeal.Gen Cert.Moe
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section
variable (I : Ins F) (K : CK → ℕ)

/-- The sum sent to the first peer is the stated one. -/
theorem hu1 (c : Dev nD) : k0_pay27 (k0_pay26 eids (Scalar.muli (zw c) 2#32) (Scalar.addi (Scalar.muli (zw c) 2#32) 1#32)
    (k0_pay24 (k0_pay5 (a0 I c)) (k0_pay7 (b0 I c)) (xG I c (z c + 1))) (k0_pay25 (k0_pay6 (a1 I c)) (k0_pay8 (b1 I c)) (xG I c (z c + 1))) (wG I c (z c + 1))) = uG I c (z c + 1) := rfl
/-- The sum sent to the second peer is the stated one. -/
theorem hu2 (c : Dev nD) : k0_pay35 eids (k0_pay29 (k0_pay5 (a0 I c)) (k0_pay7 (b0 I c)) (xG I c (z c + 2)))
    (k0_pay31 (k0_pay8 (b1 I c)) (k0_pay30 (k0_pay6 (a1 I c)) (xG I c (z c + 2)))) (k0_pay32 (wG I c (z c + 2))) (k0_pay33 eids (Scalar.muli (zw c) 2#32) (wG I c (z c + 2)))
    (k0_pay34 (Scalar.addi (Scalar.muli (zw c) 2#32) 1#32)) = uG I c (z c + 2) := rfl
/-- The sum sent to the third peer is the stated one. -/
theorem hu3 (c : Dev nD) : k0_pay39 eids (Scalar.muli (zw c) 2#32) (Scalar.addi (Scalar.muli (zw c) 2#32) 1#32)
    (k0_pay37 (k0_pay5 (a0 I c)) (k0_pay7 (b0 I c)) (xG I c (z c + 3))) (k0_pay38 (k0_pay6 (a1 I c)) (k0_pay8 (b1 I c)) (xG I c (z c + 3))) (wG I c (z c + 3)) = uG I c (z c + 3) := rfl

set_option maxHeartbeats 1600000 in
/-- The body up to its last two waits: what it needs and what it leaves. -/
theorem part31 {Q : Dev nD → sProp 𝕄} (c : Dev nD) :
    iprop(records I K ∗ levAts L lv ∗ px I c ∗ pr I c ∗ pa I c ∗ pb I c ∗ (∃ f, po c f) ∗ ow c 0 ∗ (∃ f, xs c (z c) fullShare f) ∗ (∃ f, rs c (z c) fullShare f) ∗ (∃ f, ws c (z c) fullShare f) ∗ (∃ f, vs c (z c) fullShare f) ∗ (∃ f, us c (z c + 1) fullShare f) ∗ (∃ f, us c (z c + 2) fullShare f) ∗ (∃ f, us c (z c + 3) fullShare f) ∗ gv c 1 ∗ gv c 2 ∗ gv c 3 ∗ cred (tallyAt (barCell c) () 3) ∗ atPos ER (barCell c) 0 ∅ 0 ∗ sk c 0 1 1 ∗ sk c 0 1 2 ∗ sk c 0 1 3 ∗ sk c 2 3 1 ∗ sk c 2 3 2 ∗ sk c 2 3 3 ∗ sk c 4 5 1 ∗ sk c 4 5 2 ∗ sk c 4 5 3 ∗ sk c 6 7 1 ∗ sk c 6 7 2 ∗ sk c 6 7 3 ∗ rk c 1 1 ∗ rk c 1 2 ∗ rk c 1 3 ∗ rk c 3 1 ∗ rk c 3 2 ∗ rk c 3 3 ∗ rk c 5 1 ∗ rk c 5 2 ∗ rk c 5 3 ∗ rk c 7 1 ∗ rk c 7 2 ∗ rk c 7 3)
      ⊢ iprop(((semVal (barCell c) 0 ∗ pr I c ∗ xs c (z c) (shr 0) (xA I c) ∗ pa I c ∗ pb I c ∗ zk c 3 1 ∗ zk c 3 2 ∗ zk c 3 3 ∗ rs c (z c + 3) fullShare (rA I c) ∗ rs c (z c) (shr 0) (rA I c) ∗ rs c (z c + 1) fullShare (rA I c) ∗ rs c (z c + 2) fullShare (rA I c) ∗ px I c ∗ ws c (z c) (shr 0) (wA I c) ∗ zk c 1 1 ∗ xs c (z c + 1) fullShare (xA I c) ∗ zk c 5 1 ∗ ws c (z c + 1) fullShare (wA I c) ∗ zk c 1 2 ∗ xs c (z c + 2) fullShare (xA I c) ∗ zk c 5 2 ∗ ws c (z c + 2) fullShare (wA I c) ∗ rk c 6 2 ∗ zk c 1 3 ∗ zk c 5 3 ∗ xs c (z c + 3) fullShare (xA I c) ∗ ws c (z c + 3) fullShare (wA I c) ∗ rk c 6 3 ∗ zk c 7 1 ∗ zk c 7 2 ∗ zk c 7 3 ∗ vs c (z c + 3) fullShare (vA I c) ∗ vs c (z c) fullShare (vA I c) ∗ vs c (z c + 1) fullShare (vA I c) ∗ vs c (z c + 2) fullShare (vA I c) ∗ po c (out I c) ∗ zk c 0 1 ∗ xs c (z c) (shr 1) (xA I c) ∗ zk c 0 2 ∗ xs c (z c) (shr 2) (xA I c) ∗ zk c 0 3 ∗ xs c (z c) (shr 3) (xA I c) ∗ zk c 2 1 ∗ rs c (z c) (shr 1) (rA I c) ∗ zk c 2 2 ∗ rs c (z c) (shr 2) (rA I c) ∗ zk c 2 3 ∗ rs c (z c) (shr 3) (rA I c) ∗ zk c 4 1 ∗ ws c (z c) (shr 1) (wA I c) ∗ zk c 4 2 ∗ ws c (z c) (shr 2) (wA I c) ∗ zk c 4 3 ∗ ws c (z c) (shr 3) (wA I c) ∗ ow c 15 ∗ zk c 6 1 ∗ us c (z c + 1) fullShare (uA I c)) -∗ Q c)
        -∗ wp frame (wpE (defs₀ (F := F)) 𝒱₀ (c : Thread nD τ) none) Set.univ
          (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) Q) := by
  simp only [k0_part31_eq_skeleton]; unfold k0_part31_skel
  simp only [Prog.lift, Prog.bind_op, Prog.bind_ret, Prog.pure_eq_ret, wp_bind]
  iintro ⟨#HR, #HL, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42⟩ Hk
  iapply (part1 I K c) $$ [h6 h10 h14]
  · isplitr; · iexact HR
    isplitr; · iexact HL
    isplitl [h6]; · iexact h6
    isplitl [h10]; · iexact h10
    iexact h14
  iintro %w0 %w1 %w2 %w3 %w4 ⟨h43, h44⟩
  try dsimp only
  iapply (part2 I K c _ _ _ _ _ _) $$ [h43 h15 h16 h17 h18]
  · isplitr; · iexact HR
    isplitr; · iexact HL
    isplitl [h43]; · iexact h43
    isplitl [h15]; · iexact h15
    isplitl [h16]; · iexact h16
    isplitl [h17]; · iexact h17
    iexact h18
  iintro ⟨h45, h46, h47, h48, h49⟩
  try dsimp only
  unfold barPay
  icases h47 with ⟨h50, h51, h52, h53⟩
  icases h48 with ⟨h54, h55, h56, h57⟩
  icases h49 with ⟨h58, h59, h60, h61⟩
  iapply (part3 I K c _) $$ [h1 h2 h7 h8]
  · isplitr; · iexact HR
    isplitr; · iexact HL
    isplitl [h1]; · iexact h1
    isplitl [h2]; · iexact h2
    isplitl [h7]; · iexact h7
    iexact h8
  iintro %w0 %w1 %w2 ⟨h62, h63, h64, h65⟩
  try dsimp only
  ihave h64 := (xs_cut c (z c) (xA I c)).1 $$ h64
  icases h64 with ⟨h66, h67, h68, h69⟩
  ihave h65 := (rs_cut c (z c) (rA I c)).1 $$ h65
  icases h65 with ⟨h70, h71, h72, h73⟩
  iapply (part4 I K c _ _ _ _ _ _) $$ [h45 h67 h50 h19]
  · isplitr; · iexact HR
    isplitr; · iexact HL
    isplitl [h45]; · iexact h45
    isplitl [h67]; · iexact h67
    isplitl [h50]; · iexact h50
    iexact h19
  iintro ⟨h74, h75⟩
  try dsimp only
  iapply (part5 I K c _ _ _) $$ [h74 h71 h51 h22]
  · isplitr; · iexact HR
    isplitr; · iexact HL
    isplitl [h74]; · iexact h74
    isplitl [h71]; · iexact h71
    isplitl [h51]; · iexact h51
    iexact h22
  iintro ⟨h76, h77⟩
  try dsimp only
  iapply (part6 I K c _ _ _) $$ [h76 h68 h54 h20 h72 h55 h23]
  · isplitr; · iexact HR
    isplitr; · iexact HL
    isplitl [h76]; · iexact h76
    isplitl [h68]; · iexact h68
    isplitl [h54]; · iexact h54
    isplitl [h20]; · iexact h20
    isplitl [h72]; · iexact h72
    isplitl [h55]; · iexact h55
    iexact h23
  iintro %w0 %w1 %w2 %w3 ⟨h78, h79, h80⟩
  try dsimp only
  iapply (part7 I K c _ _ _ _ _ _ _) $$ [h78 h69 h58 h21]
  · isplitr; · iexact HR
    isplitr; · iexact HL
    isplitl [h78]; · iexact h78
    isplitl [h69]; · iexact h69
    isplitl [h58]; · iexact h58
    iexact h21
  iintro %w0 %w1 %w2 ⟨h81, h82⟩
  try dsimp only
  iapply (part8 I K c _ _ _ _ _ _) $$ [h81 h73 h59 h24 h3 h4]
  · isplitr; · iexact HR
    isplitr; · iexact HL
    isplitl [h81]; · iexact h81
    isplitl [h73]; · iexact h73
    isplitl [h59]; · iexact h59
    isplitl [h24]; · iexact h24
    isplitl [h3]; · iexact h3
    iexact h4
  iintro ⟨h83, h84, h85, h86⟩
  try dsimp only
  iapply (part9 I K c _ _ _ _ _ _) $$ []
  · isplitr; · iexact HR
    isplitr; · iexact HL
    iempintro
  iintro -
  try dsimp only
  iapply (part10 I K c _ _ _) $$ [h83 h34 h35]
  · isplitr; · iexact HR
    isplitr; · iexact HL
    isplitl [h83]; · iexact h83
    isplitl [h34]; · iexact h34
    iexact h35
  iintro %w0 ⟨h87, h88, h89, h90, h91⟩
  try dsimp only
  iapply (part11 I K c _ _ _ _) $$ [h87 h36 h70 h89 h91]
  · isplitr; · iexact HR
    isplitr; · iexact HL
    isplitl [h87]; · iexact h87
    isplitl [h36]; · iexact h36
    isplitl [h70]; · iexact h70
    isplitl [h89]; · iexact h89
    iexact h91
  iintro ⟨h92, h93, h94, h95, h96, h97⟩
  try dsimp only
  iapply (part12 I K c _) $$ [h62]
  · isplitr; · iexact HR
    isplitr; · iexact HL
    iexact h62
  iintro h98
  try dsimp only
  iapply (part13 I K c _ _ _ _ _ (by unfold wG; rw [at_z])) $$ [h9]
  · isplitr; · iexact HR
    isplitr; · iexact HL
    iexact h9
  iintro h99
  try dsimp only
  ihave h99 := (ws_cut c (z c) (wA I c)).1 $$ h99
  icases h99 with ⟨h100, h101, h102, h103⟩
  iapply (part14 I K c _ _ _) $$ [h92 h101 h52 h25]
  · isplitr; · iexact HR
    isplitr; · iexact HL
    isplitl [h92]; · iexact h92
    isplitl [h101]; · iexact h101
    isplitl [h52]; · iexact h52
    iexact h25
  iintro ⟨h104, h105⟩
  try dsimp only
  iapply (part15 I K c _ _ _) $$ [h104 h102 h56 h26]
  · isplitr; · iexact HR
    isplitr; · iexact HL
    isplitl [h104]; · iexact h104
    isplitl [h102]; · iexact h102
    isplitl [h56]; · iexact h56
    iexact h26
  iintro ⟨h106, h107⟩
  try dsimp only
  iapply (part16 I K c _ _ _ _ _) $$ [h106 h103 h60 h27]
  · isplitr; · iexact HR
    isplitr; · iexact HL
    isplitl [h106]; · iexact h106
    isplitl [h103]; · iexact h103
    isplitl [h60]; · iexact h60
    iexact h27
  iintro %w0 %w1 %w2 ⟨h108, h109⟩
  try dsimp only
  iapply (part17 I K c _ _ _ _ _ _ _ _ _ _) $$ [h108 h31]
  · isplitr; · iexact HR
    isplitr; · iexact HL
    isplitl [h108]; · iexact h108
    iexact h31
  iintro %w0 %w1 ⟨h110, h111, h112⟩
  try dsimp only
  iapply (part18 I K c _ _ _ _ _ _ _ _ _ _) $$ [h110 h37]
  · isplitr; · iexact HR
    isplitr; · iexact HL
    isplitl [h110]; · iexact h110
    iexact h37
  iintro ⟨h113, h114, h115⟩
  try dsimp only
  iapply (part19 I K c _ _ _ _ _ (hu1 I c)) $$ [h113 h11 h53 h28]
  · isplitr; · iexact HR
    isplitr; · iexact HL
    isplitl [h113]; · iexact h113
    isplitl [h11]; · iexact h11
    isplitl [h53]; · iexact h53
    iexact h28
  iintro %w0 %w1 %w2 %w3 ⟨h116, h117⟩
  try dsimp only
  iapply (part20 I K c _ _ _ _ _ _ _ _ _ _) $$ [h116 h32]
  · isplitr; · iexact HR
    isplitr; · iexact HL
    isplitl [h116]; · iexact h116
    iexact h32
  iintro %w0 ⟨h118, h119, h120⟩
  try dsimp only
  iapply (part21 I K c _ _ _ _ _ _ _ _ _) $$ [h118 h38]
  · isplitr; · iexact HR
    isplitr; · iexact HL
    isplitl [h118]; · iexact h118
    iexact h38
  iintro ⟨h121, h122, h123⟩
  try dsimp only
  iapply (part22 I K c _ _ _ _ _ _ _ _ _ _ (hu2 I c)) $$ [h12]
  · isplitr; · iexact HR
    isplitr; · iexact HL
    iexact h12
  iintro h124
  try dsimp only
  iapply (part23 I K c _ _ _) $$ [h121 h124 h57 h29 h33]
  · isplitr; · iexact HR
    isplitr; · iexact HL
    isplitl [h121]; · iexact h121
    isplitl [h124]; · iexact h124
    isplitl [h57]; · iexact h57
    isplitl [h29]; · iexact h29
    iexact h33
  iintro %w0 ⟨h125, h126, h127, h128⟩
  try dsimp only
  iapply (part24 I K c _ _ _ _ _ _ _ _) $$ [h125 h39 h128]
  · isplitr; · iexact HR
    isplitr; · iexact HL
    isplitl [h125]; · iexact h125
    isplitl [h39]; · iexact h39
    iexact h128
  iintro ⟨h129, h130, h131, h132⟩
  try dsimp only
  iapply (part25 I K c _ _ _ _ _ _ _ _ _ (hu3 I c)) $$ [h131 h13]
  · isplitr; · iexact HR
    isplitr; · iexact HL
    isplitl [h131]; · iexact h131
    iexact h13
  iintro %w0 %w1 ⟨h133, h134⟩
  try dsimp only
  iapply (part26 I K c _ _ _ _ _) $$ [h129 h134 h61 h30]
  · isplitr; · iexact HR
    isplitr; · iexact HL
    isplitl [h129]; · iexact h129
    isplitl [h134]; · iexact h134
    isplitl [h61]; · iexact h61
    iexact h30
  iintro %w0 %w1 %w2 ⟨h135, h136⟩
  try dsimp only
  iapply (part27 I K c _ _ _ _ _ _) $$ [h135 h40]
  · isplitr; · iexact HR
    isplitr; · iexact HL
    isplitl [h135]; · iexact h135
    iexact h40
  iintro ⟨h137, h138, h139⟩
  try dsimp only
  iapply (part28 I K c _ _ _) $$ [h137 h41]
  · isplitr; · iexact HR
    isplitr; · iexact HL
    isplitl [h137]; · iexact h137
    iexact h41
  iintro ⟨h140, h141, h142⟩
  try dsimp only
  iapply (part29 I K c _) $$ [h140 h42 h44 h139 h142 h5 h75 h79 h82]
  · isplitr; · iexact HR
    isplitr; · iexact HL
    isplitl [h140]; · iexact h140
    isplitl [h42]; · iexact h42
    isplitl [h44]; · iexact h44
    isplitl [h139]; · iexact h139
    isplitl [h142]; · iexact h142
    isplitl [h5]; · iexact h5
    isplitl [h75]; · iexact h75
    isplitl [h79]; · iexact h79
    iexact h82
  iintro ⟨h143, h144, h145, h146, h147, h148, h149, h150, h151, h152, h153, h154, h155⟩
  try dsimp only
  iapply (part30 I K c) $$ [h143 h77 h80 h84 h105 h107]
  · isplitr; · iexact HR
    isplitr; · iexact HL
    isplitl [h143]; · iexact h143
    isplitl [h77]; · iexact h77
    isplitl [h80]; · iexact h80
    isplitl [h84]; · iexact h84
    isplitl [h105]; · iexact h105
    iexact h107
  iintro ⟨h156, h157, h158, h159, h160, h161, h162, h163, h164, h165, h166⟩
  try dsimp only
  iapply (wt4 I K c 3 (by decide) 15 (by decide) (sem_of 4 (z c + 3) _ (off3_eq c 2) _) (wM_of (z c) _ (o9_eq c) _)) $$ [h156 h109]
  · isplitr; · iexact HR
    isplitr; · iexact HL
    isplitl [h156]; · iexact h156
    iexact h109
  iintro ⟨h167, h168, h169⟩
  iapply (wt6 I K c 1 (by decide) 15 (by decide) (sem_of 6 (z c + 1) _ (off3_eq c 0) _) (uM_of (z c + 1) _ (off10_eq c 0) _)) $$ [h167 h117]
  · isplitr; · iexact HR
    isplitr; · iexact HL
    isplitl [h167]; · iexact h167
    iexact h117
  iintro ⟨h170, h171, h172⟩
  rw [wp_ret]; imodintro
  iapply Hk
  isplitl [h46]; · iexact h46
  isplitl [h63]; · iexact h63
  isplitl [h66]; · iexact h66
  isplitl [h85]; · iexact h85
  isplitl [h86]; · iexact h86
  isplitl [h88]; · iexact h88
  isplitl [h90]; · iexact h90
  isplitl [h93]; · iexact h93
  isplitl [h94]; · iexact h94
  isplitl [h95]; · iexact h95
  isplitl [h96]; · iexact h96
  isplitl [h97]; · iexact h97
  isplitl [h98]; · iexact h98
  isplitl [h100]; · iexact h100
  isplitl [h111]; · iexact h111
  isplitl [h112]; · iexact h112
  isplitl [h114]; · iexact h114
  isplitl [h115]; · iexact h115
  isplitl [h119]; · iexact h119
  isplitl [h120]; · iexact h120
  isplitl [h122]; · iexact h122
  isplitl [h123]; · iexact h123
  isplitl [h126]; · iexact h126
  isplitl [h127]; · iexact h127
  isplitl [h130]; · iexact h130
  isplitl [h132]; · iexact h132
  isplitl [h133]; · iexact h133
  isplitl [h136]; · iexact h136
  isplitl [h138]; · iexact h138
  isplitl [h141]; · iexact h141
  isplitl [h144]; · iexact h144
  isplitl [h145]; · iexact h145
  isplitl [h146]; · iexact h146
  isplitl [h147]; · iexact h147
  isplitl [h148]; · iexact h148
  isplitl [h149]; · iexact h149
  isplitl [h150]; · iexact h150
  isplitl [h151]; · iexact h151
  isplitl [h152]; · iexact h152
  isplitl [h153]; · iexact h153
  isplitl [h154]; · iexact h154
  isplitl [h155]; · iexact h155
  isplitl [h157]; · iexact h157
  isplitl [h158]; · iexact h158
  isplitl [h159]; · iexact h159
  isplitl [h160]; · iexact h160
  isplitl [h161]; · iexact h161
  isplitl [h162]; · iexact h162
  isplitl [h163]; · iexact h163
  isplitl [h164]; · iexact h164
  isplitl [h165]; · iexact h165
  isplitl [h166]; · iexact h166
  isplitl [h168]; · iexact h168
  isplitl [h169]; · iexact h169
  isplitl [h170]; · iexact h170
  isplitl [h171]; · iexact h171
  iexact h172

end

end Cert.KernelIdealRun

end
-- ==== Proof.KernelIdealRun.Body.lean ====
module

public import proofs.«01_k».proof.Proof.KernelIdealRun.Part31

/-! # The body from start to end

The buffers are cut into slots, the parts run in order, and the buffers are put together again. -/

@[expose] public section

noncomputable section

namespace Cert.KernelIdealRun

open Cert.KernelIdeal Cert.KernelIdeal.Gen Cert.Moe
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The other buffers whole, and a device's start -/

/-- The four slots of the gathered `x` are the whole of it. -/
theorem xs_whole (c : Dev nD) (q : PosShare TreeShare) (f : Vec F S4x128x512 .bf16) :
    ((((c : Thread nD τ).loc cc0_scratch0) ↦{q} f : sProp 𝕄)) = iprop(xs c (z c) q f ∗ xs c (z c + 1) q f ∗ xs c (z c + 2) q f ∗ xs c (z c + 3) q f) :=
  cut4 (Name := ℕ) (U := UU) (Ix := Unit) (Lvl := ℕ) (ℓ := (c : Thread nD τ).loc cc0_scratch0) (slotS 128 512) (fun _ _ h => slotS_disj h) slotS_univ (z c) q f
/-- The four slots of the gathered weights are the whole of it. -/
theorem ws_whole (c : Dev nD) (q : PosShare TreeShare) (f : Vec F S4x8x128 .f32) :
    ((((c : Thread nD τ).loc cc0_scratch2) ↦{q} f : sProp 𝕄)) = iprop(ws c (z c) q f ∗ ws c (z c + 1) q f ∗ ws c (z c + 2) q f ∗ ws c (z c + 3) q f) :=
  cut4 (Name := ℕ) (U := UU) (Ix := Unit) (Lvl := ℕ) (ℓ := (c : Thread nD τ).loc cc0_scratch2) (slotS 8 128) (fun _ _ h => slotS_disj h) slotS_univ (z c) q f
/-- The four slots of the outgoing sums are the whole of it. -/
theorem us_whole (c : Dev nD) (q : PosShare TreeShare) (f : Vec F S4x128x512 .bf16) :
    ((((c : Thread nD τ).loc cc0_scratch3) ↦{q} f : sProp 𝕄)) = iprop(us c (z c) q f ∗ us c (z c + 1) q f ∗ us c (z c + 2) q f ∗ us c (z c + 3) q f) :=
  cut4 (Name := ℕ) (U := UU) (Ix := Unit) (Lvl := ℕ) (ℓ := (c : Thread nD τ).loc cc0_scratch3) (slotS 128 512) (fun _ _ h => slotS_disj h) slotS_univ (z c) q f
/-- Four slots of the outgoing sums, the first at contents of its own, are the whole of it at some contents. -/
theorem us_join (c : Dev nD) (f₀ f₁ : Vec F S4x128x512 .bf16) :
    iprop(us c (z c) fullShare f₀ ∗ us c (z c + 1) fullShare f₁ ∗ us c (z c + 2) fullShare f₁ ∗ us c (z c + 3) fullShare f₁)
      ⊢ (iprop(∃ g : Buf (Elt F) ((c : Thread nD τ).loc cc0_scratch3), ((c : Thread nD τ).loc cc0_scratch3) ↦{fullShare} g) : sProp 𝕄) :=
  join4 (Name := ℕ) (U := UU) (Ix := Unit) (Lvl := ℕ) (ℓ := (c : Thread nD τ).loc cc0_scratch3) (slotS 128 512) (fun _ _ h => slotS_disj h) slotS_univ (z c) fullShare f₀ f₁ f₁ f₁

/-- The five buffers of device `c` that only the kernel uses, each at some contents. -/
def scr (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f))

/-- What the protocol gives device `c` at the start: its rights to signal, its places on its own cells, what it needs to send to
    each peer and what it needs to wait for each peer's copies. -/
def kit (c : Dev nD) : sProp 𝕄 :=
  iprop(dutyTok ER (barCell (peer c 1)) 0 (-1) ∗ dutyTok ER (barCell (peer c 2)) 0 (-2) ∗ dutyTok ER (barCell (peer c 3)) 0 (-3) ∗ cred (tallyAt (barCell c) () 3) ∗ atPos ER (barCell c) 0 ∅ 0 ∗ sk c 0 1 1 ∗ sk c 0 1 2 ∗ sk c 0 1 3 ∗ sk c 2 3 1 ∗ sk c 2 3 2 ∗ sk c 2 3 3 ∗ sk c 4 5 1 ∗ sk c 4 5 2 ∗ sk c 4 5 3 ∗ sk c 6 7 1 ∗ sk c 6 7 2 ∗ sk c 6 7 3 ∗ rk c 1 1 ∗ rk c 1 2 ∗ rk c 1 3 ∗ rk c 3 1 ∗ rk c 3 2 ∗ rk c 3 3 ∗ rk c 5 1 ∗ rk c 5 2 ∗ rk c 5 3 ∗ rk c 7 1 ∗ rk c 7 2 ∗ rk c 7 3 ∗ atPos ER (dcell c 0 (z c)) 0 ∅ 0 ∗ atPos ER (dcell c 1 (z c)) 0 ∅ 0 ∗ atPos ER (dcell c 2 (z c)) 0 ∅ 0 ∗ atPos ER (dcell c 3 (z c)) 0 ∅ 0 ∗ atPos ER (dcell c 4 (z c)) 0 ∅ 0 ∗ atPos ER (dcell c 5 (z c)) 0 ∅ 0 ∗ atPos ER (dcell c 6 (z c)) 0 ∅ 0 ∗ atPos ER (dcell c 7 (z c)) 0 ∅ 0)

/-- All semaphores of device `c` at zero. -/
def spent (c : Dev nD) : sProp 𝕄 :=
  iprop(semVal (barCell c) 0 ∗ bigSep Finset.univ fun a : Fin 8 => bigSep Finset.univ fun j : Fin 4 => semVal (dcell c a j) 0)

theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

section
variable (I : Ins F) (K : CK → ℕ)

theorem zk_row (c : Dev nD) (a : Fin 8) : iprop(zk c a 0 ∗ zk c a 1 ∗ zk c a 2 ∗ zk c a 3)
    ⊢ (bigSep Finset.univ fun j : Fin 4 => semVal (dcell c a j) 0 : sProp 𝕄) := by
  rw [bigSep_from (fun j : Fin 4 => (semVal (dcell c a j) 0 : sProp 𝕄)) (z c)]
  unfold zk; rw [show z c + 0 = z c from add_none _]

set_option maxHeartbeats 1600000 in
/-- The body: from the arguments in the staging buffers and the device's start it leaves the stated result, the arguments as they
    were, all semaphores at zero and nothing owed. -/
theorem body (c : Dev nD) (Kt : PUnit → sProp 𝕄) :
    iprop(records I K ∗ levAts L lv ∗ scr c ∗ kit c ∗ px I c ∗ pr I c ∗ pa I c ∗ pb I c ∗ (∃ f, po c f) ∗ ow c 0)
      ⊢ iprop(((spent c ∗ scr c ∗ px I c ∗ pr I c ∗ pa I c ∗ pb I c ∗ po c (out I c) ∗ ow c 15) -∗ Kt ⟨⟩)
        -∗ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) Kt) := by
  rw [cc0_body_eq_skeleton]; unfold cc0_body_skel
  simp only [Prog.lift, Prog.bind_op, Prog.bind_ret, Prog.pure_eq_ret, wp_bind]
  unfold scr kit
  iintro ⟨#HR, #HL, ⟨⟨%f0, S0⟩, ⟨%f1, S1⟩, ⟨%f2, S2⟩, ⟨%f3, S3⟩, ⟨%f4, S4⟩⟩, ⟨Hg1, Hg2, Hg3, Hcb, Hab, Hs01, Hs02, Hs03, Hs21, Hs22, Hs23, Hs41, Hs42, Hs43, Hs61, Hs62, Hs63, Hr11, Hr12, Hr13, Hr31, Hr32, Hr33, Hr51, Hr52, Hr53, Hr71, Hr72, Hr73, Ha0, Ha1, Ha2, Ha3, Ha4, Ha5, Ha6, Ha7⟩, Hpx, Hpr, Hpa, Hpb, Hpo, HO⟩ Hk
  imod (st_close I K c 0) $$ [Ha0] with Hz00
  · isplitr; · iexact HR
    iexact Ha0
  imod (st_close I K c 1) $$ [Ha1] with Hz10
  · isplitr; · iexact HR
    iexact Ha1
  imod (st_close I K c 2) $$ [Ha2] with Hz20
  · isplitr; · iexact HR
    iexact Ha2
  imod (st_close I K c 3) $$ [Ha3] with Hz30
  · isplitr; · iexact HR
    iexact Ha3
  imod (st_close I K c 4) $$ [Ha4] with Hz40
  · isplitr; · iexact HR
    iexact Ha4
  imod (st_close I K c 5) $$ [Ha5] with Hz50
  · isplitr; · iexact HR
    iexact Ha5
  imod (st_close I K c 6) $$ [Ha6] with Hz60
  · isplitr; · iexact HR
    iexact Ha6
  imod (st_close I K c 7) $$ [Ha7] with Hz70
  · isplitr; · iexact HR
    iexact Ha7
  ihave S0 := (Entails.of_eq (xs_whole c fullShare f0)) $$ S0
  icases S0 with ⟨x0, x1, x2, x3⟩
  ihave S1 := (Entails.of_eq (rs_whole c fullShare f1)) $$ S1
  icases S1 with ⟨r0, r1, r2, r3⟩
  ihave S2 := (Entails.of_eq (ws_whole c fullShare f2)) $$ S2
  icases S2 with ⟨w0, w1, w2, w3⟩
  ihave S3 := (Entails.of_eq (us_whole c fullShare f3)) $$ S3
  icases S3 with ⟨u0, u1, u2, u3⟩
  ihave S4 := (Entails.of_eq (vs_whole c fullShare f4)) $$ S4
  icases S4 with ⟨v0, v1, v2, v3⟩
  iapply (part31 I K c) $$ [Hpx Hpr Hpa Hpb Hpo HO Hg1 Hg2 Hg3 Hcb Hab Hs01 Hs02 Hs03 Hs21 Hs22 Hs23 Hs41 Hs42 Hs43 Hs61 Hs62 Hs63 Hr11 Hr12 Hr13 Hr31 Hr32 Hr33 Hr51 Hr52 Hr53 Hr71 Hr72 Hr73 x0 x1 x2 x3 r0 r1 r2 r3 w0 w1 w2 w3 u1 u2 u3 v0 v1 v2 v3]
  · isplitr; · iexact HR
    isplitr; · iexact HL
    isplitl [Hpx]
    · iexact Hpx
    isplitl [Hpr]
    · iexact Hpr
    isplitl [Hpa]
    · iexact Hpa
    isplitl [Hpb]
    · iexact Hpb
    isplitl [Hpo]
    · iexact Hpo
    isplitl [HO]
    · iexact HO
    isplitl [x0]
    · iexists f0; iexact x0
    isplitl [r0]
    · iexists f1; iexact r0
    isplitl [w0]
    · iexists f2; iexact w0
    isplitl [v0]
    · iexists f4; iexact v0
    isplitl [u1]
    · iexists f3; iexact u1
    isplitl [u2]
    · iexists f3; iexact u2
    isplitl [u3]
    · iexists f3; iexact u3
    isplitl [Hg1 x1 r1 w1 v1]
    · unfold gv
      isplitl [Hg1]; · iexact Hg1
      isplitl [x1]; · (iexists f0; iexact x1)
      isplitl [r1]; · (iexists f1; iexact r1)
      isplitl [w1]; · (iexists f2; iexact w1)
      iexists f4; iexact v1
    isplitl [Hg2 x2 r2 w2 v2]
    · unfold gv
      isplitl [Hg2]; · iexact Hg2
      isplitl [x2]; · (iexists f0; iexact x2)
      isplitl [r2]; · (iexists f1; iexact r2)
      isplitl [w2]; · (iexists f2; iexact w2)
      iexists f4; iexact v2
    isplitl [Hg3 x3 r3 w3 v3]
    · unfold gv
      isplitl [Hg3]; · iexact Hg3
      isplitl [x3]; · (iexists f0; iexact x3)
      isplitl [r3]; · (iexists f1; iexact r3)
      isplitl [w3]; · (iexists f2; iexact w3)
      iexists f4; iexact v3
    isplitl [Hcb]
    · iexact Hcb
    isplitl [Hab]
    · iexact Hab
    isplitl [Hs01]
    · iexact Hs01
    isplitl [Hs02]
    · iexact Hs02
    isplitl [Hs03]
    · iexact Hs03
    isplitl [Hs21]
    · iexact Hs21
    isplitl [Hs22]
    · iexact Hs22
    isplitl [Hs23]
    · iexact Hs23
    isplitl [Hs41]
    · iexact Hs41
    isplitl [Hs42]
    · iexact Hs42
    isplitl [Hs43]
    · iexact Hs43
    isplitl [Hs61]
    · iexact Hs61
    isplitl [Hs62]
    · iexact Hs62
    isplitl [Hs63]
    · iexact Hs63
    isplitl [Hr11]
    · iexact Hr11
    isplitl [Hr12]
    · iexact Hr12
    isplitl [Hr13]
    · iexact Hr13
    isplitl [Hr31]
    · iexact Hr31
    isplitl [Hr32]
    · iexact Hr32
    isplitl [Hr33]
    · iexact Hr33
    isplitl [Hr51]
    · iexact Hr51
    isplitl [Hr52]
    · iexact Hr52
    isplitl [Hr53]
    · iexact Hr53
    isplitl [Hr71]
    · iexact Hr71
    isplitl [Hr72]
    · iexact Hr72
    iexact Hr73
  iintro ⟨g0, g1, g2, g3, g4, g5, g6, g7, g8, g9, g10, g11, g12, g13, g14, g15, g16, g17, g18, g19, g20, g21, g22, g23, g24, g25, g26, g27, g28, g29, g30, g31, g32, g33, g34, g35, g36, g37, g38, g39, g40, g41, g42, g43, g44, g45, g46, g47, g48, g49, g50, g51, g52, g53, g54, g55, g56⟩
  try dsimp only
  iapply (wt6 I K c 2 (by decide) 15 (by decide) (sem_of 6 (z c + 2) _ (off3_eq c 1) _) (uM_of (z c + 2) _ (off10_eq c 1) _)) $$ [g54 g22]
  · isplitr; · iexact HR
    isplitr; · iexact HL
    isplitl [g54]; · iexact g54
    iexact g22
  iintro ⟨h173, h174, h175⟩
  iapply (wt6 I K c 3 (by decide) 15 (by decide) (sem_of 6 (z c + 3) _ (off3_eq c 2) _) (uM_of (z c + 3) _ (off10_eq c 2) _)) $$ [h173 g27]
  · isplitr; · iexact HR
    isplitr; · iexact HL
    isplitl [h173]; · iexact h173
    iexact g27
  iintro ⟨h176, h177, h178⟩
  ihave x0 := (xs_cut c (z c) (xA I c)).2 $$ [g2 g37 g39 g41]
  · isplitl [g2]; · iexact g2
    isplitl [g37]; · iexact g37
    isplitl [g39]; · iexact g39
    iexact g41
  ihave r0 := (rs_cut c (z c) (rA I c)).2 $$ [g9 g43 g45 g47]
  · isplitl [g9]; · iexact g9
    isplitl [g43]; · iexact g43
    isplitl [g45]; · iexact g45
    iexact g47
  ihave w0 := (ws_cut c (z c) (wA I c)).2 $$ [g13 g49 g51 g53]
  · isplitl [g13]; · iexact g13
    isplitl [g49]; · iexact g49
    isplitl [g51]; · iexact g51
    iexact g53
  ihave S0 := (Entails.of_eq (xs_whole c fullShare (xA I c)).symm) $$ [x0 g15 g19 g25]
  · isplitl [x0]; · iexact x0
    isplitl [g15]; · iexact g15
    isplitl [g19]; · iexact g19
    iexact g25
  ihave S1 := (Entails.of_eq (rs_whole c fullShare (rA I c)).symm) $$ [r0 g10 g11 g8]
  · isplitl [r0]; · iexact r0
    isplitl [g10]; · iexact g10
    isplitl [g11]; · iexact g11
    iexact g8
  ihave S2 := (Entails.of_eq (ws_whole c fullShare (wA I c)).symm) $$ [w0 g17 g21 g26]
  · isplitl [w0]; · iexact w0
    isplitl [g17]; · iexact g17
    isplitl [g21]; · iexact g21
    iexact g26
  ihave S3 := (us_join c f3 (uA I c)) $$ [u0 g56 h175 h178]
  · isplitl [u0]; · iexact u0
    isplitl [g56]; · iexact g56
    isplitl [h175]; · iexact h175
    iexact h178
  ihave S4 := (Entails.of_eq (vs_whole c fullShare (vA I c)).symm) $$ [g32 g33 g34 g31]
  · isplitl [g32]; · iexact g32
    isplitl [g33]; · iexact g33
    isplitl [g34]; · iexact g34
    iexact g31
  rw [wp_ret]; imodintro
  iapply Hk
  isplitl [g0 Hz00 g36 g38 g40 Hz10 g14 g18 g23 Hz20 g42 g44 g46 Hz30 g5 g6 g7 Hz40 g48 g50 g52 Hz50 g16 g20 g24 Hz60 g55 h174 h177 Hz70 g28 g29 g30]
  · unfold spent
    isplitl [g0]; · iexact g0
    rw [bigSep8]
    isplitl [Hz00 g36 g38 g40]
    · iapply (zk_row c 0)
      isplitl [Hz00]; · iexact Hz00
      isplitl [g36]; · iexact g36
      isplitl [g38]; · iexact g38
      iexact g40
    isplitl [Hz10 g14 g18 g23]
    · iapply (zk_row c 1)
      isplitl [Hz10]; · iexact Hz10
      isplitl [g14]; · iexact g14
      isplitl [g18]; · iexact g18
      iexact g23
    isplitl [Hz20 g42 g44 g46]
    · iapply (zk_row c 2)
      isplitl [Hz20]; · iexact Hz20
      isplitl [g42]; · iexact g42
      isplitl [g44]; · iexact g44
      iexact g46
    isplitl [Hz30 g5 g6 g7]
    · iapply (zk_row c 3)
      isplitl [Hz30]; · iexact Hz30
      isplitl [g5]; · iexact g5
      isplitl [g6]; · iexact g6
      iexact g7
    isplitl [Hz40 g48 g50 g52]
    · iapply (zk_row c 4)
      isplitl [Hz40]; · iexact Hz40
      isplitl [g48]; · iexact g48
      isplitl [g50]; · iexact g50
      iexact g52
    isplitl [Hz50 g16 g20 g24]
    · iapply (zk_row c 5)
      isplitl [Hz50]; · iexact Hz50
      isplitl [g16]; · iexact g16
      isplitl [g20]; · iexact g20
      iexact g24
    isplitl [Hz60 g55 h174 h177]
    · iapply (zk_row c 6)
      isplitl [Hz60]; · iexact Hz60
      isplitl [g55]; · iexact g55
      isplitl [h174]; · iexact h174
      iexact h177
    iapply (zk_row c 7)
    isplitl [Hz70]; · iexact Hz70
    isplitl [g28]; · iexact g28
    isplitl [g29]; · iexact g29
    iexact g30
  isplitl [S0 S1 S2 S3 S4]
  · isplitl [S0]; · (iexists (xA I c); iexact S0)
    isplitl [S1]; · (iexists (rA I c); iexact S1)
    isplitl [S2]; · (iexists (wA I c); iexact S2)
    isplitl [S3]; · iexact S3
    iexists (vA I c); iexact S4
  isplitl [g12]; · iexact g12
  isplitl [g1]; · iexact g1
  isplitl [g3]; · iexact g3
  isplitl [g4]; · iexact g4
  isplitl [g35]; · iexact g35
  iexact h176

end

end Cert.KernelIdealRun

end
-- ==== Proof.KernelIdealRun.Ghost.lean ====
module

public import proofs.«01_k».proof.Proof.KernelIdealRun.Body
public import proofs.«01_k».proof.Proof.Gen.KernelIdeal.Launch

/-! # What the launch deals

The places, rights and promises of the protocol as they are made at the launch, and how they are dealt to the devices. -/

@[expose] public section

noncomputable section

namespace Cert.KernelIdealRun

open Cert.KernelIdeal Cert.KernelIdeal.Gen Cert.Moe
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## The cells -/

/-- The kernel's own semaphores: the eight arrays of four. -/
abbrev osem (n : Fin 32) : SemLoc sig := .dma ⟨5 + n.val, by have := n.isLt; show _ < 37; omega⟩

theorem ownSemFacts : Pipeline.OwnSemFacts cfg0.spec osem := by decide +kernel

theorem osem_eq (a : Fin 8) (j : Fin 4) : osem (finProdFinEquiv (a, j)) = .dma (dsem a j) := by revert a j; decide +kernel

theorem bigSep_opt {α : Type} [Fintype α] [DecidableEq α] (Φ : Option α → sProp 𝕄) :
    bigSep Finset.univ Φ = iprop(Φ none ∗ bigSep Finset.univ fun a => Φ (some a)) := by
  rw [bigSep_univ_equiv (Equiv.optionEquivSumPUnit.{0, 0} α).symm Φ, bigSep_univ_sum, bigSep_univ_eq_bigSepL [PUnit.unit] (by decide) (by decide)]
  exact show iprop((bigSep Finset.univ fun a => Φ (some a)) ∗ Φ none) = iprop(Φ none ∗ bigSep Finset.univ fun a => Φ (some a)) from
    Entails.antisymm BI.sep_comm BI.sep_comm

theorem kcell_injective : Function.Injective (kcell : CK → GSem nD τ sig) := by
  rintro ⟨c, k⟩ ⟨c', k'⟩ h
  cases k with
  | none => cases k' with
    | none =>
      have h1 : c = c' := congrArg (fun g : GSem nD τ sig => g.1.1) h
      rw [h1]
    | some aj => exact absurd (congrArg Prod.snd h) (fun h => by cases h)
  | some aj => cases k' with
    | none => exact absurd (congrArg Prod.snd h) (fun h => by cases h)
    | some aj' =>
      have h1 : c = c' := congrArg (fun g : GSem nD τ sig => g.1.1) h
      have h2 : dsem aj.1 aj.2 = dsem aj'.1 aj'.2 := SemLoc.dma.inj (congrArg Prod.snd h)
      obtain ⟨h3, h4⟩ := dsem_inj h2
      rw [h1, show aj = aj' from Prod.ext h3 h4]

def ringCells : Finset (GSem nD τ sig) := Finset.univ.map ⟨kcell, kcell_injective⟩

/-- A right to pay, as made: device, and which of its cells and duties. -/
abbrev TK : Type := Dev nD × (Fin 4 ⊕ (Fin 8 × Fin 4))
abbrev tokOf (x : TK) : GSem nD τ sig × ℕ × Fin 4 := match x.2 with
  | .inl k => (barCell x.1, 0, k)
  | .inr aj => (dcell x.1 aj.1 aj.2, 0, 0)
theorem tokOf_injective : Function.Injective (tokOf : TK → GSem nD τ sig × ℕ × Fin 4) := by
  rintro ⟨c, k⟩ ⟨c', k'⟩ h
  cases k with
  | inl k => cases k' with
    | inl k' =>
      have h1 : c = c' := congrArg (fun g : GSem nD τ sig × ℕ × Fin 4 => g.1.1.1) h
      have h2 : k = k' := congrArg (fun g : GSem nD τ sig × ℕ × Fin 4 => g.2.2) h
      rw [h1, h2]
    | inr aj => exact absurd (congrArg (fun g : GSem nD τ sig × ℕ × Fin 4 => g.1.2) h) (fun h => by cases h)
  | inr aj => cases k' with
    | inl k' => exact absurd (congrArg (fun g : GSem nD τ sig × ℕ × Fin 4 => g.1.2) h) (fun h => by cases h)
    | inr aj' =>
      have h1 : c = c' := congrArg (fun g : GSem nD τ sig × ℕ × Fin 4 => g.1.1.1) h
      have h2 : dsem aj.1 aj.2 = dsem aj'.1 aj'.2 := SemLoc.dma.inj (congrArg (fun g : GSem nD τ sig × ℕ × Fin 4 => g.1.2) h)
      obtain ⟨h3, h4⟩ := dsem_inj h2
      rw [h1, show aj = aj' from Prod.ext h3 h4]
def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

section
variable (I : Ins F)

/-- The rights to pay device `c`'s own cells. -/
def toks (c : Dev nD) : sProp 𝕄 :=
  iprop((bigSep Finset.univ fun k : Fin 4 => dutyTok ER (barCell c) 0 k)
    ∗ bigSep Finset.univ fun a : Fin 8 => bigSep Finset.univ fun j : Fin 4 => dutyTok ER (dcell c a j) 0 0)

/-- What the launch makes for device `c`: the state of its cells, its places on them and the rights to pay them. -/
def G (c : Dev nD) : sProp 𝕄 :=
  iprop((bigSep Finset.univ fun k : Option (Fin 8 × Fin 4) => roundState ER (ringRd I) (kcell (c, k)) 0)
    ∗ (bigSep Finset.univ fun k : Option (Fin 8 × Fin 4) => iprop(atPos ER (kcell (c, k)) 0 ∅ 0 ∗ reached ER (kcell (c, k)) 0)) ∗ toks c)

theorem fund_ring : BI.own (ER (initOf ringCells ringToks)) ⊢ (|==> bigSep Finset.univ (G I) : sProp 𝕄) := by
  have hX (Φ : GSem nD τ sig → sProp 𝕄) : bigSep ringCells Φ = bigSep Finset.univ fun c : Dev nD => bigSep Finset.univ fun k : Option (Fin 8 × Fin 4) => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_prod]; rfl
  iintro HX
  imod (Rounds.fund ER (ringRd I) ringCells ringToks) $$ HX with ⟨Hst, Hr, Hat, Htok⟩
  imodintro
  ihave Hst' := (Entails.of_eq (hX fun g => roundState ER (ringRd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun a : Fin 8 => bigSep Finset.univ fun j : Fin 4 => semVal (dcell c a j) 0 := by
  unfold Pipeline.ownSems0
  rw [bigSep_univ_equiv (finProdFinEquiv (m := 8) (n := 4)), bigSep_univ_prod]
  exact bigSep_congr fun a _ => bigSep_congr fun j _ => by rw [osem_eq]
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 8 × Fin 4) => semVal (kcell (c, k)) 0 : sProp 𝕄) := by
  rw [ownSems0_eq, unscopedSems0_eq, bigSep_opt, bigSep_univ_prod]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (ringRd I) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option (Fin 8 × Fin 4) => semVal (kcell (c, k)) 0) ∗ bigSep Finset.univ fun k : Option (Fin 8 × Fin 4) => roundState ER (ringRd I) (kcell (c, k)) 0)
      ⊢ (|={Set.univ}=> bigSep Finset.univ fun k => iprop(∃ κ : ℕ, cellInv ER (ringRd I) κ (kcell (c, k))) : sProp 𝕄) from by
        rw [← bigSep_sep']
        exact (bigSep_mono fun k _ => (Rounds.body_intro ER (ringRd I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the rights -/

/-- Stepping to a peer and naming the step back. -/
def flip : Dev nD × Fin 4 ≃ Dev nD × Fin 4 where
  toFun x := (peer x.1 x.2, -x.2)
  invFun x := (peer x.1 x.2, -x.2)
  left_inv x := by
    rcases x with ⟨c, k⟩
    exact Prod.ext (peer_neg c k) (neg_twice k)
  right_inv x := by
    rcases x with ⟨c, k⟩
    exact Prod.ext (peer_neg c k) (neg_twice k)

/-- What is indexed by a device and a step may be indexed by the peer and the step back. -/
theorem bigSep_flip (Φ : Dev nD → Fin 4 → sProp 𝕄) :
    (bigSep Finset.univ fun c => bigSep Finset.univ fun k => Φ c k) = bigSep Finset.univ fun c => bigSep Finset.univ fun k => Φ (peer c k) (-k) := by
  rw [← bigSep_univ_prod (fun x : Dev nD × Fin 4 => Φ x.1 x.2), bigSep_univ_equiv flip, bigSep_univ_prod]
  rfl

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_step (c : Dev nD) (Φ : Fin 4 → sProp 𝕄) : bigSep Finset.univ Φ = bigSep Finset.univ fun k => Φ (z c + k) := by
  rw [bigSep_from Φ (z c), bigSep_fin4, show z c + 0 = z c from add_none _]

/-- The right device `c` holds for step `k` of array `a`: at a sender's array its own cell, at a receiver's the peer's. -/
def ptok (c : Dev nD) (a : Fin 8) (k : Fin 4) : sProp 𝕄 :=
  if a.val % 2 = 0 then dutyTok ER (dcell c a (z c + k)) 0 0 else dutyTok ER (dcell (peer c k) a (z c)) 0 0

theorem ptok_send (c : Dev nD) (a : Fin 8) (k : Fin 4) (h : a.val % 2 = 0) : (ptok c a k : sProp 𝕄) ⊢ dutyTok ER (dcell c a (z c + k)) 0 0 := by
  unfold ptok; rw [if_pos h]
theorem ptok_recv (c : Dev nD) (a : Fin 8) (k : Fin 4) (h : ¬ a.val % 2 = 0) : (ptok c a k : sProp 𝕄) ⊢ dutyTok ER (dcell (peer c k) a (z c)) 0 0 := by
  unfold ptok; rw [if_neg h]

/-- The rights device `c` pays with. -/
def payToks (c : Dev nD) : sProp 𝕄 :=
  iprop((bigSep Finset.univ fun k : Fin 4 => dutyTok ER (barCell (peer c k)) 0 (-k))
    ∗ bigSep Finset.univ fun a : Fin 8 => bigSep Finset.univ fun k : Fin 4 => ptok c a k)

theorem bigSep_exch {α β : Type} [Fintype α] [DecidableEq α] [Fintype β] [DecidableEq β] (Φ : α → β → sProp 𝕄) :
    (bigSep Finset.univ fun a => bigSep Finset.univ fun b => Φ a b) = bigSep Finset.univ fun b => bigSep Finset.univ fun a => Φ a b := by
  rw [← bigSep_univ_prod (fun x : α × β => Φ x.1 x.2), bigSep_univ_equiv (Equiv.prodComm β α), bigSep_univ_prod]
  rfl

theorem toks_around : (bigSep Finset.univ fun c : Dev nD => (toks c : sProp 𝕄)) ⊢ bigSep Finset.univ fun c : Dev nD => payToks c := by
  unfold toks payToks
  rw [bigSep_sep', bigSep_sep', bigSep_flip (fun c k => (dutyTok ER (barCell c) 0 k : sProp 𝕄)),
    bigSep_exch (fun (c : Dev nD) (a : Fin 8) => bigSep Finset.univ fun j : Fin 4 => (dutyTok ER (dcell c a j) 0 0 : sProp 𝕄)),
    bigSep_exch (fun (c : Dev nD) (a : Fin 8) => bigSep Finset.univ fun k : Fin 4 => (ptok c a k : sProp 𝕄))]
  refine sep_mono_right (Entails.of_eq (bigSep_congr fun a _ => ?_))
  by_cases ha : a.val % 2 = 0
  · refine bigSep_congr fun c _ => ?_
    rw [bigSep_step c]
    exact bigSep_congr fun k _ => by unfold ptok; rw [if_pos ha]
  · rw [bigSep_congr (s := Finset.univ) (fun (c : Dev nD) _ => bigSep_step c (fun j : Fin 4 => (dutyTok ER (dcell c a j) 0 0 : sProp 𝕄))),
      bigSep_flip (fun c k => (dutyTok ER (dcell c a (z c + k)) 0 0 : sProp 𝕄))]
    exact bigSep_congr fun c _ => bigSep_congr fun k _ => by unfold ptok; rw [if_neg ha, z_peer_neg]

/-- What stays with device `c`: its places and the rights it pays with. -/
def linear (c : Dev nD) : sProp 𝕄 :=
  iprop((bigSep Finset.univ fun k : Option (Fin 8 × Fin 4) => atPos ER (kcell (c, k)) 0 ∅ 0) ∗ payToks c)

/-- What the launch's common step leaves device `c`. -/
def G' (c : Dev nD) : sProp 𝕄 := iprop(∃ K, records I K ∗ linear c)

theorem bigSep_with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd I) κ (kcell (c, k))))
          ∗ (bigSep Finset.univ fun k => iprop(atPos ER (kcell (c, k)) 0 ∅ 0 ∗ reached ER (kcell (c, k)) 0)) ∗ toks c) : sProp 𝕄)
      ⊢ bigSep Finset.univ (G' I) := by
  rw [bigSep_sep', bigSep_sep', ← bigSep_univ_prod (fun ck : CK => iprop(∃ κ : ℕ, cellInv ER (ringRd I) κ (kcell ck))),
    bigSep_congr (s := Finset.univ) (fun (c : Dev nD) _ => bigSep_sep' Finset.univ (fun k : Option (Fin 8 × Fin 4) => (atPos ER (kcell (c, k)) 0 ∅ 0 : sProp 𝕄)) (fun k => reached ER (kcell (c, k)) 0)),
    bigSep_sep', ← bigSep_univ_prod (fun ck : CK => (reached ER (kcell ck) 0 : sProp 𝕄))]
  iintro ⟨HI, ⟨Hat, #HR⟩, Htok⟩
  ihave HK := (BI.bigSep_exists_pi Finset.univ (fun (ck : CK) (κ : ℕ) => (cellInv ER (ringRd I) κ (kcell ck) : sProp 𝕄))) $$ HI
  icases HK with ⟨%K, #HI⟩
  ihave Htk := (toks_around (F := F)) $$ Htok
  iapply (bigSep_with_persistent (R := records I K) (Φ := linear) (Ψ := G' I) fun c _ => show iprop(records I K ∗ linear c) ⊢ G' I c from by
    unfold G'; iintro H; iexists K; iexact H)
  isplitr
  · unfold records; isplitl; · iexact HI
    iexact HR
  · iapply (Entails.of_eq (bigSep_sep' Finset.univ (fun c : Dev nD => bigSep Finset.univ fun k : Option (Fin 8 × Fin 4) => (atPos ER (kcell (c, k)) 0 ∅ 0 : sProp 𝕄)) payToks).symm)
    isplitl [Hat]; · iexact Hat
    iexact Htk

/-- The common step: all semaphores of all devices at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

end

/-! ## The units promised -/

theorem Os_apply (l : List (GSem nD τ sig × ℕ)) (g : GSem nD τ sig) : Os l g () = (l.map fun e => if g = e.1 then e.2 else 0).sum := by
  induction l with
  | nil => rfl
  | cons e l ih =>
    unfold Os
    rw [Pi.add_apply, Finsupp.add_apply, tallyAt_apply, ih, List.map_cons, List.sum_cons, Nat.add_comm]
    congr 1
    by_cases h : g = e.1
    · rw [if_pos ⟨h, rfl⟩, if_pos h]
    · rw [if_neg fun h' => h h'.1, if_neg h]

theorem bar_iff (a b : Dev nD) : (barCell a = barCell b) = (a = b) :=
  propext ⟨fun h => congrArg (fun g : GSem nD τ sig => g.1.1) h, fun h => h ▸ rfl⟩
theorem bar_dma (a b : Dev nD) (r : Fin 8) (j : Fin 4) : (barCell a = dcell b r j) = False :=
  propext ⟨fun h => (by cases congrArg Prod.snd h), False.elim⟩
theorem dma_bar (a b : Dev nD) (r : Fin 8) (j : Fin 4) : (dcell b r j = barCell a) = False :=
  propext ⟨fun h => (by cases congrArg Prod.snd h), False.elim⟩
theorem dma_iff (a b : Dev nD) (r s : Fin 8) (j k : Fin 4) : (dcell a r j = dcell b s k) = (r = s ∧ a = b ∧ j = k) :=
  propext ⟨fun h => by
    have h1 : a = b := congrArg (fun g : GSem nD τ sig => g.1.1) h
    obtain ⟨h3, h4⟩ := dsem_inj (SemLoc.dma.inj (congrArg Prod.snd h))
    exact ⟨h3, h1, h4⟩, fun ⟨h1, h2, h3⟩ => by rw [h1, h2, h3]⟩

theorem owed_bar (d c : Dev nD) : O d 0 (barCell c) () = (if c = peer d 1 then 1 else 0) + ((if c = peer d 2 then 1 else 0) + (if c = peer d 3 then 1 else 0)) := by
  unfold O
  rw [List.drop_zero, Os_apply]
  simp only [oweL, List.map_cons, List.map_nil, List.sum_cons, List.sum_nil, bar_iff, bar_dma, if_false, Nat.add_zero]

theorem sum_bar (c : Dev nD) : ∑ d : Dev nD, O d 0 (barCell c) () = 3 := by
  simp only [owed_bar]
  revert c; decide +kernel

theorem owed_dma (d c : Dev nD) (a : Fin 8) (ha : a.val % 2 = 1) (j : Fin 4) : O d 0 (dcell c a j) ()
    = (if c = peer d 1 ∧ j = z d then amt a else 0) + ((if c = peer d 2 ∧ j = z d then amt a else 0) + (if c = peer d 3 ∧ j = z d then amt a else 0)) := by
  unfold O
  rw [List.drop_zero, Os_apply]
  simp only [oweL, List.map_cons, List.map_nil, List.sum_cons, List.sum_nil, dma_bar, dma_iff, if_false, Nat.add_zero, Nat.zero_add]
  have h : a = 1 ∨ a = 3 ∨ a = 5 ∨ a = 7 := by revert a; decide
  rcases h with rfl | rfl | rfl | rfl <;> simp (decide := true) only [true_and, false_and, if_false, Nat.add_zero, Nat.zero_add]

theorem cnt_dma : ∀ (c d : Dev nD) (k : Fin 4), k ≠ 0 →
    (if c = peer d 1 ∧ z c + k = z d then 1 else 0) + ((if c = peer d 2 ∧ z c + k = z d then 1 else 0) + (if c = peer d 3 ∧ z c + k = z d then 1 else 0))
      = if d = peer c k then 1 else 0 := by decide +kernel

theorem sum_dma (c : Dev nD) (a : Fin 8) (ha : a.val % 2 = 1) (k : Fin 4) (hk : k ≠ 0) : ∑ d : Dev nD, O d 0 (dcell c a (z c + k)) () = amt a := by
  have hm (P : Prop) [Decidable P] : (if P then amt a else 0) = (if P then 1 else 0) * amt a := by split <;> simp
  have : ∀ d : Dev nD, O d 0 (dcell c a (z c + k)) () = if d = peer c k then amt a else 0 := fun d => by
    rw [owed_dma d c a ha, hm, hm, hm, ← Nat.add_mul, ← Nat.add_mul, cnt_dma c d k hk, ← hm]
  rw [Finset.sum_congr rfl fun d _ => this d, Finset.sum_ite_eq' Finset.univ (peer c k) fun _ => amt a, if_pos (Finset.mem_univ _)]

theorem launch_bar (c : Dev nD) :
    tallyOn (barCell c) (launchCredit (Pipeline.owing fun d => O d 0) 0 (barCell c)) = (tallyAt (barCell c) () 3 : CellTallies nD τ sig Unit) := by
  unfold tallyAt; refine congrArg _ (Finsupp.ext fun u => ?_); cases u
  rw [Pipeline.launchCredit_owing, Finsupp.single_eq_same, sum_bar]

theorem launch_dma (c : Dev nD) (a : Fin 8) (ha : a.val % 2 = 1) (k : Fin 4) (hk : k ≠ 0) :
    tallyOn (dcell c a (z c + k)) (launchCredit (Pipeline.owing fun d => O d 0) 0 (dcell c a (z c + k))) = (tallyAt (dcell c a (z c + k)) () (amt a) : CellTallies nD τ sig Unit) := by
  unfold tallyAt; refine congrArg _ (Finsupp.ext fun u => ?_); cases u
  rw [Pipeline.launchCredit_owing, Finsupp.single_eq_same, sum_dma c a ha k hk]

/-- The semaphores of one device under the protocol. -/
def ksem (x : Option (Fin 8 × Fin 4)) : SemLoc sig := match x with
  | none => .reg barS
  | some aj => .dma (dsem aj.1 aj.2)
theorem ksem_injective : Function.Injective ksem := fun x y h => by
  have := kcell_injective (a₁ := ((0 : Dev nD), x)) (a₂ := ((0 : Dev nD), y)) (by
    cases x <;> cases y <;> exact Prod.ext rfl h)
  exact congrArg Prod.snd this

/-- The promise made to device `c` of slot `z c + k` of array `a`. -/
def lcred (c : Dev nD) (a : Fin 8) (k : Fin 4) : sProp 𝕄 :=
  cred (tallyOn (dcell c a (z c + k)) (launchCredit (Pipeline.owing fun d => O d 0) 0 (dcell c a (z c + k))))

theorem lcred_eq (c : Dev nD) (a : Fin 8) (k : Fin 4) (ha : a.val % 2 = 1) (hk : k ≠ 0) :
    (lcred c a k : sProp 𝕄) ⊢ cred (tallyAt (dcell c a (z c + k)) () (amt a)) := by
  unfold lcred; rw [launch_dma c a ha k hk]

theorem creds (c : Dev nD) :
    (Pipeline.launchCred (fun d => O d 0) c : sProp 𝕄)
      ⊢ iprop(cred (tallyAt (barCell c) () 3) ∗ bigSep Finset.univ fun a : Fin 8 => bigSep Finset.univ fun k : Fin 4 => lcred c a k) := by
  unfold Pipeline.launchCred
  refine (bigSep_subset (Finset.subset_univ (Finset.univ.map ⟨ksem, ksem_injective⟩))).trans ?_
  rw [bigSep_map, bigSep_opt, bigSep_univ_prod]
  refine sep_mono (Entails.of_eq (congrArg _ (launch_bar c))) (Entails.of_eq (bigSep_congr fun a _ => ?_))
  rw [bigSep_step c]
  rfl

theorem p0 (c : Dev nD) (a : Fin 8) : (atPos ER (kcell (c, some (a, z c + 0))) 0 ∅ 0 : sProp 𝕄) ⊢ atPos ER (dcell c a (z c)) 0 ∅ 0 := by
  rw [add_none]

/-- What the launch leaves device `c` is its start. -/
theorem kit_intro (c : Dev nD) :
    iprop(linear c ∗ cred (tallyAt (barCell c) () 3) ∗ bigSep Finset.univ fun a : Fin 8 => bigSep Finset.univ fun k : Fin 4 => lcred c a k)
      ⊢ (kit c : sProp 𝕄) := by
  unfold linear payToks
  rw [bigSep_opt, bigSep_univ_prod,
    bigSep_congr (s := Finset.univ) (fun (a : Fin 8) _ => bigSep_step c (fun j : Fin 4 => (atPos ER (kcell (c, some (a, j))) 0 ∅ 0 : sProp 𝕄)))]
  simp only [bigSep8, bigSep_fin4]
  unfold kit sk rk
  iintro ⟨⟨⟨Pb, ⟨P00, P01, P02, P03⟩, ⟨P10, P11, P12, P13⟩, ⟨P20, P21, P22, P23⟩, ⟨P30, P31, P32, P33⟩, ⟨P40, P41, P42, P43⟩, ⟨P50, P51, P52, P53⟩, ⟨P60, P61, P62, P63⟩, ⟨P70, P71, P72, P73⟩⟩, ⟨-, B1, B2, B3⟩, ⟨-, T01, T02, T03⟩, ⟨-, T11, T12, T13⟩, ⟨-, T21, T22, T23⟩, ⟨-, T31, T32, T33⟩, ⟨-, T41, T42, T43⟩, ⟨-, T51, T52, T53⟩, ⟨-, T61, T62, T63⟩, ⟨-, T71, T72, T73⟩⟩, Cb, -, ⟨-, C11, C12, C13⟩, -, ⟨-, C31, C32, C33⟩, -, ⟨-, C51, C52, C53⟩, -, ⟨-, C71, C72, C73⟩⟩
  isplitl [B1]; · iexact B1
  isplitl [B2]; · iexact B2
  isplitl [B3]; · iexact B3
  isplitl [Cb]; · iexact Cb
  isplitl [Pb]; · iexact Pb
  isplitl [P01 T01 T11]
  · isplitl [P01]; · iexact P01
    isplitl [T01]; · iapply (ptok_send c 0 1 (by decide)); iexact T01
    iapply (ptok_recv c 1 1 (by decide)); iexact T11
  isplitl [P02 T02 T12]
  · isplitl [P02]; · iexact P02
    isplitl [T02]; · iapply (ptok_send c 0 2 (by decide)); iexact T02
    iapply (ptok_recv c 1 2 (by decide)); iexact T12
  isplitl [P03 T03 T13]
  · isplitl [P03]; · iexact P03
    isplitl [T03]; · iapply (ptok_send c 0 3 (by decide)); iexact T03
    iapply (ptok_recv c 1 3 (by decide)); iexact T13
  isplitl [P21 T21 T31]
  · isplitl [P21]; · iexact P21
    isplitl [T21]; · iapply (ptok_send c 2 1 (by decide)); iexact T21
    iapply (ptok_recv c 3 1 (by decide)); iexact T31
  isplitl [P22 T22 T32]
  · isplitl [P22]; · iexact P22
    isplitl [T22]; · iapply (ptok_send c 2 2 (by decide)); iexact T22
    iapply (ptok_recv c 3 2 (by decide)); iexact T32
  isplitl [P23 T23 T33]
  · isplitl [P23]; · iexact P23
    isplitl [T23]; · iapply (ptok_send c 2 3 (by decide)); iexact T23
    iapply (ptok_recv c 3 3 (by decide)); iexact T33
  isplitl [P41 T41 T51]
  · isplitl [P41]; · iexact P41
    isplitl [T41]; · iapply (ptok_send c 4 1 (by decide)); iexact T41
    iapply (ptok_recv c 5 1 (by decide)); iexact T51
  isplitl [P42 T42 T52]
  · isplitl [P42]; · iexact P42
    isplitl [T42]; · iapply (ptok_send c 4 2 (by decide)); iexact T42
    iapply (ptok_recv c 5 2 (by decide)); iexact T52
  isplitl [P43 T43 T53]
  · isplitl [P43]; · iexact P43
    isplitl [T43]; · iapply (ptok_send c 4 3 (by decide)); iexact T43
    iapply (ptok_recv c 5 3 (by decide)); iexact T53
  isplitl [P61 T61 T71]
  · isplitl [P61]; · iexact P61
    isplitl [T61]; · iapply (ptok_send c 6 1 (by decide)); iexact T61
    iapply (ptok_recv c 7 1 (by decide)); iexact T71
  isplitl [P62 T62 T72]
  · isplitl [P62]; · iexact P62
    isplitl [T62]; · iapply (ptok_send c 6 2 (by decide)); iexact T62
    iapply (ptok_recv c 7 2 (by decide)); iexact T72
  isplitl [P63 T63 T73]
  · isplitl [P63]; · iexact P63
    isplitl [T63]; · iapply (ptok_send c 6 3 (by decide)); iexact T63
    iapply (ptok_recv c 7 3 (by decide)); iexact T73
  isplitl [C11 P11]
  · isplitl [C11]; · iapply (lcred_eq c 1 1 (by decide) (by decide)); iexact C11
    iexact P11
  isplitl [C12 P12]
  · isplitl [C12]; · iapply (lcred_eq c 1 2 (by decide) (by decide)); iexact C12
    iexact P12
  isplitl [C13 P13]
  · isplitl [C13]; · iapply (lcred_eq c 1 3 (by decide) (by decide)); iexact C13
    iexact P13
  isplitl [C31 P31]
  · isplitl [C31]; · iapply (lcred_eq c 3 1 (by decide) (by decide)); iexact C31
    iexact P31
  isplitl [C32 P32]
  · isplitl [C32]; · iapply (lcred_eq c 3 2 (by decide) (by decide)); iexact C32
    iexact P32
  isplitl [C33 P33]
  · isplitl [C33]; · iapply (lcred_eq c 3 3 (by decide) (by decide)); iexact C33
    iexact P33
  isplitl [C51 P51]
  · isplitl [C51]; · iapply (lcred_eq c 5 1 (by decide) (by decide)); iexact C51
    iexact P51
  isplitl [C52 P52]
  · isplitl [C52]; · iapply (lcred_eq c 5 2 (by decide) (by decide)); iexact C52
    iexact P52
  isplitl [C53 P53]
  · isplitl [C53]; · iapply (lcred_eq c 5 3 (by decide) (by decide)); iexact C53
    iexact P53
  isplitl [C71 P71]
  · isplitl [C71]; · iapply (lcred_eq c 7 1 (by decide) (by decide)); iexact C71
    iexact P71
  isplitl [C72 P72]
  · isplitl [C72]; · iapply (lcred_eq c 7 2 (by decide) (by decide)); iexact C72
    iexact P72
  isplitl [C73 P73]
  · isplitl [C73]; · iapply (lcred_eq c 7 3 (by decide) (by decide)); iexact C73
    iexact P73
  isplitl [P00]; · iapply (p0 c 0); iexact P00
  isplitl [P10]; · iapply (p0 c 1); iexact P10
  isplitl [P20]; · iapply (p0 c 2); iexact P20
  isplitl [P30]; · iapply (p0 c 3); iexact P30
  isplitl [P40]; · iapply (p0 c 4); iexact P40
  isplitl [P50]; · iapply (p0 c 5); iexact P50
  isplitl [P60]; · iapply (p0 c 6); iexact P60
  iapply (p0 c 7); iexact P70

end Cert.KernelIdealRun

end
-- ==== Proof.KernelIdealRun.Run.lean ====
module

public import proofs.«01_k».proof.Proof.KernelIdealRun.Ghost
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

/-! # The run of the whole mesh

From any memory with all counters at zero every execution ends, with each device's result as stated, the arguments as they were
and all counters at zero again. -/

@[expose] public section

noncomputable section

namespace Cert.KernelIdealRun

open Cert.KernelIdeal Cert.KernelIdeal.Gen Cert.Moe
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The memory the run starts from. -/
abbrev s₀ : MemSt nD τ sig (Elt F) := ⟨m, fun _ => 0, ρ⟩

/-- The arguments a memory holds. -/
def insOf : Ins F where
  x c := m ((c : Thread nD τ).loc main_arg0)
  r c := m ((c : Thread nD τ).loc main_arg1)
  a c := m ((c : Thread nD τ).loc main_arg2)
  b c := m ((c : Thread nD τ).loc main_arg3)

def t₀ : Fin cfg0.N := t0_0
theorem fin_N (t : Fin cfg0.N) : t = t₀ := fin_N0 t

/-- What device `c`'s body starts from. -/
def start (c : Dev nD) : sProp 𝕄 := iprop((∃ K, records (insOf m) K ∗ kit c) ∗ levAts L lv)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insOf m).x c
    | ⟨1, _⟩ => (insOf m).r c
    | ⟨2, _⟩ => (insOf m).a c
    | ⟨3, _⟩ => (insOf m).b c
    | ⟨4, _⟩ => out (insOf m) c
  Φ t := match t with
    | ⟨0, _⟩ => iprop(start m c ∗ scr c)
    | ⟨_ + 1, _⟩ => iprop(spent c ∗ scr c)
  q _ := fullShare
  owed t := match t with
    | ⟨0, _⟩ => O c 0
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem blk0 (f : (main_arg0 : Ref sig .tc).ty.Contents (Elt F)) : (win0_0.blk t0_0).view.read (Elt F) f = f :=
  Memref.read_access_unit_zero (Elt F) main_arg0 (funext fun a => by fin_cases a <;> rfl) _ f
theorem blk1 (f : (main_arg1 : Ref sig .tc).ty.Contents (Elt F)) : (win0_1.blk t0_0).view.read (Elt F) f = f :=
  Memref.read_access_unit_zero (Elt F) main_arg1 (funext fun a => by fin_cases a <;> rfl) _ f
theorem blk2 (f : (main_arg2 : Ref sig .tc).ty.Contents (Elt F)) : (win0_2.blk t0_0).view.read (Elt F) f = f :=
  Memref.read_access_unit_zero (Elt F) main_arg2 (funext fun a => by fin_cases a <;> rfl) _ f
theorem blk3 (f : (main_arg3 : Ref sig .tc).ty.Contents (Elt F)) : (win0_3.blk t0_0).view.read (Elt F) f = f :=
  Memref.read_access_unit_zero (Elt F) main_arg3 (funext fun a => by fin_cases a <;> rfl) _ f
theorem blk4 (f : (main_v1 : Ref sig .tc).ty.Contents (Elt F)) : (win0_4.blk t0_0).view.read (Elt F) f = f :=
  Memref.read_access_unit_zero (Elt F) main_v1 (funext fun a => by fin_cases a <;> rfl) _ f

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((start m c ∗ scr c)
    ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop((spent c ∗ scr c) ∗ (dats m ρ 0 c).owesAt () t₀.succ ∗ stg c cc0_stg0_0 ((insOf m).x c) ∗ stg c cc0_stg1_0 ((insOf m).r c)
    ∗ stg c cc0_stg2_0 ((insOf m).a c) ∗ stg c cc0_stg3_0 ((insOf m).b c) ∗ stg c cc0_stg4_0 (out (insOf m) c))

theorem before0 (c : Dev nD) (d) : (dats m ρ 0 c).before (0 : Fin 5) t₀ d = (insOf m).x c := by
  unfold Dat.before; rw [if_pos (fetch0_0 t₀)]; exact blk0 (F := F) _
theorem before1 (c : Dev nD) (d) : (dats m ρ 0 c).before (1 : Fin 5) t₀ d = (insOf m).r c := by
  unfold Dat.before; rw [if_pos (fetch0_1 t₀)]; exact blk1 (F := F) _
theorem before2 (c : Dev nD) (d) : (dats m ρ 0 c).before (2 : Fin 5) t₀ d = (insOf m).a c := by
  unfold Dat.before; rw [if_pos (fetch0_2 t₀)]; exact blk2 (F := F) _
theorem before3 (c : Dev nD) (d) : (dats m ρ 0 c).before (3 : Fin 5) t₀ d = (insOf m).b c := by
  unfold Dat.before; rw [if_pos (fetch0_3 t₀)]; exact blk3 (F := F) _

theorem O_end (c : Dev nD) : O c 15 = 0 := rfl

set_option maxHeartbeats 800000 in
/-- The body as the pipeline calls it. -/
theorem sound_body (c : Dev nD) : bodyPre m ρ c
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) (fun _ => bodyPost m ρ c) := by
  unfold bodyPre start
  iintro ⟨⟨⟨⟨%K, #HR, Hkit⟩, #HL⟩, Hscr⟩, Ho, ⟨%d0, %g0, %hg0, H0⟩, ⟨%d1, %g1, %hg1, H1⟩, ⟨%d2, %g2, %hg2, H2⟩, ⟨%d3, %g3, %hg3, H3⟩, ⟨%d4, %g4, %hg4, H4⟩⟩
  rw [before0] at hg0; rw [before1] at hg1; rw [before2] at hg2; rw [before3] at hg3
  subst hg0; subst hg1; subst hg2; subst hg3
  unfold Dat.owesAt Pipeline.owesWithin
  icases Ho with ⟨%W, %hW, HO⟩
  rw [show (dats m ρ 0 c).owed t₀.castSucc = O c 0 from rfl]
  iapply (body (insOf m) K c (fun _ => bodyPost m ρ c)) $$ [Hkit Hscr HO H0 H1 H2 H3 H4]
  · isplitr; · iexact HR
    isplitr; · iexact HL
    isplitl [Hscr]; · iexact Hscr
    isplitl [Hkit]; · iexact Hkit
    isplitl [H0]; · unfold px; iexact H0
    isplitl [H1]; · unfold pr; iexact H1
    isplitl [H2]; · unfold pa; iexact H2
    isplitl [H3]; · unfold pb; iexact H3
    isplitl [H4]; · iexists g4; unfold po; iexact H4
    unfold ow; iexists W; iexact HO
  unfold px pr pa pb po ow
  iintro ⟨Hsp, Hscr, H0, H1, H2, H3, H4, ⟨%W', HO⟩⟩
  unfold bodyPost Dat.owesAt Pipeline.owesWithin
  rw [show (dats m ρ 0 c).owed t₀.succ = O c 15 from rfl]
  isplitl [Hsp Hscr]
  · isplitl [Hsp] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

set_option maxRecDepth 4000 in
/-- The body meets what the pipeline asks of it on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ G' (insOf m) c)
      ⊢ |={Set.univ}=> iprop(start m c ∗ emp) := by
  unfold G' start
  iintro ⟨-, Hlev, Hcr, -, ⟨%K, HR, Hlin⟩⟩
  ihave Hc := (creds (F := F) c) $$ Hcr
  icases Hc with ⟨H1, HN⟩
  imodintro
  isplitl
  · isplitl [HR Hlin H1 HN]
    · iexists K
      isplitl [HR]; · iexact HR
      iapply (kit_intro (F := F) c)
      isplitl [Hlin]; · iexact Hlin
      isplitl [H1]; · iexact H1
      iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scr c) from rfl, scopedRest0_eq]
  unfold scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(spent c ∗ scr c) from rfl, scopedRest0_eq, ownSems0_eq, unscopedSems0_eq]
  unfold spent scr
  iintro ⟨⟨HB, HS⟩, Hr⟩
  isplitl [HB]; · iexact HB
  isplitl [HS]; · iexact HS
  iexact Hr

theorem stage_lv (w : Fin cfg0.W) (s) (c : Dev nD) : lv ((c : Thread nD τ), .dma ((cfg0.win w).sem s)) () = 0 := by
  fin_cases w <;> fin_cases s <;> rfl

theorem waits (c : Dev nD) : (levAts L lv : sProp 𝕄) ⊢ Pipeline.cellsWaits cfgs (dats m ρ) () 0 c :=
  Pipeline.cellsWaits_intro cfgs (dats m ρ) () 0 c fun w s t => by
    have h := mayWait (F := F) c (.dma ((cfg0.win w).sem s)) 0 (by rw [stage_lv]; decide)
    rcases t with ⟨_ | _, ht⟩
    · exact h
    · show (levAts L lv : sProp 𝕄) ⊢ MayWait (c : Thread nD τ) _ () 0
      rw [MayWait_zero]; iintro -; iempintro

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters at zero, every execution of the sixteen devices ends, with each window's array as computed and
    all counters at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => O d 0) (howed₀ := fun _ => rfl) (howedN := fun _ => rfl)
    (L := L) (lv := lv) (hL := L_of_ne) (hwaits := waits m ρ)
    (G := G (insOf m)) (G' := G' (insOf m)) (u₀ := u₀)
    (hu₀ := by
      unfold u₀
      iintro Hu
      ihave H := (ownU_pair _ _) $$ Hu
      icases H with ⟨HP, HX⟩
      imod (fund_ring (insOf m)) $$ HX with HG
      imodintro
      isplitl [HP] <;> iassumption)
    (hglob := glob (insOf m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_in (c : Dev nD) (w : Fin cfg0.W) (h : (cfg0.win w).isOut = false) : finalA m ρ c w = m ((cfg0.win w).arr.view.loc (c : Thread nD τ)) :=
  (dats (F := F) m ρ 0 c).arrAt_in w h _

theorem final_out (c : Dev nD) : finalA m ρ c (4 : Fin 5) = out (insOf m) c := by
  refine (blk4 _).symm.trans ?_
  unfold finalA
  rw [show cfg0.N = (t₀ : Fin cfg0.N).val + 1 from rfl, (dats m ρ 0 c).arrAt_succ (4 : Fin 5) t₀, if_pos (flush0_4 t₀)]
  exact View.read_write_univ _ _

/-- What a run leaves: each device's result, its arguments, and the counters. -/
theorem run : θ_run defs (onTc (τ := τ) (main (F := F))) (s₀ m ρ) (fun r =>
    (∀ c : Dev nD, r.2.mem ((c : Thread nD τ).loc main_v1) = out (insOf m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => ⟨(h.1 c (4 : Fin 5)).trans (final_out m ρ c), (h.1 c (0 : Fin 5)).trans (final_in m ρ c _ rfl),
    (h.1 c (1 : Fin 5)).trans (final_in m ρ c _ rfl), (h.1 c (2 : Fin 5)).trans (final_in m ρ c _ rfl), (h.1 c (3 : Fin 5)).trans (final_in m ρ c _ rfl)⟩, h.2⟩)
    (run_main m ρ)

end Cert.KernelIdealRun

end
-- ==== Proof.Frames.lean ====
module

public import proofs.«01_k».proof.Defs
public import proofs.«01_k».proof.Proof.KernelRun.Run
public import proofs.«01_k».proof.Proof.KernelIdealRun.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

/-! # The programs run

Each of the three programs ends, its arguments as they were and all counters at zero. -/

@[expose] public section

noncomputable section

namespace Cert.Proof

open Idealize.ShloMosaic Idealize.SL.Sem

/-- The kernel on bits runs. -/
theorem frame_p : Cert.quiescent_Kernel := fun m g _ =>
  (θ_run Cert.Kernel.defs _ _).mono (fun _ h => ⟨fun c => (h.1 c).2, h.2⟩) (Cert.KernelRun.run (F := Bits) m g)

/-- The kernel on reals runs. -/
theorem frame_pi : Cert.quiescent_KernelIdeal := fun m g _ =>
  (θ_run Cert.KernelIdeal.defs _ _).mono (fun _ h => ⟨fun c => (h.1 c).2, h.2⟩) (Cert.KernelIdealRun.run (F := Ideal) m g)

/-- The reference on reals runs. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.Value.Top2.lean ====
module

public import Idealize.ShloMosaic.Lib.Pointwise
public import Idealize.ShloMosaic.Lib.SortFacts
public import Idealize.ShloMosaic.Lib.SortPrefix

/-! # The two greatest of eight

The two greatest of eight extended reals, of equal ones the earlier first: what characterises them, that they exist, and that
the ways in which the two programs look for them find them. -/

@[expose] public section

noncomputable section

namespace Cert.Moe

open Idealize.ShloMosaic

/-- `A` is the first greatest, `B` the first greatest of the others. -/
structure Top2 (g : Fin 8 → EReal) (A B : Fin 8) : Prop where
  ne : B ≠ A
  le : ∀ e, g e ≤ g A
  lt : ∀ e, e < A → g e < g A
  le' : ∀ e, e ≠ A → g e ≤ g B
  lt' : ∀ e, e ≠ A → e < B → g e < g B

/-- A nonempty set of positions has a first greatest. -/
theorem exists_first (g : Fin 8 → EReal) (S : Finset (Fin 8)) (hS : S.Nonempty) :
    ∃ A ∈ S, (∀ e ∈ S, g e ≤ g A) ∧ ∀ e ∈ S, e < A → g e < g A := by
  obtain ⟨M, hM, hle⟩ := S.exists_max_image g hS
  have hT : (S.filter fun e => g e = g M).Nonempty := ⟨M, Finset.mem_filter.2 ⟨hM, rfl⟩⟩
  have hm := Finset.min'_mem _ hT
  obtain ⟨h1, h2⟩ := Finset.mem_filter.1 hm
  refine ⟨_, h1, fun e he => (hle e he).trans h2.ge, fun e he hlt => lt_of_le_of_ne ((hle e he).trans h2.ge) fun h => ?_⟩
  exact absurd (Finset.min'_le _ e (Finset.mem_filter.2 ⟨he, h.trans h2⟩)) (not_le.2 hlt)

theorem succ_ne : ∀ A : Fin 8, A + 1 ≠ A := by decide

/-- There are such positions. -/
theorem exists_top2 (g : Fin 8 → EReal) : ∃ A B, Top2 g A B := by
  obtain ⟨A, -, hA, hA'⟩ := exists_first g Finset.univ ⟨0, Finset.mem_univ _⟩
  obtain ⟨B, hB, hB', hB''⟩ := exists_first g (Finset.univ.erase A) ⟨A + 1, Finset.mem_erase.2 ⟨succ_ne A, Finset.mem_univ _⟩⟩
  exact ⟨A, B, (Finset.mem_erase.1 hB).1, fun e => hA e (Finset.mem_univ _), fun e => hA' e (Finset.mem_univ _),
    fun e he => hB' e (Finset.mem_erase.2 ⟨he, Finset.mem_univ _⟩), fun e he => hB'' e (Finset.mem_erase.2 ⟨he, Finset.mem_univ _⟩)⟩

/-- The greatest value, as a fold from the least. -/
theorem fold_max_eq (h : Fin 8 → EReal) (A : Fin 8) (hA : ∀ e, h e ≤ h A) : Finset.univ.fold max ⊥ h = h A :=
  le_antisymm (Finset.fold_max_le _ |>.2 ⟨bot_le, fun e _ => hA e⟩) (Finset.le_fold_max _ |>.2 (.inr ⟨A, Finset.mem_univ _, le_rfl⟩))

/-- The words of the positions, and the word eight, are ordered as their numbers. -/
theorem word_toInt : ∀ n : Fin 9, (BitVec.ofNat 32 n.val).toInt = n.val := by decide

/-- The lesser of two words of positions. -/
theorem minsi_words : ∀ m n : Fin 9, IntOp.minsi (BitVec.ofNat 32 m.val) (BitVec.ofNat 32 n.val) = BitVec.ofNat 32 (min m n).val := by decide

/-- The least of positions given as words is the word of the least of them. -/
theorem fold_minsi (p : Fin 8 → Fin 9) (S : Finset (Fin 8)) :
    S.fold IntOp.minsi 2147483647#32 (fun e => BitVec.ofNat 32 (p e).val) = if hS : S.Nonempty then BitVec.ofNat 32 (S.inf' hS p).val else 2147483647#32 := by
  classical
  induction S using Finset.induction_on with
  | empty => rfl
  | insert a S ha ih =>
    rw [Finset.fold_insert ha, ih]
    by_cases hS : S.Nonempty
    · rw [dif_pos hS, dif_pos (Finset.insert_nonempty _ _), minsi_words, Finset.inf'_insert]
    · obtain rfl := Finset.not_nonempty_iff_eq_empty.1 hS
      rw [dif_neg hS, dif_pos (Finset.insert_nonempty _ _)]
      have h : ∀ n : Fin 9, IntOp.minsi (BitVec.ofNat 32 n.val) 2147483647#32 = BitVec.ofNat 32 n.val := by decide
      rw [h]
      rfl

/-- The least position whose value is the greatest, as the kernel finds it. -/
theorem fold_first (h : Fin 8 → EReal) (v : EReal) (A : Fin 8) (hv : v = h A) (hlt : ∀ e, e < A → h e ≠ h A) :
    Finset.univ.fold IntOp.minsi 2147483647#32 (fun e : Fin 8 => if h e = v then BitVec.ofNat 32 e.val else 8#32) = BitVec.ofNat 32 A.val := by
  subst hv
  have e : (fun e : Fin 8 => if h e = h A then BitVec.ofNat 32 e.val else 8#32)
      = fun e => BitVec.ofNat 32 ((fun e : Fin 8 => if h e = h A then e.castSucc else (8 : Fin 9)) e).val := by
    funext e
    by_cases he : h e = h A <;> simp [he]
  rw [e, fold_minsi, dif_pos ⟨A, Finset.mem_univ _⟩]
  refine congrArg (fun n : Fin 9 => BitVec.ofNat 32 n.val) (a₂ := A.castSucc) ?_
  refine le_antisymm ((Finset.inf'_le _ (Finset.mem_univ A)).trans (by simp)) (Finset.le_inf' _ _ fun e _ => ?_)
  show A.castSucc ≤ if h e = h A then e.castSucc else (8 : Fin 9)
  by_cases he : h e = h A
  · rw [if_pos he]
    exact Fin.castSucc_le_castSucc_iff.2 (not_lt.1 fun hlt' => hlt e hlt' he)
  · rw [if_neg he]
    exact Fin.le_last _

/-- Words of positions are equal exactly when the positions are. -/
theorem word_inj : ∀ e A : Fin 8, BitVec.ofNat 32 e.val = BitVec.ofNat 32 A.val ↔ e = A := by decide

/-- A selection by the equality of two positions' words. -/
theorem select_word {α : Type} (e A : Fin 8) (x y : α) :
    Scalar.select (IntOp.cmpi CmpIPredicate.eq (BitVec.ofNat 32 e.val) (BitVec.ofNat 32 A.val)) x y = if e = A then x else y := by
  have h : ∀ e A : Fin 8, IntOp.cmpi CmpIPredicate.eq (BitVec.ofNat 32 e.val) (BitVec.ofNat 32 A.val) = if e = A then 1#1 else 0#1 := by decide
  rw [h]
  by_cases he : e = A
  · rw [if_pos he, if_pos he]; rfl
  · rw [if_neg he, if_neg he]; rfl

section Kernel
variable {g : Fin 8 → EReal} {A B : Fin 8} (T : Top2 g A B)
include T

theorem Top2.max1 : Finset.univ.fold max ⊥ g = g A := fold_max_eq g A T.le

theorem Top2.min1 {v : EReal} (hv : v = g A) :
    Finset.univ.fold IntOp.minsi 2147483647#32 (fun e : Fin 8 => if g e = v then BitVec.ofNat 32 e.val else 8#32) = BitVec.ofNat 32 A.val :=
  fold_first g v A hv fun e he => (T.lt e he).ne

/-- With the first left out the greatest is the second. -/
theorem Top2.max2 : Finset.univ.fold max ⊥ (fun e => if e = A then ⊥ else g e) = g B := by
  rw [fold_max_eq (fun e => if e = A then ⊥ else g e) B fun e => ?_]
  · exact if_neg T.ne
  · show (if e = A then ⊥ else g e) ≤ if B = A then ⊥ else g B
    rw [if_neg T.ne]
    by_cases he : e = A
    · rw [if_pos he]; exact bot_le
    · rw [if_neg he]; exact T.le' e he

theorem Top2.min2 {v : EReal} (hv : v = g B) (hB : g B ≠ ⊥) :
    Finset.univ.fold IntOp.minsi 2147483647#32 (fun e : Fin 8 => if (if e = A then ⊥ else g e) = v then BitVec.ofNat 32 e.val else 8#32) = BitVec.ofNat 32 B.val := by
  refine fold_first (fun e => if e = A then ⊥ else g e) v B (hv.trans (if_neg T.ne).symm) fun e he => ?_
  show (if e = A then ⊥ else g e) ≠ if B = A then ⊥ else g B
  rw [if_neg T.ne]
  by_cases h : e = A
  · rw [if_pos h]; exact hB.symm
  · rw [if_neg h]; exact (T.lt' e h he).ne

/-- The order of the sort: greater first, equal ones in order of position. -/
def before (g : Fin 8 → EReal) (k k' : Fin 8) : Bool := decide (g k' < g k) || (decide (g k = g k') && decide (k < k'))

end Kernel

theorem before_strict (g : Fin 8 → EReal) : StrictTotalBefore (before g) :=
  StrictTotalBefore.of_key_then_position (fun a b : EReal => decide (b < a)) g (fun a => by simp)
    (fun a b c h1 h2 => by simp only [decide_eq_true_eq] at h1 h2 ⊢; exact h2.trans h1)
    (fun a b => by simp only [decide_eq_true_eq]; rcases lt_trichotomy a b with h | h | h <;> simp [h])

/-- A stable sort by the keys alone is the sort by keys and positions. -/
theorem insert_stable (g : Fin 8 → EReal) (a : Fin 8) (l : List (Fin 8)) (h : ∀ b ∈ l, a < b) :
    insertBefore (fun k k' => decide (g k' < g k)) a l = insertBefore (before g) a l :=
  insertBefore_congr _ _ a l fun b hb => by
    unfold before
    have : ¬ b < a := not_lt.2 (h b hb).le
    simp [this]

theorem sort_stable (g : Fin 8 → EReal) (l : List (Fin 8)) (hl : l.Pairwise (· < ·)) :
    stableSort (fun k k' => decide (g k' < g k)) l = stableSort (before g) l := by
  induction l with
  | nil => rfl
  | cons a l ih =>
    obtain ⟨h1, h2⟩ := List.pairwise_cons.1 hl
    unfold stableSort
    rw [ih h2]
    exact insert_stable g a _ fun b hb => h1 b ((perm_stableSort (before g) l).mem_iff.1 hb)

/-- The first two positions of the stable sort. -/
theorem Top2.sorted {g : Fin 8 → EReal} {A B : Fin 8} (T : Top2 g A B) (cmp : Fin 8 → Fin 8 → Bool)
    (hc : ∀ k k', cmp k k' = decide (g k' < g k)) : sortedFrom cmp 0 = A ∧ sortedFrom cmp 1 = B := by
  obtain rfl : cmp = fun k k' => decide (g k' < g k) := funext fun k => funext fun k' => hc k k'
  have e : sortedFrom (fun k k' => decide (g k' < g k)) = sortedFrom (before g) := by
    funext k
    unfold sortedFrom
    have : sortPositions 8 (fun k k' => decide (g k' < g k)) = sortPositions 8 (before g) :=
      sort_stable g _ (List.pairwise_lt_finRange 8)
    rw [List.get_of_eq this]
    rfl
  rw [e]
  have hAB : before g A B = true := by
    unfold before
    rcases (T.le B).lt_or_eq with h | h
    · simp [h]
    · have : A < B := lt_of_le_of_ne (not_lt.1 fun hlt => absurd h (T.lt B hlt).ne) (Ne.symm T.ne)
      simp [h, this]
  have key := StrictTotalBefore.sortedFrom_eq_of_prefix (k := 2) (before_strict g) (by decide) ![A, B] (by
      intro i j hij
      fin_cases i <;> fin_cases j <;> first | rfl | exact absurd hij (Ne.symm T.ne) | exact absurd hij T.ne) (by
      intro i j hij
      fin_cases i <;> fin_cases j <;> first | exact absurd hij (by decide) | exact (before_strict g).asymm _ _ hAB) (by
      intro i p hp
      have hA : p ≠ A := fun h => hp 0 h.symm
      have hB : p ≠ B := fun h => hp 1 h.symm
      fin_cases i
      · show before g p A = false
        have h1 : ¬ g A < g p := not_lt.2 (T.le p)
        by_cases he : g p = g A
        · have : ¬ p < A := fun h => absurd he (T.lt p h).ne
          simp [before, h1, this]
        · simp [before, h1, he]
      · show before g p B = false
        have h1 : ¬ g B < g p := not_lt.2 (T.le' p hA)
        by_cases he : g p = g B
        · have : ¬ p < B := fun h => absurd he (T.lt' p hA h).ne
          simp [before, h1, this]
        · simp [before, h1, he])
  exact ⟨key 0, key 1⟩

/-- The greatest of two, as a fold from the least. -/
theorem fold_two (f : Fin 2 → EReal) (h : f 1 ≤ f 0) : Finset.univ.fold max ⊥ f = f 0 :=
  le_antisymm (Finset.fold_max_le _ |>.2 ⟨bot_le, fun e _ => by fin_cases e; exacts [le_rfl, h]⟩) (Finset.le_fold_max _ |>.2 (.inr ⟨0, Finset.mem_univ _, le_rfl⟩))

/-- The word of minus infinity. -/
theorem ofBits_least : Ideal.ofBits .f32 0xFF800000#32 = ⊥ := by simp [Ideal.ofBits, Ideal.ieee]

/-! ## The two weights -/

/-- The weight of the first of two experts with gates `p` and `q`. -/
def w1 (p q : EReal) : EReal := Ideal.div 1 (1 + Ideal.exp (q - p))
/-- The weight of the second. -/
def w2 (p q : EReal) : EReal := 1 - w1 p q

/-- What the two experts of a token make of it, weighted. -/
def mix (g y : Fin 8 → EReal) (A B : Fin 8) : EReal := w1 (g A) (g B) * y A + w2 (g A) (g B) * y B

/-- The first quotient of the two exponentials by their sum. -/
theorem soft1 (p q : ℝ) : Ideal.div (Ideal.exp ((p : EReal) - p)) (Ideal.exp ((p : EReal) - p) + Ideal.exp ((q : EReal) - p)) = w1 p q := by
  unfold w1
  rw [← EReal.coe_sub, sub_self, ← EReal.coe_sub, Ideal.exp_coe, Ideal.exp_coe, Real.exp_zero, EReal.coe_one]

/-- The second quotient. -/
theorem soft2 (p q : ℝ) : Ideal.div (Ideal.exp ((q : EReal) - p)) (Ideal.exp ((p : EReal) - p) + Ideal.exp ((q : EReal) - p)) = w2 p q := by
  unfold w2 w1
  have h : (1 + Real.exp (q - p)) ≠ 0 := (add_pos one_pos (Real.exp_pos _)).ne'
  rw [← EReal.coe_sub, ← EReal.coe_sub, sub_self, Ideal.exp_coe, Ideal.exp_coe, Real.exp_zero, ← EReal.coe_one, ← EReal.coe_add,
    Ideal.div_coe h, Ideal.div_coe h, ← EReal.coe_mul, ← EReal.coe_mul, ← EReal.coe_sub]
  congr 1
  field_simp
  ring

end Cert.Moe
-- ==== Proof.Value.Kernel.lean ====
module

public import proofs.«01_k».proof.Proof.KernelIdealRun.Protocol
public import proofs.«01_k».proof.Proof.Value.Top2

/-! # The kernel at an index

What the result of a device is at a token and a column: the two experts with the greatest gates, weighted, the experts counted
through the four devices of the row. -/

@[expose] public section

noncomputable section

namespace Cert.KernelAt

open Cert.KernelIdeal Cert.KernelIdeal.Gen Cert.KernelIdealRun Cert.Moe
open Idealize.ShloMosaic Idealize.ShloMosaic.Pointwise

/-- The place of the device that has expert `e`, and the expert's number there. -/
def hi (e : Fin 8) : Fin 4 := ⟨e.val / 2, by omega⟩
def lo (e : Fin 8) : Fin 2 := ⟨e.val % 2, by omega⟩
/-- The two experts of the device at place `j`. -/
def ev (j : Fin 4) : Fin 8 := ⟨2 * j.val, by omega⟩
def od (j : Fin 4) : Fin 8 := ⟨2 * j.val + 1, by omega⟩

theorem hi_ev (j : Fin 4) : hi (ev j) = j := by revert j; decide
theorem hi_od (j : Fin 4) : hi (od j) = j := by revert j; decide
theorem lo_ev (j : Fin 4) : lo (ev j) = 0 := by revert j; decide
theorem lo_od (j : Fin 4) : lo (od j) = 1 := by revert j; decide

/-- The numbers that the kernel reckons for its own two experts. -/
theorem ev_word (c : Dev nD) : Scalar.muli (zw c) 2#32 = BitVec.ofNat 32 (ev (z c)).val := by revert c; decide +kernel
theorem od_word (c : Dev nD) : Scalar.addi (Scalar.muli (zw c) 2#32) 1#32 = BitVec.ofNat 32 (od (z c)).val := by revert c; decide +kernel

/-- What an expert makes of a token. -/
def ex (x : Vec Ideal S128x512 .f32) (a : Vec Ideal S2x512x1024 .f32) (b : Vec Ideal S2x1024x512 .f32) (i : Fin 2) (t : Fin 128) (d : Fin 512) : EReal :=
  ∑ f : Fin 1024, max (∑ k : Fin 512, (x (ix2 t k) : EReal) * a (ix3 i k f)) 0 * b (ix3 i f d)

variable (I : Ins Ideal) (c : Dev nD)

/-- The gates of a token of device `c`. -/
def gk (t : Fin 128) (e : Fin 8) : EReal := ∑ k : Fin 512, (I.x c (ix2 t k) : EReal) * I.r (at_ c (hi e)) (ix2 k (lo e))
/-- What the experts make of a token of device `c`. -/
def yk (t : Fin 128) (d : Fin 512) (e : Fin 8) : EReal := ex (I.x c) (I.a (at_ c (hi e))) (I.b (at_ c (hi e))) (lo e) t d
/-- The weights of the experts. -/
def we (g : Fin 8 → EReal) (A B e : Fin 8) : EReal := (if e = A then w1 (g A) (g B) else 0) + if e = B then w2 (g A) (g B) else 0

/-- A sum over the experts, the pair of one device apart. -/
theorem sum_pairs (f : Fin 8 → EReal) (n : Fin 4) :
    f (ev n) + f (od n) + ∑ j : Fin 4, (if j = n then (0 : EReal) else f (ev j) + f (od j)) = ∑ e, f e := by
  have h1 : ∑ e, f e = ∑ j : Fin 4, (f (ev j) + f (od j)) := by
    rw [Fin.sum_univ_eight, Fin.sum_univ_four]
    show _ = f 0 + f 1 + (f 2 + f 3) + (f 4 + f 5) + (f 6 + f 7)
    abel
  rw [h1, ← Finset.add_sum_erase _ _ (Finset.mem_univ n), ← Finset.add_sum_erase _ (fun j => f (ev j) + f (od j)) (Finset.mem_univ n), if_pos rfl, zero_add]
  exact congrArg _ (Finset.sum_congr rfl fun j hj => if_neg (Finset.ne_of_mem_erase hj))

/-- The weighted sum over the experts, device by device, is the two experts weighted. -/
theorem sum_experts (g y : Fin 8 → EReal) {A B : Fin 8} (hne : B ≠ A) (n : Fin 4) :
    we g A B (ev n) * y (ev n) + we g A B (od n) * y (od n)
      + ∑ j : Fin 4, (if j = n then (0 : EReal) else we g A B (ev j) * y (ev j) + we g A B (od j) * y (od j)) = mix g y A B := by
  have h : ∀ e, we g A B e * y e = (if e = A then w1 (g A) (g B) * y A else 0) + if e = B then w2 (g A) (g B) * y B else 0 := fun e => by
    unfold we
    by_cases hA : e = A
    · subst hA
      rw [if_pos rfl, if_pos rfl, if_neg (Ne.symm hne), if_neg (Ne.symm hne), add_zero, add_zero]
    · rw [if_neg hA, if_neg hA, zero_add, zero_add]
      by_cases hB : e = B
      · subst hB
        rw [if_pos rfl, if_pos rfl]
      · rw [if_neg hB, if_neg hB, zero_mul]
  have key : ∑ e : Fin 8, we g A B e * y e = mix g y A B := by
    simp only [h, Finset.sum_add_distrib, Finset.sum_ite_eq', Finset.mem_univ, if_true]
    rfl
  rw [← key]
  exact sum_pairs (fun e => we g A B e * y e) n

/-- A buffer of four slots at an index. -/
theorem stack_read {α : Type} {a b : ℕ} (g : Fin 4 → (Su a b).Idx → α) (j : Fin 4) (p : Fin a) (q : Fin b) :
    stack g (ix3 j p q) = g j (ix3 0 p q) := by
  unfold stack
  refine congrArg (g j) ?_
  funext k
  match k with
  | ⟨0, _⟩ => rfl
  | ⟨1, _⟩ => rfl
  | ⟨2, _⟩ => rfl

theorem rA_read (j : Fin 4) (i : Fin 2) (k : Fin 512) : rA I c (ix3 j i k) = I.r (at_ c j) (ix2 k i) := by
  refine (stack_read (rG I c) j i k).trans ?_
  unfold rG
  pointwise [k0_pay4]

theorem gate_read (t : Fin 128) (e : Fin 8) : k0_pay12 (rA I c) (I.x c) (ix2 t e) = gk I c t e := by
  pointwise [k0_pay12]
  exact Finset.sum_congr rfl fun k _ => congrArg _ (rA_read I c _ _ k)

theorem a0_read (s : Fin 1) (k : Fin 512) (f : Fin 1024) : a0 I c (ix3 s k f) = I.a c (ix3 0 k f) := by
  refine congrArg (I.a c) ?_
  funext i
  match i with
  | ⟨0, _⟩ => exact Fin.ext (by show 0 + 1 * s.val = 0; omega)
  | ⟨1, _⟩ => exact Fin.ext (by show 0 + 1 * k.val = k.val; omega)
  | ⟨2, _⟩ => exact Fin.ext (by show 0 + 1 * f.val = f.val; omega)
theorem a1_read (s : Fin 1) (k : Fin 512) (f : Fin 1024) : a1 I c (ix3 s k f) = I.a c (ix3 1 k f) := by
  refine congrArg (I.a c) ?_
  funext i
  match i with
  | ⟨0, _⟩ => exact Fin.ext (by show 1 + 1 * s.val = 1; omega)
  | ⟨1, _⟩ => exact Fin.ext (by show 0 + 1 * k.val = k.val; omega)
  | ⟨2, _⟩ => exact Fin.ext (by show 0 + 1 * f.val = f.val; omega)
theorem b0_read (s : Fin 1) (f : Fin 1024) (d : Fin 512) : b0 I c (ix3 s f d) = I.b c (ix3 0 f d) := by
  refine congrArg (I.b c) ?_
  funext i
  match i with
  | ⟨0, _⟩ => exact Fin.ext (by show 0 + 1 * s.val = 0; omega)
  | ⟨1, _⟩ => exact Fin.ext (by show 0 + 1 * f.val = f.val; omega)
  | ⟨2, _⟩ => exact Fin.ext (by show 0 + 1 * d.val = d.val; omega)
theorem b1_read (s : Fin 1) (f : Fin 1024) (d : Fin 512) : b1 I c (ix3 s f d) = I.b c (ix3 1 f d) := by
  refine congrArg (I.b c) ?_
  funext i
  match i with
  | ⟨0, _⟩ => exact Fin.ext (by show 1 + 1 * s.val = 1; omega)
  | ⟨1, _⟩ => exact Fin.ext (by show 0 + 1 * f.val = f.val; omega)
  | ⟨2, _⟩ => exact Fin.ext (by show 0 + 1 * d.val = d.val; omega)

section Experts
variable (x : Vec Ideal S128x512 .f32) (t : Fin 128) (d : Fin 512)
theorem own0_read : k0_pay9 (k0_pay2 x) (a0 I c) (b0 I c) (ix2 t d) = ex x (I.a c) (I.b c) 0 t d := by
  pointwise [k0_pay9, k0_pay5, k0_pay7, k0_pay2, ex]
  simp only [a0_read, b0_read]
theorem own1_read : k0_pay11 (k0_pay8 (b1 I c)) (k0_pay10 (k0_pay2 x) (a1 I c)) (0 : EReal) (ix2 t d) = ex x (I.a c) (I.b c) 1 t d := by
  pointwise [k0_pay11, k0_pay8, k0_pay10, k0_pay6, k0_pay2, ex]
  simp only [a1_read, b1_read]
theorem sent0_read : k0_pay24 (k0_pay5 (a0 I c)) (k0_pay7 (b0 I c)) (k0_pay3 x) (ix2 t d) = ex x (I.a c) (I.b c) 0 t d := by
  pointwise [k0_pay24, k0_pay5, k0_pay7, k0_pay23, k0_pay3, k0_pay2, ex]
  simp only [a0_read, b0_read]
theorem sent1_read : k0_pay25 (k0_pay6 (a1 I c)) (k0_pay8 (b1 I c)) (k0_pay3 x) (ix2 t d) = ex x (I.a c) (I.b c) 1 t d := by
  pointwise [k0_pay25, k0_pay6, k0_pay8, k0_pay23, k0_pay3, k0_pay2, ex]
  simp only [a1_read, b1_read]
theorem yk_ev (j : Fin 4) : yk I c t d (ev j) = ex (I.x c) (I.a (at_ c j)) (I.b (at_ c j)) 0 t d := by unfold yk; rw [hi_ev, lo_ev]
theorem yk_od (j : Fin 4) : yk I c t d (od j) = ex (I.x c) (I.a (at_ c j)) (I.b (at_ c j)) 1 t d := by unfold yk; rw [hi_od, lo_od]
end Experts

section Top
variable {t : Fin 128} {A B : Fin 8} (T : Top2 (gk I c t) A B) (hB : gk I c t B ≠ ⊥)
include T

theorem max1_read : k0_pay13 (rA I c) (I.x c) (ix2 t 0) = gk I c t A := by
  pointwise [k0_pay13]
  simp only [ofBits_least, gate_read]
  exact T.max1

theorem min1_read : k0_pay14 (rA I c) (I.x c) (ix2 t 0) = BitVec.ofNat 32 A.val := by
  pointwise [k0_pay14]
  simp only [gate_read, max1_read I c T]
  exact T.min1 rfl

theorem masked_read (e : Fin 8) : k0_pay15 (rA I c) (I.x c) (ix2 t e) = if e = A then ⊥ else gk I c t e := by
  pointwise [k0_pay15]
  simp only [gate_read, min1_read I c T, select_word]
  rfl

theorem max2_read : k0_pay16 (rA I c) (I.x c) (ix2 t 0) = gk I c t B := by
  pointwise [k0_pay16]
  simp only [ofBits_least, masked_read I c T]
  exact T.max2

include hB

theorem min2_read : Finset.univ.fold IntOp.minsi 2147483647#32
    (fun e : Fin 8 => if k0_pay15 (rA I c) (I.x c) (ix2 t e) = k0_pay16 (rA I c) (I.x c) (ix2 t 0) then BitVec.ofNat 32 e.val else 8#32) = BitVec.ofNat 32 B.val := by
  simp only [masked_read I c T, max2_read I c T]
  exact T.min2 rfl hB

theorem weight_read (e : Fin 8) :
    k0_pay20 (k0_pay18 (rA I c) (I.x c)) (k0_pay19 (rA I c) (I.x c)) (ix2 t e) = we (gk I c t) A B e := by
  pointwise [k0_pay18, k0_pay19, k0_pay20, k0_pay17]
  rw [min2_read I c T hB, min1_read I c T, max1_read I c T, max2_read I c T, select_word, select_word]
  rfl

theorem weightT_read (s : Fin 1) (e : Fin 8) :
    k0_pay21 (k0_pay18 (rA I c) (I.x c)) (k0_pay19 (rA I c) (I.x c)) (ix3 s e t) = we (gk I c t) A B e := by
  rw [← weight_read I c T hB e]
  pointwise [k0_pay21]

/-- The sum of a token of `c` over its own two experts. -/
theorem own_read (d : Fin 512) : own I c (ix2 t d)
    = we (gk I c t) A B (ev (z c)) * yk I c t d (ev (z c)) + we (gk I c t) A B (od (z c)) * yk I c t d (od (z c)) := by
  unfold own
  pointwise [k0_pay22]
  rw [od_word, ev_word]
  simp only [select_word, weight_read I c T hB, own0_read, own1_read, yk_ev, yk_od, at_z, Finset.sum_ite_eq', Finset.mem_univ, if_true]

/-- The sum of a token of `c` over the two experts of the device at place `j`. -/
theorem sent_read (j : Fin 4) (s : Fin 1) (d : Fin 512) : uG I (at_ c j) (z c) (ix3 s t d)
    = we (gk I c t) A B (ev j) * yk I c t d (ev j) + we (gk I c t) A B (od j) * yk I c t d (od j) := by
  unfold uG
  rw [wG_at, od_word, ev_word, z_at]
  have h : wG I c (z c) = k0_pay21 (k0_pay18 (rA I c) (I.x c)) (k0_pay19 (rA I c) (I.x c)) := by unfold wG; rw [at_z]
  have h' : xG I (at_ c j) (z c) = k0_pay3 (I.x c) := by unfold xG; rw [at_at, at_z]
  rw [h, h']
  pointwise [k0_pay27, k0_pay26]
  simp only [select_word, weightT_read I c T hB, sent0_read, sent1_read, yk_ev, yk_od, Finset.sum_ite_eq', Finset.mem_univ, if_true]

/-- The result of device `c` at a token and a column. -/
theorem out_read (d : Fin 512) : out I c (ix2 t d) = mix (gk I c t) (yk I c t d) A B := by
  have hv : ∀ j : Fin 4, vA I c (ix3 j t d) = if j = z c then (0 : EReal)
      else we (gk I c t) A B (ev j) * yk I c t d (ev j) + we (gk I c t) A B (od j) * yk I c t d (od j) := fun j => by
    refine (stack_read (vG I c) j t d).trans ?_
    unfold vG
    by_cases h : j = z c
    · rw [if_pos h, if_pos h]
      pointwise [k0_pay1]
    · rw [if_neg h, if_neg h]
      exact sent_read I c T hB j 0 d
  unfold out
  pointwise [k0_pay40]
  simp only [hv, own_read I c T hB]
  exact sum_experts (gk I c t) (yk I c t d) T.ne (z c)

end Top

end Cert.KernelAt
-- ==== Proof.Value.Reference.lean ====
module

public import proofs.«01_k».proof.Proof.Gen.ReferenceIdeal.Run
public import proofs.«01_k».proof.Proof.Value.Top2

/-! # The reference at an index

What the reference's result is at a token and a column: the two experts with the greatest gates, weighted. -/

@[expose] public section

noncomputable section

namespace Cert.Reference

open Cert.ReferenceIdeal Cert.ReferenceIdeal.Gen Cert.ReferenceIdeal.Value Cert.Moe
open Idealize.ShloMosaic Idealize.ShloMosaic.Pointwise Idealize.ShloMosaic.TcCoe Idealize.SL.Sem

/-- The gate of expert `e` for token `t`. -/
def gate (X : FVec Ideal S512x512 .f32) (R : FVec Ideal S512x8 .f32) (t : Fin 512) (e : Fin 8) : EReal :=
  ∑ k : Fin 512, X (ix2 t k) * R (ix2 k e)

/-- What expert `e` makes of token `t`, at column `d`. -/
def expert (X : FVec Ideal S512x512 .f32) (U : FVec Ideal S8x512x1024 .f32) (W : FVec Ideal S8x1024x512 .f32) (t d : Fin 512) (e : Fin 8) : EReal :=
  ∑ f : Fin 1024, max (∑ k : Fin 512, X (ix2 t k) * U (ix3 e k f)) 0 * W (ix3 e f d)

/-- A stable sort of the rows of `G` carrying `Y`, read at an index. -/
theorem sort_read {β : Type} (G : FVec Ideal S512x8 .f32) (Y : S512x8.Idx → β) (t : Fin 512) (j : Fin 8) :
    (Host.sort2 S512x8 1 (fun l r => FloatOps.cmpfTotal (F := Ideal) (φ := .f32) .gt l.1 r.1) G Y).1 (ix2 t j)
        = G (ix2 t (sortedFrom (fun k k' : Fin 8 => FloatOps.cmpfTotal (F := Ideal) (φ := .f32) .gt (G (ix2 t k)) (G (ix2 t k')) == 1#1) j))
    ∧ (Host.sort2 S512x8 1 (fun l r => FloatOps.cmpfTotal (F := Ideal) (φ := .f32) .gt l.1 r.1) G Y).2 (ix2 t j)
        = Y (ix2 t (sortedFrom (fun k k' : Fin 8 => FloatOps.cmpfTotal (F := Ideal) (φ := .f32) .gt (G (ix2 t k)) (G (ix2 t k')) == 1#1) j)) := by
  have al : ∀ (h : 1 < 2) (k k' : Fin 8), Shape.Idx.along (s := S512x8) (ix2 t k') ⟨1, h⟩ k = ix2 t k := fun _ k k' => by
    funext a; match a with | ⟨0, _⟩ => rfl | ⟨1, _⟩ => rfl
  unfold Host.sort2
  simp only [show (1 : Nat) < S512x8.rank from by decide, dif_pos]
  have h12 : 1 < 2 := by decide
  have hf : (fun k k' : Fin 8 => FloatOps.cmpfTotal (F := Ideal) (φ := .f32) .gt (G (Shape.Idx.along (s := S512x8) (ix2 t j) ⟨1, h12⟩ k))
      (G (Shape.Idx.along (s := S512x8) (ix2 t j) ⟨1, h12⟩ k')) == 1#1)
      = fun k k' : Fin 8 => FloatOps.cmpfTotal (F := Ideal) (φ := .f32) .gt (G (ix2 t k)) (G (ix2 t k')) == 1#1 :=
    funext fun k => funext fun k' => congrArg₂ (fun a b => FloatOps.cmpfTotal (F := Ideal) (φ := .f32) .gt (G a) (G b) == 1#1) (al _ k j) (al _ k' j)
  exact ⟨(congrArg G (al _ _ j)).trans (congrArg (fun f => G (ix2 t (sortedFrom f j))) hf),
    (congrArg Y (al _ _ j)).trans (congrArg (fun f => Y (ix2 t (sortedFrom f j))) hf)⟩

/-- The program's first two of each row of `G`, read at a row whose two greatest are `A` and `B`. -/
theorem top_read (G : FVec Ideal S512x8 .f32) (h : S512x8.Slices (fun _ => 0) S512x2) (t : Fin 512) {A B : Fin 8} (T : Top2 (fun e => G (ix2 t e)) A B) :
    ((Host.topK S512x2 1 (FloatOps.cmpfTotal .gt) G h).1 (ix2 t 0) = G (ix2 t A) ∧ (Host.topK S512x2 1 (FloatOps.cmpfTotal .gt) G h).1 (ix2 t 1) = G (ix2 t B))
    ∧ (Host.topK S512x2 1 (FloatOps.cmpfTotal .gt) G h).2 (ix2 t 0) = BitVec.ofNat 32 A.val ∧ (Host.topK S512x2 1 (FloatOps.cmpfTotal .gt) G h).2 (ix2 t 1) = BitVec.ofNat 32 B.val := by
  have key := T.sorted (fun k k' => FloatOps.cmpfTotal (F := Ideal) (φ := .f32) .gt (G (ix2 t k)) (G (ix2 t k')) == 1#1) fun k k' => by
    show (Ideal.cmp CmpDirection.gt.ordered _ _ == 1#1) = _
    unfold Ideal.cmp
    by_cases h : G (ix2 t k') < G (ix2 t k) <;> simp [CmpDirection.ordered, h]
  pointwise [Host.topK]
  exact ⟨⟨(sort_read G _ t 0).1.trans (congrArg (fun e => G (ix2 t e)) key.1), (sort_read G _ t 1).1.trans (congrArg (fun e => G (ix2 t e)) key.2)⟩,
    (sort_read G _ t 0).2.trans (congrArg (fun e : Fin 8 => BitVec.ofNat 32 e.val) key.1), (sort_read G _ t 1).2.trans (congrArg (fun e : Fin 8 => BitVec.ofNat 32 e.val) key.2)⟩

/-- The reference's result at token `t` and column `d`, its two experts with finite gates. -/
theorem res_read (m : (ℓ : Loc nD τ sig) → Buf (Elt Ideal) ℓ) (c : Dev nD) (t d : Fin 512) {A B : Fin 8}
    (T : Top2 (gate (m ((c.tc : Thread nD τ).loc main_arg0)) (m ((c.tc : Thread nD τ).loc main_arg1)) t) A B)
    {p q : ℝ} (hp : gate (m ((c.tc : Thread nD τ).loc main_arg0)) (m ((c.tc : Thread nD τ).loc main_arg1)) t A = p)
    (hq : gate (m ((c.tc : Thread nD τ).loc main_arg0)) (m ((c.tc : Thread nD τ).loc main_arg1)) t B = q) :
    (show EReal from res_main_v47 m c (ix2 t d)) = mix (gate (m ((c.tc : Thread nD τ).loc main_arg0)) (m ((c.tc : Thread nD τ).loc main_arg1)) t)
      (expert (m ((c.tc : Thread nD τ).loc main_arg0)) (m ((c.tc : Thread nD τ).loc main_arg2)) (m ((c.tc : Thread nD τ).loc main_arg3)) t d) A B := by
  have hG : ∀ e, Ideal.matmul dot_S512x512_S512x8_S512x8_1_0_0_1_n_n (m (c.tc.loc main_arg0)) (m (c.tc.loc main_arg1)) (fun _ => 0) (ix2 t e)
      = gate (m ((c.tc : Thread nD τ).loc main_arg0)) (m ((c.tc : Thread nD τ).loc main_arg1)) t e := by
    intro e
    pointwise [gate]
  show res_main_v47 m c (ix2 t d) = _
  pointwise [res_main_v47]
  obtain ⟨⟨h1, h2⟩, h3, h4⟩ := top_read (Ideal.matmul dot_S512x512_S512x8_S512x8_1_0_0_1_n_n (m (c.tc.loc main_arg0)) (m (c.tc.loc main_arg1)) (fun _ => 0))
    Facts₀.sliceFits_S512x8_S512x2 t (A := A) (B := B) (by simp only [hG]; exact T)
  rw [hG, hp] at h1
  rw [hG, hq] at h2
  have hqp : (q : EReal) ≤ p := by rw [← hp, ← hq]; exact T.le B
  have hm := fold_two (fun x => (Host.topK S512x2 1 (FloatOps.cmpfTotal (F := Ideal) (φ := .f32) .gt) (Ideal.matmul dot_S512x512_S512x8_S512x8_1_0_0_1_n_n (m (c.tc.loc main_arg0)) (m (c.tc.loc main_arg1)) (fun _ => 0)) Facts₀.sliceFits_S512x8_S512x2).1 (ix2 t x))
    (by show _ ≤ _; rw [h1, h2]; exact hqp)
  have hz : id (constant (F := Ideal) S_ FTy.f32 0#32) ix0 = (0 : EReal) := Ideal.ofBits_zero_f32
  simp only [ofBits_least, hm, h3, h4, h1, h2, select_word, Fin.sum_univ_two, soft1, soft2, hz, Finset.sum_ite_eq, Finset.mem_univ, if_true]
  unfold mix expert
  rw [hp, hq]
  exact congrArg₂ (· + ·) (mul_comm _ _) (mul_comm _ _)

end Cert.Reference
-- ==== Proof.Value.Claim.lean ====
module

public import proofs.«01_k».proof.Defs
public import proofs.«01_k».proof.Proof.Value.Kernel
public import proofs.«01_k».proof.Proof.Value.Reference
public import proofs.«01_k».proof.Proof.KernelIdealRun.Run
public import proofs.«01_k».proof.Proof.Gen.Pre_finite_gates_KernelIdeal
public import Idealize.ShloMosaic.Lib.LayoutAt

/-! # The kernel is the reference

Each device's result is its block of the reference's, where the tokens and the router are finite numbers. -/

@[expose] public section

noncomputable section

namespace Cert.Proof

open Cert.KernelIdeal Cert.KernelIdeal.Gen Cert.KernelIdealRun Cert.KernelAt Cert.Moe Cert.Reference
open Idealize.ShloMosaic Idealize.ShloMosaic.Pointwise Idealize.SL.Sem

/-- A number whose size is below plus infinity is real. -/
theorem real_of (v : EReal) (h : Ideal.cmp .olt (max v (-v)) (Ideal.ofBits .f32 0x7F800000#32) = 1#1) : ∃ p : ℝ, v = p := by
  have ht : Ideal.ofBits .f32 0x7F800000#32 = ⊤ := by simp [Ideal.ofBits, Ideal.ieee]
  rw [ht] at h
  induction v using EReal.rec with
  | bot => simp [Ideal.cmp] at h
  | top => simp [Ideal.cmp] at h
  | coe p => exact ⟨p, rfl⟩

/-- A sum of products of reals is real. -/
theorem real_sum {n : ℕ} (f g : Fin n → EReal) (hf : ∀ k, ∃ p : ℝ, f k = p) (hg : ∀ k, ∃ p : ℝ, g k = p) :
    ∃ p : ℝ, ∑ k, f k * g k = p := by
  choose p hp using hf
  choose q hq using hg
  have cast (s : Finset (Fin n)) : ((∑ k ∈ s, p k * q k : ℝ) : EReal) = ∑ k ∈ s, f k * g k := by
    induction s using Finset.cons_induction with
    | empty => simp
    | cons a s ha ih => rw [Finset.sum_cons, Finset.sum_cons, EReal.coe_add, EReal.coe_mul, ih, hp, hq]
  exact ⟨_, (cast Finset.univ).symm⟩

section
variable (m : (ℓ : Loc nD τ sig) → Buf (Elt Ideal) ℓ) (hm : Cert.Pre_KernelIdeal_finite_gates_KernelIdeal m)
include hm

/-- A token's numbers are real. -/
theorem real_x (c : Dev nD) (t : Fin 128) (k : Fin 512) : ∃ p : ℝ, ((insOf m).x c (ix2 t k) : EReal) = p := by
  have h := congrFun (hm c).1 (ix2 t k)
  pointwise [Cert.Pre_finite_gates_KernelIdeal.fn, Host.absf] at h
  exact real_of _ h

/-- The router's numbers are real. -/
theorem real_r (c : Dev nD) (k : Fin 512) (i : Fin 2) : ∃ p : ℝ, ((insOf m).r c (ix2 k i) : EReal) = p := by
  have h := congrFun (hm c).2 (ix2 k i)
  pointwise [Cert.Pre_finite_gates_KernelIdeal.fn, Host.absf] at h
  exact real_of _ h

/-- The gates are real. -/
theorem real_gate (c : Dev nD) (t : Fin 128) (e : Fin 8) : ∃ p : ℝ, gk (insOf m) c t e = p :=
  real_sum _ _ (fun k => real_x m hm c t k) (fun k => real_r m hm _ k _)
end

/-- The row of the whole array that is row `t` of device `c`. -/
def row (c : Dev nD) (t : Fin 128) : Fin 512 := ⟨(z c).val * 128 + t.val, by omega⟩

/-- A device's place in the cut along the last axis of the mesh, and along none. -/
theorem lin_z (n : ℕ) : Layout.meshLin [2, 2, 4] n [2] = n % 4 := by
  show n / 1 % 4 * 1 + 0 = n % 4
  omega
theorem lin_none (n : ℕ) : Layout.meshLin [2, 2, 4] n [] = 0 := rfl

/-- A device's block of a matrix cut into four along its rows. -/
theorem block_rows {α : Type} (c : Dev nD) (h) (X : (⟨2, ![512, 512]⟩ : Shape).Idx → α) (t : Fin 128) (k : Fin 512) :
    Layout.blockN ⟨2, ![128, 512]⟩ ⟨2, ![512, 512]⟩ (Layout.meshBlock [2, 2, 4] ![[2], []] c) X h (ix2 t k) = X (ix2 (row c t) k) := by
  refine congrArg X ?_
  funext a
  match a with
  | ⟨0, _⟩ =>
    refine Fin.ext ?_
    show Layout.meshLin [2, 2, 4] c.val [2] * 128 + t.val = c.val % 4 * 128 + t.val
    rw [lin_z]
  | ⟨1, _⟩ =>
    refine Fin.ext ?_
    show Layout.meshLin [2, 2, 4] c.val [] * 512 + k.val = k.val
    rw [lin_none]; omega

/-- The router's columns that the device of expert `e` has. -/
theorem block_cols {α : Type} (c : Dev nD) (h) (R : (⟨2, ![512, 8]⟩ : Shape).Idx → α) (k : Fin 512) (e : Fin 8) :
    Layout.blockN ⟨2, ![512, 2]⟩ ⟨2, ![512, 8]⟩ (Layout.meshBlock [2, 2, 4] ![[], [2]] (at_ c (hi e))) R h (ix2 k (lo e)) = R (ix2 k e) := by
  refine congrArg R ?_
  funext a
  match a with
  | ⟨0, _⟩ =>
    refine Fin.ext ?_
    show Layout.meshLin [2, 2, 4] (at_ c (hi e)).val [] * 512 + k.val = k.val
    rw [lin_none]; omega
  | ⟨1, _⟩ =>
    refine Fin.ext ?_
    show Layout.meshLin [2, 2, 4] (c.val / 4 * 4 + e.val / 2) [2] * 2 + e.val % 2 = e.val
    rw [lin_z]; omega

/-- The experts' matrices that the device of expert `e` has. -/
theorem block_pair {α : Type} {p q : ℕ} (c : Dev nD) (h) (W : (⟨3, ![8, p, q]⟩ : Shape).Idx → α) (i : Fin p) (j : Fin q) (e : Fin 8) :
    Layout.blockN ⟨3, ![2, p, q]⟩ ⟨3, ![8, p, q]⟩ (Layout.meshBlock [2, 2, 4] ![[2], [], []] (at_ c (hi e))) W h (ix3 (lo e) i j) = W (ix3 e i j) := by
  refine congrArg W ?_
  funext a
  match a with
  | ⟨0, _⟩ =>
    refine Fin.ext ?_
    show Layout.meshLin [2, 2, 4] (c.val / 4 * 4 + e.val / 2) [2] * 2 + e.val % 2 = e.val
    rw [lin_z]; omega
  | ⟨1, _⟩ =>
    refine Fin.ext ?_
    show Layout.meshLin [2, 2, 4] (at_ c (hi e)).val [] * p + i.val = i.val
    rw [lin_none, Nat.zero_mul, Nat.zero_add]
  | ⟨2, _⟩ =>
    refine Fin.ext ?_
    show Layout.meshLin [2, 2, 4] (at_ c (hi e)).val [] * q + j.val = j.val
    rw [lin_none, Nat.zero_mul, Nat.zero_add]

section
variable (I : Ins Ideal) (X : FVec Ideal Cert.ReferenceIdeal.S512x512 .f32) (R : FVec Ideal Cert.ReferenceIdeal.S512x8 .f32)
  (U : FVec Ideal Cert.ReferenceIdeal.S8x512x1024 .f32) (W : FVec Ideal Cert.ReferenceIdeal.S8x1024x512 .f32)
  (hx : ∀ c : Dev nD, I.x c = Layout.blockN ⟨2, ![128, 512]⟩ ⟨2, ![512, 512]⟩ (Layout.meshBlock [2, 2, 4] ![[2], []] c) X)

include hx in
/-- The gates of a token are the reference's. -/
theorem gates_eq (hr : ∀ c : Dev nD, I.r c = Layout.blockN ⟨2, ![512, 2]⟩ ⟨2, ![512, 8]⟩ (Layout.meshBlock [2, 2, 4] ![[], [2]] c) R)
    (c : Dev nD) (t : Fin 128) : gk I c t = gate X R (row c t) := by
  funext e
  refine Finset.sum_congr rfl fun k _ => ?_
  rw [hx c, hr (at_ c (hi e)), block_rows, block_cols]

include hx in
/-- What the experts make of a token is the reference's. -/
theorem experts_eq (ha : ∀ c : Dev nD, I.a c = Layout.blockN ⟨3, ![2, 512, 1024]⟩ ⟨3, ![8, 512, 1024]⟩ (Layout.meshBlock [2, 2, 4] ![[2], [], []] c) U)
    (hb : ∀ c : Dev nD, I.b c = Layout.blockN ⟨3, ![2, 1024, 512]⟩ ⟨3, ![8, 1024, 512]⟩ (Layout.meshBlock [2, 2, 4] ![[2], [], []] c) W)
    (c : Dev nD) (t : Fin 128) (d : Fin 512) : yk I c t d = expert X U W (row c t) d := by
  funext e
  unfold yk ex expert
  refine Finset.sum_congr rfl fun f _ => ?_
  have hs : (∑ k : Fin 512, (I.x c (ix2 t k) : EReal) * (I.a (at_ c (hi e)) (ix3 (lo e) k f) : EReal))
      = ∑ k : Fin 512, (X (ix2 (row c t) k) : EReal) * (U (ix3 e k f) : EReal) :=
    Finset.sum_congr rfl fun k _ => by rw [hx c, ha (at_ c (hi e)), block_rows, block_pair]
  rw [hs, hb (at_ c (hi e)), block_pair]
end

/-- On finite tokens and routers every device's result is its block of the reference's. -/
theorem algebraic : Cert.algebraic_KernelIdeal_ReferenceIdeal_pre_finite_gates_KernelIdeal := by
  intro m g m' g' hm hargs
  refine ⟨Cert.ReferenceIdeal.Value.res_main_v47 m' 0, ?_, ?_⟩
  · refine (θ_run Cert.KernelIdeal.defs _ _).mono (fun r h c => ⟨(h.1 c).1.trans ?_, (h.1 c).2⟩) (Cert.KernelIdealRun.run (F := Ideal) m g)
    funext i
    obtain ⟨t, d, rfl⟩ : ∃ (t : Fin 128) (d : Fin 512), i = ix2 t d := ⟨i 0, i 1, by
      funext a
      match a with
      | ⟨0, _⟩ => rfl
      | ⟨1, _⟩ => rfl⟩
    obtain ⟨A, B, T⟩ := exists_top2 (gk (insOf m) c t)
    have hx := fun c => (hargs c).1
    have hG := gates_eq (insOf m) _ _ hx (fun c => (hargs c).2.1) c t
    have hY := experts_eq (insOf m) _ _ _ hx (fun c => (hargs c).2.2.1) (fun c => (hargs c).2.2.2) c t d
    obtain ⟨p, hp⟩ := real_gate m hm c t A
    obtain ⟨q, hq⟩ := real_gate m hm c t B
    refine (out_read (insOf m) c T (by rw [hq]; exact EReal.coe_ne_bot q) d).trans ?_
    refine Eq.trans ?_ (block_rows c _ _ t d).symm
    rw [hG] at T hp hq ⊢
    rw [hY]
    exact (res_read m' 0 (row c t) d T hp hq).symm
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Frames
public import proofs.«01_k».proof.Proof.Value.Claim
public import proofs.«01_k».proof.Proof.Gen.Pre_finite_gates_KernelIdeal
public import proofs.«01_k».proof.Proof.Gen.Pre_finite_gates_ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The mask the kernel names is minus infinity. -/
theorem preserves : Cert.preserves_Kernel_KernelIdeal :=
  IdealRules.named_const.statement Cert.KernelIdeal.κ "mask" .f32 0xF149F2CA#32 ⊥ rfl

/-- All claims. -/
theorem claim : Cert.Claim := ⟨Cert.Kernel.Gen.facts, Cert.KernelIdeal.Gen.facts, Cert.ReferenceIdeal.Gen.facts,
  Cert.Pre_finite_gates_KernelIdeal.Gen.facts, Cert.Pre_finite_gates_ReferenceIdeal.Gen.facts,
  frame_p, frame_pi, fun m g _ => frame_pi m g trivial, frame_ri, fun m g _ => frame_ri m g trivial, preserves, algebraic⟩

end Cert.Proof

end
